-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_and_gains [hPre_scales_and_gains : Cert.Pre_scales_and_gains.Facts] (m : (ℓ : Loc Cert.KernelIdeal.nD Cert.KernelIdeal.τ Cert.KernelIdeal.sig) → Buf (Elt Ideal) ℓ) : Prop :=
  ∀ c : Dev Cert.KernelIdeal.nD,
    (Cert.Pre_scales_and_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_scales_and_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_scales_and_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_scales_and_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_scales_and_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_scales_and_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_and_gains [hPre_scales_and_gains : Cert.Pre_scales_and_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_and_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_scales_and_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_scales_and_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_scales_and_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_scales_and_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_scales_and_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_scales_and_gains [hKernelIdeal : Cert.KernelIdeal.Facts] [hPre_scales_and_gains : Cert.Pre_scales_and_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_and_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_scales_and_gains [hReferenceIdeal : Cert.ReferenceIdeal.Facts] [hPre_scales_and_gains : Cert.Pre_scales_and_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_and_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_scales_and_gains [hKernelIdeal : Cert.KernelIdeal.Facts] [hReferenceIdeal : Cert.ReferenceIdeal.Facts] [hPre_scales_and_gains : Cert.Pre_scales_and_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_and_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_scales_and_gains : Cert.Pre_scales_and_gains.Facts),
    quiescent_Kernel (hKernel := hKernel)
    ∧ quiescent_KernelIdeal (hKernelIdeal := hKernelIdeal)
    ∧ quiescent_KernelIdeal_pre_scales_and_gains (hKernelIdeal := hKernelIdeal) (hPre_scales_and_gains := hPre_scales_and_gains)
    ∧ quiescent_ReferenceIdeal (hReferenceIdeal := hReferenceIdeal)
    ∧ quiescent_ReferenceIdeal_pre_scales_and_gains (hReferenceIdeal := hReferenceIdeal) (hPre_scales_and_gains := hPre_scales_and_gains)
    ∧ preserves_Kernel_KernelIdeal
    ∧ algebraic_KernelIdeal_ReferenceIdeal_pre_scales_and_gains (hKernelIdeal := hKernelIdeal) (hReferenceIdeal := hReferenceIdeal) (hPre_scales_and_gains := hPre_scales_and_gains)
-- ==== Pre_scales_and_gains.lean ====
abbrev S1x1280x96x128 : Shape := ⟨4, ![1, 1280, 96, 128]⟩
abbrev S1x1280x96 : Shape := ⟨3, ![1, 1280, 96]⟩
abbrev S1x1280x8x128 : Shape := ⟨4, ![1, 1280, 8, 128]⟩
abbrev S1x1280x8 : Shape := ⟨3, ![1, 1280, 8]⟩
abbrev S128 : Shape := ⟨1, ![128]⟩
abbrev S1x1280 : Shape := ⟨2, ![1, 1280]⟩
abbrev S_ : Shape := ⟨0, ![]⟩

class Facts : Prop where
  bcast_S_S1x1280x96 : S_.BroadcastsInDim S1x1280x96 (![] : Fin 0 → Fin S1x1280x96.rank)
  bcast_S_S1x1280x8 : S_.BroadcastsInDim S1x1280x8 (![] : Fin 0 → Fin S1x1280x8.rank)
  bcast_S_S128 : S_.BroadcastsInDim S128 (![] : Fin 0 → Fin S128.rank)

variable [Facts]

def fn_part1 {F : FTy → Type} [FloatOps F] (main_arg8 : FVec F S128 .f32) (main_arg9 : FVec F S128 .f32) (main_v4 : IVec S1x1280x96 1) (main_v9 : IVec S1x1280x8 1) (main_v11 : IVec S1x1280x96 1) (main_v13 : IVec S1x1280x8 1) (main_v15 : IVec S128 1) (main_cst_6 : FVec F S_ .f32) : IVec S1x1280x96 1 × IVec S1x1280x8 1 × IVec S1x1280x96 1 × IVec S1x1280x8 1 × IVec S128 1 × IVec S128 1 :=
  let main_v16 : FVec F S128 .f32 := broadcastInDim S128 ![] bcast_S_S128 main_cst_6
  let main_v17 : IVec S128 1 := cmpf .olt main_arg8 main_v16
  let main_v18 : IVec S128 1 := andi main_v15 main_v17
  let main_cst_7 : FVec F S_ .f32 := constant S_ .f32 0x00000000#32
  let main_v19 : FVec F S128 .f32 := broadcastInDim S128 ![] bcast_S_S128 main_cst_7
  let main_v20 : IVec S128 1 := cmpf .ogt main_arg9 main_v19
  let main_cst_8 : FVec F S_ .f32 := constant S_ .f32 0x7F800000#32
  let main_v21 : FVec F S128 .f32 := broadcastInDim S128 ![] bcast_S_S128 main_cst_8
  let main_v22 : IVec S128 1 := cmpf .olt main_arg9 main_v21
  let main_v23 : IVec S128 1 := andi main_v20 main_v22
  (main_v4, main_v9, main_v11, main_v13, main_v18, main_v23)

def fn {F : FTy → Type} [FloatOps F] (main_arg0 : FVec F S1x1280x96x128 .fp8e5m2) (main_arg1 : FVec F S1x1280x96 .f32) (main_arg2 : FVec F S1x1280x8x128 .fp8e5m2) (main_arg3 : FVec F S1x1280x8 .f32) (main_arg4 : FVec F S1x1280x96x128 .fp8e4m3) (main_arg5 : FVec F S1x1280x96 .f32) (main_arg6 : FVec F S1x1280x8x128 .fp8e4m3) (main_arg7 : FVec F S1x1280x8 .f32) (main_arg8 : FVec F S128 .f32) (main_arg9 : FVec F S128 .f32) (main_arg10 : IVec S1x1280 32) : IVec S1x1280x96 1 × IVec S1x1280x8 1 × IVec S1x1280x96 1 × IVec S1x1280x8 1 × IVec S128 1 × IVec S128 1 :=
  let main_cst : FVec F S_ .f32 := constant S_ .f32 0x00000000#32
  let main_v0 : FVec F S1x1280x96 .f32 := broadcastInDim S1x1280x96 ![] bcast_S_S1x1280x96 main_cst
  let main_v1 : IVec S1x1280x96 1 := cmpf .oge main_arg1 main_v0
  let main_cst_0 : FVec F S_ .f32 := constant S_ .f32 0x7F800000#32
  let main_v2 : FVec F S1x1280x96 .f32 := broadcastInDim S1x1280x96 ![] bcast_S_S1x1280x96 main_cst_0
  let main_v3 : IVec S1x1280x96 1 := cmpf .olt main_arg1 main_v2
  let main_v4 : IVec S1x1280x96 1 := andi main_v1 main_v3
  let main_cst_1 : FVec F S_ .f32 := constant S_ .f32 0x00000000#32
  let main_v5 : FVec F S1x1280x8 .f32 := broadcastInDim S1x1280x8 ![] bcast_S_S1x1280x8 main_cst_1
  let main_v6 : IVec S1x1280x8 1 := cmpf .oge main_arg3 main_v5
  let main_cst_2 : FVec F S_ .f32 := constant S_ .f32 0x7F800000#32
  let main_v7 : FVec F S1x1280x8 .f32 := broadcastInDim S1x1280x8 ![] bcast_S_S1x1280x8 main_cst_2
  let main_v8 : IVec S1x1280x8 1 := cmpf .olt main_arg3 main_v7
  let main_v9 : IVec S1x1280x8 1 := andi main_v6 main_v8
  let main_cst_3 : FVec F S_ .f32 := constant S_ .f32 0x00000000#32
  let main_v10 : FVec F S1x1280x96 .f32 := broadcastInDim S1x1280x96 ![] bcast_S_S1x1280x96 main_cst_3
  let main_v11 : IVec S1x1280x96 1 := cmpf .oge main_arg5 main_v10
  let main_cst_4 : FVec F S_ .f32 := constant S_ .f32 0x00000000#32
  let main_v12 : FVec F S1x1280x8 .f32 := broadcastInDim S1x1280x8 ![] bcast_S_S1x1280x8 main_cst_4
  let main_v13 : IVec S1x1280x8 1 := cmpf .oge main_arg7 main_v12
  let main_cst_5 : FVec F S_ .f32 := constant S_ .f32 0x00000000#32
  let main_v14 : FVec F S128 .f32 := broadcastInDim S128 ![] bcast_S_S128 main_cst_5
  let main_v15 : IVec S128 1 := cmpf .ogt main_arg8 main_v14
  let main_cst_6 : FVec F S_ .f32 := constant S_ .f32 0x7F800000#32
  fn_part1 (F := F) main_arg8 main_arg9 main_v4 main_v9 main_v11 main_v13 main_v15 main_cst_6
-- ==== Kernel.lean ====
abbrev S1x1280x96x128 : Shape := ⟨4, ![1, 1280, 96, 128]⟩
abbrev S1x1280x96 : Shape := ⟨3, ![1, 1280, 96]⟩
abbrev S1x1280x8x128 : Shape := ⟨4, ![1, 1280, 8, 128]⟩
abbrev S1x1280x8 : Shape := ⟨3, ![1, 1280, 8]⟩
abbrev S128 : Shape := ⟨1, ![128]⟩
abbrev S1x1280 : Shape := ⟨2, ![1, 1280]⟩
abbrev S64 : Shape := ⟨1, ![64]⟩
abbrev S64x128 : Shape := ⟨2, ![64, 128]⟩
abbrev S256x256 : Shape := ⟨2, ![256, 256]⟩
abbrev S1x128 : Shape := ⟨2, ![1, 128]⟩
abbrev S2x128 : Shape := ⟨2, ![2, 128]⟩
abbrev S2x128x1 : Shape := ⟨3, ![2, 128, 1]⟩
abbrev S2x128x128 : Shape := ⟨3, ![2, 128, 128]⟩
abbrev S1280x96x128 : Shape := ⟨3, ![1280, 96, 128]⟩
abbrev S1280x96 : Shape := ⟨2, ![1280, 96]⟩
abbrev S10240x128 : Shape := ⟨2, ![10240, 128]⟩
abbrev S1280x8 : Shape := ⟨2, ![1280, 8]⟩
abbrev S10x1x128 : Shape := ⟨3, ![10, 1, 128]⟩
abbrev S128x96x128 : Shape := ⟨3, ![128, 96, 128]⟩
abbrev S128x96 : Shape := ⟨2, ![128, 96]⟩
abbrev S1024x128 : Shape := ⟨2, ![1024, 128]⟩
abbrev S128x8 : Shape := ⟨2, ![128, 8]⟩
abbrev S1x1x128 : Shape := ⟨3, ![1, 1, 128]⟩
abbrev S128x128 : Shape := ⟨2, ![128, 128]⟩
abbrev S6x32x128 : Shape := ⟨3, ![6, 32, 128]⟩
abbrev S2x8x128 : Shape := ⟨3, ![2, 8, 128]⟩
abbrev S96x384 : Shape := ⟨2, ![96, 384]⟩
abbrev S32x128 : Shape := ⟨2, ![32, 128]⟩
abbrev S128x384 : Shape := ⟨2, ![128, 384]⟩
abbrev S32x384 : Shape := ⟨2, ![32, 384]⟩
abbrev S1x32x128 : Shape := ⟨3, ![1, 32, 128]⟩
abbrev S8x128 : Shape := ⟨2, ![8, 128]⟩
abbrev S1x8x128 : Shape := ⟨3, ![1, 8, 128]⟩
abbrev S8x128x1 : Shape := ⟨3, ![8, 128, 1]⟩
abbrev S8x32x128 : Shape := ⟨3, ![8, 32, 128]⟩
abbrev S256x128 : Shape := ⟨2, ![256, 128]⟩
abbrev S4x32x128 : Shape := ⟨3, ![4, 32, 128]⟩
abbrev S1x128x128 : Shape := ⟨3, ![1, 128, 128]⟩

abbrev nBuf : Space → Nat
  | .hbm => 33
  | .vmem => 32
  | .smem => 0
  | _ => 0

abbrev bufTy : (tb : Table) → Fin (tcTables nBuf tb) → BufTy
  | .hbm, ⟨0, _⟩ => ⟨S1x1280x96x128, .fp8e5m2⟩
  | .hbm, ⟨1, _⟩ => ⟨S1x1280x96, .f32⟩
  | .hbm, ⟨2, _⟩ => ⟨S1x1280x8x128, .fp8e5m2⟩
  | .hbm, ⟨3, _⟩ => ⟨S1x1280x8, .f32⟩
  | .hbm, ⟨4, _⟩ => ⟨S1x1280x96x128, .fp8e4m3⟩
  | .hbm, ⟨5, _⟩ => ⟨S1x1280x96, .f32⟩
  | .hbm, ⟨6, _⟩ => ⟨S1x1280x8x128, .fp8e4m3⟩
  | .hbm, ⟨7, _⟩ => ⟨S1x1280x8, .f32⟩
  | .hbm, ⟨8, _⟩ => ⟨S128, .f32⟩
  | .hbm, ⟨9, _⟩ => ⟨S128, .f32⟩
  | .hbm, ⟨10, _⟩ => ⟨S1x1280, .i32⟩
  | .hbm, ⟨11, _⟩ => ⟨S64, .f32⟩
  | .hbm, ⟨12, _⟩ => ⟨S64x128, .f32⟩
  | .hbm, ⟨13, _⟩ => ⟨S256x256, .f32⟩
  | .hbm, ⟨14, _⟩ => ⟨S256x256, .fp8e4m3⟩
  | .hbm, ⟨15, _⟩ => ⟨S1x128, .f32⟩
  | .hbm, ⟨16, _⟩ => ⟨S1x128, .f32⟩
  | .hbm, ⟨17, _⟩ => ⟨S2x128, .f32⟩
  | .hbm, ⟨18, _⟩ => ⟨S2x128x1, .f32⟩
  | .hbm, ⟨19, _⟩ => ⟨S2x128x128, .f32⟩
  | .hbm, ⟨20, _⟩ => ⟨S1280x96x128, .fp8e5m2⟩
  | .hbm, ⟨21, _⟩ => ⟨S1280x96, .f32⟩
  | .hbm, ⟨22, _⟩ => ⟨S10240x128, .fp8e5m2⟩
  | .hbm, ⟨23, _⟩ => ⟨S1280x8, .f32⟩
  | .hbm, ⟨24, _⟩ => ⟨S1280x96x128, .fp8e4m3⟩
  | .hbm, ⟨25, _⟩ => ⟨S1280x96, .f32⟩
  | .hbm, ⟨26, _⟩ => ⟨S10240x128, .fp8e4m3⟩
  | .hbm, ⟨27, _⟩ => ⟨S1280x8, .f32⟩
  | .hbm, ⟨28, _⟩ => ⟨S10x1x128, .i32⟩
  | .hbm, ⟨29, _⟩ => ⟨S1280x96x128, .bf16⟩
  | .hbm, ⟨30, _⟩ => ⟨S10240x128, .bf16⟩
  | .hbm, ⟨31, _⟩ => ⟨S1x128, .f32⟩
  | .hbm, ⟨32, _⟩ => ⟨S1x128, .f32⟩
  | .local _ .vmem, ⟨0, _⟩ => ⟨S128x96x128, .fp8e5m2⟩
  | .local _ .vmem, ⟨1, _⟩ => ⟨S128x96x128, .fp8e5m2⟩
  | .local _ .vmem, ⟨2, _⟩ => ⟨S128x96, .f32⟩
  | .local _ .vmem, ⟨3, _⟩ => ⟨S128x96, .f32⟩
  | .local _ .vmem, ⟨4, _⟩ => ⟨S1024x128, .fp8e5m2⟩
  | .local _ .vmem, ⟨5, _⟩ => ⟨S1024x128, .fp8e5m2⟩
  | .local _ .vmem, ⟨6, _⟩ => ⟨S128x8, .f32⟩
  | .local _ .vmem, ⟨7, _⟩ => ⟨S128x8, .f32⟩
  | .local _ .vmem, ⟨8, _⟩ => ⟨S128x96x128, .fp8e4m3⟩
  | .local _ .vmem, ⟨9, _⟩ => ⟨S128x96x128, .fp8e4m3⟩
  | .local _ .vmem, ⟨10, _⟩ => ⟨S128x96, .f32⟩
  | .local _ .vmem, ⟨11, _⟩ => ⟨S128x96, .f32⟩
  | .local _ .vmem, ⟨12, _⟩ => ⟨S1024x128, .fp8e4m3⟩
  | .local _ .vmem, ⟨13, _⟩ => ⟨S1024x128, .fp8e4m3⟩
  | .local _ .vmem, ⟨14, _⟩ => ⟨S128x8, .f32⟩
  | .local _ .vmem, ⟨15, _⟩ => ⟨S128x8, .f32⟩
  | .local _ .vmem, ⟨16, _⟩ => ⟨S2x128x128, .f32⟩
  | .local _ .vmem, ⟨17, _⟩ => ⟨S1x1x128, .i32⟩
  | .local _ .vmem, ⟨18, _⟩ => ⟨S1x1x128, .i32⟩
  | .local _ .vmem, ⟨19, _⟩ => ⟨S64x128, .f32⟩
  | .local _ .vmem, ⟨20, _⟩ => ⟨S256x256, .fp8e4m3⟩
  | .local _ .vmem, ⟨21, _⟩ => ⟨S128x96x128, .bf16⟩
  | .local _ .vmem, ⟨22, _⟩ => ⟨S128x96x128, .bf16⟩
  | .local _ .vmem, ⟨23, _⟩ => ⟨S1024x128, .bf16⟩
  | .local _ .vmem, ⟨24, _⟩ => ⟨S1024x128, .bf16⟩
  | .local _ .vmem, ⟨25, _⟩ => ⟨S1x128, .f32⟩
  | .local _ .vmem, ⟨26, _⟩ => ⟨S1x128, .f32⟩
  | .local _ .vmem, ⟨27, _⟩ => ⟨S128x128, .f32⟩
  | .local _ .vmem, ⟨28, _⟩ => ⟨S6x32x128, .f32⟩
  | .local _ .vmem, ⟨29, _⟩ => ⟨S2x8x128, .f32⟩
  | .local _ .vmem, ⟨30, _⟩ => ⟨S128x128, .f32⟩
  | .local _ .vmem, ⟨31, _⟩ => ⟨S128x128, .f32⟩
  | _, _ => ⟨S1x1280x96x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32_104 : BitVec 32 := 0#32
  let c8_i32_105 : BitVec 32 := 8#32
  let v299 : BitVec 32 := Scalar.addi c0_i32_104 c8_i32_105
  let c1_i32_106 : BitVec 32 := 1#32
  ⟨c0_i32_104, v299, c1_i32_106⟩
def k0_mult1 (k0_t1 : Fin k0_t1_loop.trips) : BitVec 32 :=
  let c0_i32_104 : BitVec 32 := 0#32
  let c1_i32_106 : BitVec 32 := 1#32
  let arg22 : BitVec 32 := Scf.iv c0_i32_104 c1_i32_106 k0_t1
  let c16_i32_109 : BitVec 32 := 16#32
  let v303 : BitVec 32 := Scalar.muli arg22 c16_i32_109
  v303
def k0_off1 (k0_t1 : Fin k0_t1_loop.trips) : Fin 3 → Nat :=
  let c0_i32_104 : BitVec 32 := 0#32
  let c1_i32_106 : BitVec 32 := 1#32
  let arg22 : BitVec 32 := Scf.iv c0_i32_104 c1_i32_106 k0_t1
  let c16_i32_109 : BitVec 32 := 16#32
  let v303 : BitVec 32 := Scalar.muli arg22 c16_i32_109
  let v304 : BitVec 32 := v303
  let v1247 : Index := Scalar.indexCast v304
  let c0_577 : Index := 0#32
  let c0_578 : Index := 0#32
  ![v1247.toNat, 0, 0]
def k0_off2 (k0_t1 : Fin k0_t1_loop.trips) : Fin 3 → Nat :=
  let c0_i32_104 : BitVec 32 := 0#32
  let c1_i32_106 : BitVec 32 := 1#32
  let arg22 : BitVec 32 := Scf.iv c0_i32_104 c1_i32_106 k0_t1
  let c16_i32_109 : BitVec 32 := 16#32
  let v303 : BitVec 32 := Scalar.muli arg22 c16_i32_109
  let v304 : BitVec 32 := v303
  let c8_i32_579 : BitVec 32 := 8#32
  let v1251 : BitVec 32 := Scalar.addi v304 c8_i32_579
  let v1252 : Index := Scalar.indexCast v1251
  let c0_580 : Index := 0#32
  let c0_581 : Index := 0#32
  ![v1252.toNat, 0, 0]
def k0_off3 (k0_t1 : Fin k0_t1_loop.trips) (c0_i32_592 : BitVec 32) : Fin 3 → Nat :=
  let c0_593 : Index := 0#32
  let c0_i32_104 : BitVec 32 := 0#32
  let c1_i32_106 : BitVec 32 := 1#32
  let arg22 : BitVec 32 := Scf.iv c0_i32_104 c1_i32_106 k0_t1
  let c4_i32_591 : BitVec 32 := 4#32
  let v1271 : BitVec 32 := Scalar.muli arg22 c4_i32_591
  let v1272 : BitVec 32 := Scalar.addi v1271 c0_i32_592
  let v1273 : Index := Scalar.indexCast v1272
  let c0_594 : Index := 0#32
  ![0, v1273.toNat, 0]
def k0_off4 (k0_t1 : Fin k0_t1_loop.trips) (c0_i32_592 : BitVec 32) : Fin 3 → Nat :=
  let c3_595 : Index := 3#32
  let c0_i32_104 : BitVec 32 := 0#32
  let c1_i32_106 : BitVec 32 := 1#32
  let arg22 : BitVec 32 := Scf.iv c0_i32_104 c1_i32_106 k0_t1
  let c4_i32_591 : BitVec 32 := 4#32
  let v1271 : BitVec 32 := Scalar.muli arg22 c4_i32_591
  let v1272 : BitVec 32 := Scalar.addi v1271 c0_i32_592
  let v1276 : Index := Scalar.indexCast v1272
  let c0_596 : Index := 0#32
  ![3, v1276.toNat, 0]
def k0_off5 (k0_t1 : Fin k0_t1_loop.trips) (c0_i32_667 : BitVec 32) : Fin 3 → Nat :=
  let c0_i32_104 : BitVec 32 := 0#32
  let c1_i32_106 : BitVec 32 := 1#32
  let arg22 : BitVec 32 := Scf.iv c0_i32_104 c1_i32_106 k0_t1
  let c16_i32_109 : BitVec 32 := 16#32
  let v303 : BitVec 32 := Scalar.muli arg22 c16_i32_109
  let v304 : BitVec 32 := v303
  let v1653 : BitVec 32 := Scalar.addi v304 c0_i32_667
  let v1654 : Index := Scalar.indexCast v1653
  let c0_668 : Index := 0#32
  let c0_669 : Index := 0#32
  ![v1654.toNat, 0, 0]
def k0_off6 (k0_t1 : Fin k0_t1_loop.trips) : Fin 3 → Nat :=
  let c0_i32_104 : BitVec 32 := 0#32
  let c1_i32_106 : BitVec 32 := 1#32
  let arg22 : BitVec 32 := Scf.iv c0_i32_104 c1_i32_106 k0_t1
  let c16_i32_109 : BitVec 32 := 16#32
  let v303 : BitVec 32 := Scalar.muli arg22 c16_i32_109
  let v304 : BitVec 32 := v303
  let v2813 : Index := Scalar.indexCast v304
  let c32_907 : Index := 32#32
  let c0_908 : Index := 0#32
  ![v2813.toNat, 32, 0]
def k0_off7 (k0_t1 : Fin k0_t1_loop.trips) : Fin 3 → Nat :=
  let c0_i32_104 : BitVec 32 := 0#32
  let c1_i32_106 : BitVec 32 := 1#32
  let arg22 : BitVec 32 := Scf.iv c0_i32_104 c1_i32_106 k0_t1
  let c16_i32_109 : BitVec 32 := 16#32
  let v303 : BitVec 32 := Scalar.muli arg22 c16_i32_109
  let v304 : BitVec 32 := v303
  let c8_i32_909 : BitVec 32 := 8#32
  let v2817 : BitVec 32 := Scalar.addi v304 c8_i32_909
  let v2818 : Index := Scalar.indexCast v2817
  let c32_910 : Index := 32#32
  let c0_911 : Index := 0#32
  ![v2818.toNat, 32, 0]
def k0_off8 (k0_t1 : Fin k0_t1_loop.trips) (c0_i32_922 : BitVec 32) : Fin 3 → Nat :=
  let c1_923 : Index := 1#32
  let c0_i32_104 : BitVec 32 := 0#32
  let c1_i32_106 : BitVec 32 := 1#32
  let arg22 : BitVec 32 := Scf.iv c0_i32_104 c1_i32_106 k0_t1
  let c4_i32_921 : BitVec 32 := 4#32
  let v2837 : BitVec 32 := Scalar.muli arg22 c4_i32_921
  let v2838 : BitVec 32 := Scalar.addi v2837 c0_i32_922
  let v2839 : Index := Scalar.indexCast v2838
  let c0_924 : Index := 0#32
  ![1, v2839.toNat, 0]
def k0_off9 (k0_t1 : Fin k0_t1_loop.trips) (c0_i32_922 : BitVec 32) : Fin 3 → Nat :=
  let c4_925 : Index := 4#32
  let c0_i32_104 : BitVec 32 := 0#32
  let c1_i32_106 : BitVec 32 := 1#32
  let arg22 : BitVec 32 := Scf.iv c0_i32_104 c1_i32_106 k0_t1
  let c4_i32_921 : BitVec 32 := 4#32
  let v2837 : BitVec 32 := Scalar.muli arg22 c4_i32_921
  let v2838 : BitVec 32 := Scalar.addi v2837 c0_i32_922
  let v2842 : Index := Scalar.indexCast v2838
  let c0_926 : Index := 0#32
  ![4, v2842.toNat, 0]
def k0_off10 (k0_t1 : Fin k0_t1_loop.trips) (c0_i32_997 : BitVec 32) : Fin 3 → Nat :=
  let c0_i32_104 : BitVec 32 := 0#32
  let c1_i32_106 : BitVec 32 := 1#32
  let arg22 : BitVec 32 := Scf.iv c0_i32_104 c1_i32_106 k0_t1
  let c16_i32_109 : BitVec 32 := 16#32
  let v303 : BitVec 32 := Scalar.muli arg22 c16_i32_109
  let v304 : BitVec 32 := v303
  let v3219 : BitVec 32 := Scalar.addi v304 c0_i32_997
  let v3220 : Index := Scalar.indexCast v3219
  let c32_998 : Index := 32#32
  let c0_999 : Index := 0#32
  ![v3220.toNat, 32, 0]
def k0_off11 (k0_t1 : Fin k0_t1_loop.trips) : Fin 3 → Nat :=
  let c0_i32_104 : BitVec 32 := 0#32
  let c1_i32_106 : BitVec 32 := 1#32
  let arg22 : BitVec 32 := Scf.iv c0_i32_104 c1_i32_106 k0_t1
  let c16_i32_109 : BitVec 32 := 16#32
  let v303 : BitVec 32 := Scalar.muli arg22 c16_i32_109
  let v304 : BitVec 32 := v303
  let v4379 : Index := Scalar.indexCast v304
  let c64_1239 : Index := 64#32
  let c0_1240 : Index := 0#32
  ![v4379.toNat, 64, 0]
def k0_off12 (k0_t1 : Fin k0_t1_loop.trips) : Fin 3 → Nat :=
  let c0_i32_104 : BitVec 32 := 0#32
  let c1_i32_106 : BitVec 32 := 1#32
  let arg22 : BitVec 32 := Scf.iv c0_i32_104 c1_i32_106 k0_t1
  let c16_i32_109 : BitVec 32 := 16#32
  let v303 : BitVec 32 := Scalar.muli arg22 c16_i32_109
  let v304 : BitVec 32 := v303
  let c8_i32_1241 : BitVec 32 := 8#32
  let v4383 : BitVec 32 := Scalar.addi v304 c8_i32_1241
  let v4384 : Index := Scalar.indexCast v4383
  let c64_1242 : Index := 64#32
  let c0_1243 : Index := 0#32
  ![v4384.toNat, 64, 0]
def k0_off13 (k0_t1 : Fin k0_t1_loop.trips) (c0_i32_1254 : BitVec 32) : Fin 3 → Nat :=
  let c2_1255 : Index := 2#32
  let c0_i32_104 : BitVec 32 := 0#32
  let c1_i32_106 : BitVec 32 := 1#32
  let arg22 : BitVec 32 := Scf.iv c0_i32_104 c1_i32_106 k0_t1
  let c4_i32_1253 : BitVec 32 := 4#32
  let v4403 : BitVec 32 := Scalar.muli arg22 c4_i32_1253
  let v4404 : BitVec 32 := Scalar.addi v4403 c0_i32_1254
  let v4405 : Index := Scalar.indexCast v4404
  let c0_1256 : Index := 0#32
  ![2, v4405.toNat, 0]
def k0_off14 (k0_t1 : Fin k0_t1_loop.trips) (c0_i32_1254 : BitVec 32) : Fin 3 → Nat :=
  let c5_1257 : Index := 5#32
  let c0_i32_104 : BitVec 32 := 0#32
  let c1_i32_106 : BitVec 32 := 1#32
  let arg22 : BitVec 32 := Scf.iv c0_i32_104 c1_i32_106 k0_t1
  let c4_i32_1253 : BitVec 32 := 4#32
  let v4403 : BitVec 32 := Scalar.muli arg22 c4_i32_1253
  let v4404 : BitVec 32 := Scalar.addi v4403 c0_i32_1254
  let v4408 : Index := Scalar.indexCast v4404
  let c0_1258 : Index := 0#32
  ![5, v4408.toNat, 0]
def k0_off15 (k0_t1 : Fin k0_t1_loop.trips) (c0_i32_1329 : BitVec 32) : Fin 3 → Nat :=
  let c0_i32_104 : BitVec 32 := 0#32
  let c1_i32_106 : BitVec 32 := 1#32
  let arg22 : BitVec 32 := Scf.iv c0_i32_104 c1_i32_106 k0_t1
  let c16_i32_109 : BitVec 32 := 16#32
  let v303 : BitVec 32 := Scalar.muli arg22 c16_i32_109
  let v304 : BitVec 32 := v303
  let v4785 : BitVec 32 := Scalar.addi v304 c0_i32_1329
  let v4786 : Index := Scalar.indexCast v4785
  let c64_1330 : Index := 64#32
  let c0_1331 : Index := 0#32
  ![v4786.toNat, 64, 0]
def k0_mult2 (k0_t1 : Fin k0_t1_loop.trips) : BitVec 32 :=
  let c0_i32_104 : BitVec 32 := 0#32
  let c1_i32_106 : BitVec 32 := 1#32
  let arg22 : BitVec 32 := Scf.iv c0_i32_104 c1_i32_106 k0_t1
  let c128_i32_1688 : BitVec 32 := 128#32
  let v6177 : BitVec 32 := Scalar.muli arg22 c128_i32_1688
  v6177
def k0_off16 (k0_t1 : Fin k0_t1_loop.trips) : Fin 2 → Nat :=
  let c0_i32_104 : BitVec 32 := 0#32
  let c1_i32_106 : BitVec 32 := 1#32
  let arg22 : BitVec 32 := Scf.iv c0_i32_104 c1_i32_106 k0_t1
  let c128_i32_1688 : BitVec 32 := 128#32
  let v6177 : BitVec 32 := Scalar.muli arg22 c128_i32_1688
  let v6178 : BitVec 32 := v6177
  let v6181 : Index := Scalar.indexCast v6178
  let c0_1691 : Index := 0#32
  ![v6181.toNat, 0]
def k0_off17 (k0_t1 : Fin k0_t1_loop.trips) : Fin 3 → Nat :=
  let c0_1697 : Index := 0#32
  let c0_i32_104 : BitVec 32 := 0#32
  let c1_i32_106 : BitVec 32 := 1#32
  let arg22 : BitVec 32 := Scf.iv c0_i32_104 c1_i32_106 k0_t1
  let v6191 : Index := Scalar.indexCast arg22
  let c0_1698 : Index := 0#32
  ![0, v6191.toNat, 0]
def k0_off18 (k0_t1 : Fin k0_t1_loop.trips) : Fin 3 → Nat :=
  let c1_1699 : Index := 1#32
  let c0_i32_104 : BitVec 32 := 0#32
  let c1_i32_106 : BitVec 32 := 1#32
  let arg22 : BitVec 32 := Scf.iv c0_i32_104 c1_i32_106 k0_t1
  let v6194 : Index := Scalar.indexCast arg22
  let c0_1700 : Index := 0#32
  ![1, v6194.toNat, 0]
def k0_cond2 (i : grid0.Coords) : BitVec 1 :=
  let arg0 : BitVec 32 := BitVec.ofNat 32 (i 0).val
  let c9_i32 : BitVec 32 := 9#32
  let v300 : BitVec 1 := Scalar.cmpi .eq arg0 c9_i32
  let v301 : BitVec 32 := Scalar.extui v300
  let c0_i32_108 : BitVec 32 := 0#32
  let v302 : BitVec 1 := Scalar.cmpi .ne v301 c0_i32_108
  v302

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x96x128 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x96x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x96x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S1x1280x96x128 : Shape := ⟨4, ![1, 1280, 96, 128]⟩
abbrev S1x1280x96 : Shape := ⟨3, ![1, 1280, 96]⟩
abbrev S1x1280x8x128 : Shape := ⟨4, ![1, 1280, 8, 128]⟩
abbrev S1x1280x8 : Shape := ⟨3, ![1, 1280, 8]⟩
abbrev S128 : Shape := ⟨1, ![128]⟩
abbrev S1x1280 : Shape := ⟨2, ![1, 1280]⟩
abbrev S64 : Shape := ⟨1, ![64]⟩
abbrev S1280x96x128 : Shape := ⟨3, ![1280, 96, 128]⟩
abbrev S10240x128 : Shape := ⟨2, ![10240, 128]⟩
abbrev S1x128 : Shape := ⟨2, ![1, 128]⟩
abbrev S1x1280x1 : Shape := ⟨3, ![1, 1280, 1]⟩
abbrev S1x1x64 : Shape := ⟨3, ![1, 1, 64]⟩
abbrev S1x1280x64 : Shape := ⟨3, ![1, 1280, 64]⟩
abbrev S1x1280x1x64 : Shape := ⟨4, ![1, 1280, 1, 64]⟩
abbrev S1x1280x96x1 : Shape := ⟨4, ![1, 1280, 96, 1]⟩
abbrev S1x1280x96x64 : Shape := ⟨4, ![1, 1280, 96, 64]⟩
abbrev S1x1x1x128 : Shape := ⟨4, ![1, 1, 1, 128]⟩
abbrev S1x1280x8x1 : Shape := ⟨4, ![1, 1280, 8, 1]⟩
abbrev S1x1280x8x64 : Shape := ⟨4, ![1, 1280, 8, 64]⟩

abbrev nBuf : Space → Nat
  | .hbm => 16
  | .vmem => 16
  | .smem => 0
  | _ => 0

abbrev bufTy : (tb : Table) → Fin (tcTables nBuf tb) → BufTy
  | .hbm, ⟨0, _⟩ => ⟨S1x1280x96x128, .fp8e5m2⟩
  | .hbm, ⟨1, _⟩ => ⟨S1x1280x96, .f32⟩
  | .hbm, ⟨2, _⟩ => ⟨S1x1280x8x128, .fp8e5m2⟩
  | .hbm, ⟨3, _⟩ => ⟨S1x1280x8, .f32⟩
  | .hbm, ⟨4, _⟩ => ⟨S1x1280x96x128, .fp8e4m3⟩
  | .hbm, ⟨5, _⟩ => ⟨S1x1280x96, .f32⟩
  | .hbm, ⟨6, _⟩ => ⟨S1x1280x8x128, .fp8e4m3⟩
  | .hbm, ⟨7, _⟩ => ⟨S1x1280x8, .f32⟩
  | .hbm, ⟨8, _⟩ => ⟨S128, .f32⟩
  | .hbm, ⟨9, _⟩ => ⟨S128, .f32⟩
  | .hbm, ⟨10, _⟩ => ⟨S1x1280, .i32⟩
  | .hbm, ⟨11, _⟩ => ⟨S64, .f32⟩
  | .hbm, ⟨12, _⟩ => ⟨S1280x96x128, .bf16⟩
  | .hbm, ⟨13, _⟩ => ⟨S10240x128, .bf16⟩
  | .hbm, ⟨14, _⟩ => ⟨S1x128, .f32⟩
  | .hbm, ⟨15, _⟩ => ⟨S1x128, .f32⟩
  | .local _ .vmem, ⟨0, _⟩ => ⟨S1x1280x96x128, .fp8e5m2⟩
  | .local _ .vmem, ⟨1, _⟩ => ⟨S1x1280x96, .f32⟩
  | .local _ .vmem, ⟨2, _⟩ => ⟨S1x1280x8x128, .fp8e5m2⟩
  | .local _ .vmem, ⟨3, _⟩ => ⟨S1x1280x8, .f32⟩
  | .local _ .vmem, ⟨4, _⟩ => ⟨S1x1280x96x128, .fp8e4m3⟩
  | .local _ .vmem, ⟨5, _⟩ => ⟨S1x1280x96, .f32⟩
  | .local _ .vmem, ⟨6, _⟩ => ⟨S1x1280x8x128, .fp8e4m3⟩
  | .local _ .vmem, ⟨7, _⟩ => ⟨S1x1280x8, .f32⟩
  | .local _ .vmem, ⟨8, _⟩ => ⟨S128, .f32⟩
  | .local _ .vmem, ⟨9, _⟩ => ⟨S128, .f32⟩
  | .local _ .vmem, ⟨10, _⟩ => ⟨S1x1280, .i32⟩
  | .local _ .vmem, ⟨11, _⟩ => ⟨S64, .f32⟩
  | .local _ .vmem, ⟨12, _⟩ => ⟨S1280x96x128, .bf16⟩
  | .local _ .vmem, ⟨13, _⟩ => ⟨S10240x128, .bf16⟩
  | .local _ .vmem, ⟨14, _⟩ => ⟨S1x128, .f32⟩
  | .local _ .vmem, ⟨15, _⟩ => ⟨S1x128, .f32⟩
  | _, _ => ⟨S1x1280x96x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1x1280x96x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1280x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1280x8x128 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1280x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1280x96x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1280x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1280x8x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1280x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1280 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1280x96x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S10240x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.KernelFree.lean ====
module

public import proofs.«01_k».proof.Proof.Gen.Kernel.Loops

/-! # The loop's stores do not depend on what its outputs held

The two outputs that the loop writes are never read in it, so the pieces it stores are the same whatever those
two buffers held at its entry. The run of a whole step names the pieces by this form. -/

@[expose] public section
set_option maxRecDepth 8192
noncomputable section
namespace Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
variable {F : FTy → Type} [FloatOps F]
variable (𝒱 : Variants) (c : Dev nD) (bd : Option 𝒱.V) (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole) (v298 : IVec S8x128 32) (X_arg1 : BufTy.Contents (Elt F) arg1.view.ty) (X_arg3 : BufTy.Contents (Elt F) arg3.view.ty) (X_arg5 : BufTy.Contents (Elt F) arg5.view.ty) (X_arg7 : BufTy.Contents (Elt F) arg7.view.ty) (X_arg9 : BufTy.Contents (Elt F) arg9.view.ty) (X_arg12 : BufTy.Contents (Elt F) arg12.view.ty) (X_arg17 : BufTy.Contents (Elt F) arg17.view.ty) (X_arg18 : BufTy.Contents (Elt F) arg18.view.ty) (X_arg19 : BufTy.Contents (Elt F) arg19.view.ty)

/-- One trip's stores, over any two contents of the outputs. -/
theorem tripL_free (k : Fin k0_t1_loop.trips) (a b : BufTy.Contents (Elt F) arg13.view.ty) (a' b' : BufTy.Contents (Elt F) arg14.view.ty) (f20 : BufTy.Contents (Elt F) arg20.view.ty) (f21 : BufTy.Contents (Elt F) arg21.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k a a' f20 f21 = tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k b b' f20 f21 := by
  sl_kernel_rfl

/-- All trips' stores. -/
theorem pb_free (a b : BufTy.Contents (Elt F) arg13.view.ty) (a' b' : BufTy.Contents (Elt F) arg14.view.ty) (f20 : BufTy.Contents (Elt F) arg20.view.ty) (f21 : BufTy.Contents (Elt F) arg21.view.ty) (k : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 a a' f20 f21 k = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 b b' f20 f21 k := by
  induction k with
  | zero => rfl
  | succ k ih =>
    rw [pb_k0_t1.eq_2, pb_k0_t1.eq_2, ih]
    unfold pb_k0_t1Step
    by_cases h : k < k0_t1_loop.trips
    · rw [dif_pos h, dif_pos h]
      generalize pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 b b' f20 f21 k = p
      exact congrArg (fun T => (T.1 ++ p.1, T.2.1 ++ p.2.1, T.2.2.1 ++ p.2.2.1, T.2.2.2 ++ p.2.2.2))
        (tripL_free 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 ⟨k, h⟩ _ _ _ _ _ _)
    · rw [dif_neg h, dif_neg h]

/-- In the form a step's run uses: as if the outputs had held nothing in particular. -/
theorem pb_junk (a : BufTy.Contents (Elt F) arg13.view.ty) (a' : BufTy.Contents (Elt F) arg14.view.ty) (f20 : BufTy.Contents (Elt F) arg20.view.ty) (f21 : BufTy.Contents (Elt F) arg21.view.ty) (k : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 a a' f20 f21 k = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 arg13.view.junk arg14.view.junk f20 f21 k :=
  pb_free 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 _ _ _ _ _ _ _

end Cert.Kernel.Gen
end
-- ==== Proof.KernelRunA.lean ====
module

public import proofs.«01_k».proof.Proof.Gen.Kernel.Frame.Runs
public import proofs.«01_k».proof.Proof.KernelFree

/-! # One step of the kernel, case A

The generated run of the body, with one line added: the loop's stores are rewritten to a form that does not name
what the outputs held before (`pb_junk`), so that the list of stores can be given before those contents are known. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12, 13, 14, 15) at anything, handed back at some contents nothing names. -/
noncomputable def kernelRun0_A (c : Dev nD) (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole) (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) :
    Σ' (LS3 : List (View.Piece (Elt F) S128x128 .f32)), { LS4 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS3) ∗ (∃ f, arg21.view.loc (c : Thread nD τ) ↦[arg21.view.set]{fullShare} arg21.view.writes (Elt F) f LS4)) -∗ K ⟨⟩))
          ⊢ wp frame (wpE (defs₀ (F := F)) Variants.none c none) E (cc0_qk_norm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0_qk_norm_rope_bwd_eq_skeleton]; unfold cc0_qk_norm_rope_bwd_skel
    simp only [k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0 | sl_exact hc1)
    sl_step
    rw [pb_junk]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.Kernel.Gen

end
-- ==== Proof.KernelRunB.lean ====
module

public import proofs.«01_k».proof.Proof.KernelRunA

/-! # One step of the kernel, case B

The generated run of the body, with one line added: the loop's stores are rewritten to a form that does not name
what the outputs held before (`pb_junk`), so that the list of stores can be given before those contents are known. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken, `scf.if` 1 not taken: points 1, 2, … 8: 8 of 10), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12, 13, 14, 15) at anything, handed back at some contents nothing names. -/
noncomputable def kernelRun0_B (c : Dev nD) (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole) (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) :
    Σ' (LS3 : List (View.Piece (Elt F) S128x128 .f32)), { LS4 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs3 ∗ owns (c : Thread nD τ) arg21 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS3) ∗ (∃ f, arg21.view.loc (c : Thread nD τ) ↦[arg21.view.set]{fullShare} arg21.view.writes (Elt F) f LS4)) -∗ K ⟨⟩))
          ⊢ wp frame (wpE (defs₀ (F := F)) Variants.none c none) E (cc0_qk_norm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0_qk_norm_rope_bwd_eq_skeleton]; unfold cc0_qk_norm_rope_bwd_skel
    simp only [k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg20.eq_unread hfs3; obtain rfl := harg21.eq_unread hfs4
    sl_exec (disch := first | sl_exact hc0 | sl_exact hc1)
    sl_step
    rw [pb_junk]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.Kernel.Gen

end
-- ==== Proof.KernelRunC.lean ====
module

public import proofs.«01_k».proof.Proof.KernelRunB

/-! # One step of the kernel, case C

The generated run of the body, with one line added: the loop's stores are rewritten to a form that does not name
what the outputs held before (`pb_junk`), so that the list of stores can be given before those contents are known. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE C (`scf.if` 0 not taken, `scf.if` 1 taken: points 9), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12, 13, 14, 15) at anything, handed back at some contents nothing names. -/
noncomputable def kernelRun0_C (c : Dev nD) (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole) (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) :
    Σ' (LS3 : List (View.Piece (Elt F) S128x128 .f32)), { LS4 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs3 ∗ owns (c : Thread nD τ) arg21 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS3) ∗ (∃ f, arg21.view.loc (c : Thread nD τ) ↦[arg21.view.set]{fullShare} arg21.view.writes (Elt F) f LS4)) -∗ K ⟨⟩))
          ⊢ wp frame (wpE (defs₀ (F := F)) Variants.none c none) E (cc0_qk_norm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0_qk_norm_rope_bwd_eq_skeleton]; unfold cc0_qk_norm_rope_bwd_skel
    simp only [k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg20.eq_unread hfs3; obtain rfl := harg21.eq_unread hfs4
    sl_exec (disch := first | sl_exact hc0 | sl_exact hc1)
    sl_step
    rw [pb_junk]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.Kernel.Gen

end
-- ==== Proof.KernelFrame.lean ====
module

public import proofs.«01_k».proof.Proof.KernelRunC
public import Idealize.ShloMosaic.Lib.Claim

/-! # The frame of the printed kernel

The generated frame certificate over the runs of `KernelRunA`, `KernelRunB` and `KernelRunC`; the text is the generated
one but for the imports and for binders shared by a section. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- From a run over relational proof data the frame: every argument array ends unchanged. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

section
variable (c : Dev nD) (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole)

/-- Case A's pieces for scratch `arg20`, which the kernel carries between points, cover it: one of them a store of the WHOLE buffer (Lib/Ring.lean `sl_whole_mem`). -/
theorem scover0_A_3 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1 (by sl_whole_mem) y

/-- What case A leaves in scratch `arg20`: its pieces read back over junk. -/
def sout0_A_3 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) : Vec F S128x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1)

/-- Case A's pieces for scratch `arg21`, which the kernel carries between points, cover it: one of them a store of the WHOLE buffer (Lib/Ring.lean `sl_whole_mem`). -/
theorem scover0_A_4 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1 (by sl_whole_mem) y

/-- What case A leaves in scratch `arg21`: its pieces read back over junk. -/
def sout0_A_4 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) : Vec F S128x128 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1)

/-- Case B's pieces for scratch `arg20`, which the kernel carries between points, cover it: 1536 pieces of `S8x128` tiling it (Lib/Ring.lean `Piece.tiledL`). -/
theorem scover0_B_3 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).1 S8x128.size (by sl_kernel_rfl) y

/-- What case B leaves in scratch `arg20`: its pieces read back over junk. -/
def sout0_B_3 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S128x128 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).1)

/-- Case B's pieces for scratch `arg21`, which the kernel carries between points, cover it: 128 pieces of `S8x128` tiling it (Lib/Ring.lean `Piece.tiledL`). -/
theorem scover0_B_4 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.1 S8x128.size (by sl_kernel_rfl) y

/-- What case B leaves in scratch `arg21`: its pieces read back over junk. -/
def sout0_B_4 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S128x128 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.1)

/-- Case C's pieces for scratch `arg20`, which the kernel carries between points, cover it: 1536 pieces of `S8x128` tiling it (Lib/Ring.lean `Piece.tiledL`). -/
theorem scover0_C_3 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).1 S8x128.size (by sl_kernel_rfl) y

/-- What case C leaves in scratch `arg20`: its pieces read back over junk. -/
def sout0_C_3 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S128x128 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).1)

/-- Case C's pieces for scratch `arg21`, which the kernel carries between points, cover it: 128 pieces of `S8x128` tiling it (Lib/Ring.lean `Piece.tiledL`). -/
theorem scover0_C_4 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.1 S8x128.size (by sl_kernel_rfl) y

/-- What case C leaves in scratch `arg21`: its pieces read back over junk. -/
def sout0_C_4 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S128x128 .f32 :=
  VS0_4.read (Elt F) (VS0_4.writes (Elt F) VS0_4.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.1)
end

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x128 .f32 × Vec F S128x128 .f32
  | 0, hn => (sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 10 = 0 then
      if h1 : (n + 1) % 10 = 9 then
        False.elim (by have hN : n + 1 < 10 := lt_of_lt_of_eq hn (show cfg0.N = 10 from N_0); omega)
      else
        (sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
    else
      if h1 : (n + 1) % 10 = 9 then
        (sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).1 (outsAt0 c n (Nat.lt_of_succ_lt hn)).2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).1 (outsAt0 c n (Nat.lt_of_succ_lt hn)).2)
      else
        (sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).1 (outsAt0 c n (Nat.lt_of_succ_lt hn)).2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 10 = 0) (h1 : ¬t.val % 10 = 9) :
    outsAt0 m c t.val t.isLt = (sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 10 = 0) (h1 : ¬t.val % 10 = 9) :
    outsAt0 m c t.val t.isLt = (sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).1 (outsAt0 m c (t.val - 1) (Nat.lt_of_le_of_lt (Nat.sub_le _ _) t.isLt)).2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 10 = 0) (h1 : t.val % 10 = 9) :
    outsAt0 m c t.val t.isLt = (sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).1 (outsAt0 m c (t.val - 1) (Nat.lt_of_le_of_lt (Nat.sub_le _ _) t.isLt)).2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).1) ∗ owns (c : Thread nD τ) scM0_4 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).1) ∗ owns (c : Thread nD τ) scM0_4 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)).1) ∗ owns (c : Thread nD τ) scM0_4 fullShare ((outsAt0 m c (n - 1) (by omega)).2)) ∗ (∃ r, prngReg c r)) := by
  cases n with
  | zero => exact absurd rfl hz
  | succ n => rfl

/-! ## The pipeline's proof data -/

/-- The output windows this certificate FORGETS (12, 13, 14, 15): nothing reads what the kernel leaves in them, so nothing
    of it is named (Lib/Pipeline/Dat.lean `Dat.toRForget`). -/
def forgets0 : Fin 16 → Bool := fun w => w.val == 12 || w.val == 13 || w.val == 14 || w.val == 15

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 10 := lt_of_lt_of_eq t.isLt (show cfg0.N = 10 from N_0)
  by_cases h0 : t.val % 10 = 0
  · by_cases h1 : t.val % 10 = 9
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · rw [PhiS_castSucc m c t, PhiS_zero m c _ _ hz, PhiA0_eq]
        rw [outsAt0_A m c t h0 h1]
        unfold sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, HS0, HS1, HS2, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      · exfalso; have hN : t.val < 10 := lt_of_lt_of_eq t.isLt (show cfg0.N = 10 from N_0); omega
  · by_cases h1 : t.val % 10 = 9
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · exfalso; have hN : t.val < 10 := lt_of_lt_of_eq t.isLt (show cfg0.N = 10 from N_0); omega
      · rw [PhiS_castSucc m c t, PhiS_pos m c _ _ hz]
        rw [outsAt0_C m c t h0 h1]
        unfold sout0_C_3 sout0_C_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, HS0, HS1, HS2, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · exfalso; have hN : t.val < 10 := lt_of_lt_of_eq t.isLt (show cfg0.N = 10 from N_0); omega
      · rw [PhiS_castSucc m c t, PhiS_pos m c _ _ hz]
        rw [outsAt0_B m c t h0 h1]
        unfold sout0_B_3 sout0_B_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, HS0, HS1, HS2, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 10 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 12, 13, 14, 15) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_rel m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Gen

end
-- ==== Proof.IdealFree.lean ====
module

public import proofs.«01_k».proof.Proof.Gen.KernelIdeal.Loops

/-! # The loop's stores do not depend on what its outputs held

The two outputs that the loop writes are never read in it, so the pieces it stores are the same whatever those
two buffers held at its entry. The run of a whole step names the pieces by this form. -/

@[expose] public section
set_option maxRecDepth 8192
noncomputable section
namespace Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
variable {F : FTy → Type} [FloatOps F]
variable (𝒱 : Variants) (c : Dev nD) (bd : Option 𝒱.V) (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole) (v298 : IVec S8x128 32) (X_arg1 : BufTy.Contents (Elt F) arg1.view.ty) (X_arg3 : BufTy.Contents (Elt F) arg3.view.ty) (X_arg5 : BufTy.Contents (Elt F) arg5.view.ty) (X_arg7 : BufTy.Contents (Elt F) arg7.view.ty) (X_arg9 : BufTy.Contents (Elt F) arg9.view.ty) (X_arg12 : BufTy.Contents (Elt F) arg12.view.ty) (X_arg17 : BufTy.Contents (Elt F) arg17.view.ty) (X_arg18 : BufTy.Contents (Elt F) arg18.view.ty) (X_arg19 : BufTy.Contents (Elt F) arg19.view.ty)

/-- One trip's stores, over any two contents of the outputs. -/
theorem tripL_free (k : Fin k0_t1_loop.trips) (a b : BufTy.Contents (Elt F) arg13.view.ty) (a' b' : BufTy.Contents (Elt F) arg14.view.ty) (f20 : BufTy.Contents (Elt F) arg20.view.ty) (f21 : BufTy.Contents (Elt F) arg21.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k a a' f20 f21 = tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k b b' f20 f21 := by
  sl_kernel_rfl

/-- All trips' stores. -/
theorem pb_free (a b : BufTy.Contents (Elt F) arg13.view.ty) (a' b' : BufTy.Contents (Elt F) arg14.view.ty) (f20 : BufTy.Contents (Elt F) arg20.view.ty) (f21 : BufTy.Contents (Elt F) arg21.view.ty) (k : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 a a' f20 f21 k = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 b b' f20 f21 k := by
  induction k with
  | zero => rfl
  | succ k ih =>
    rw [pb_k0_t1.eq_2, pb_k0_t1.eq_2, ih]
    unfold pb_k0_t1Step
    by_cases h : k < k0_t1_loop.trips
    · rw [dif_pos h, dif_pos h]
      generalize pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 b b' f20 f21 k = p
      exact congrArg (fun T => (T.1 ++ p.1, T.2.1 ++ p.2.1, T.2.2.1 ++ p.2.2.1, T.2.2.2 ++ p.2.2.2))
        (tripL_free 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 ⟨k, h⟩ _ _ _ _ _ _)
    · rw [dif_neg h, dif_neg h]

/-- In the form a step's run uses: as if the outputs had held nothing in particular. -/
theorem pb_junk (a : BufTy.Contents (Elt F) arg13.view.ty) (a' : BufTy.Contents (Elt F) arg14.view.ty) (f20 : BufTy.Contents (Elt F) arg20.view.ty) (f21 : BufTy.Contents (Elt F) arg21.view.ty) (k : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 a a' f20 f21 k = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 arg13.view.junk arg14.view.junk f20 f21 k :=
  pb_free 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 _ _ _ _ _ _ _

end Cert.KernelIdeal.Gen
end
-- ==== Proof.IdealRunA.lean ====
module

public import proofs.«01_k».proof.Proof.Gen.KernelIdeal.Frame.Runs
public import proofs.«01_k».proof.Proof.IdealFree

/-! # One step of the kernel, case A

The generated run of the body, with one line added: the loop's stores are rewritten to a form that does not name
what the outputs held before (`pb_junk`), so that the list of stores can be given before those contents are known. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE A (`scf.if` 0 taken, `scf.if` 1 not taken: points 0), WITH the
    proof that on whole staging memrefs — the inputs' at their contents, the outputs it leaves idle (14, 15: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole) (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) :
    Σ' (L12 : List (View.Piece (Elt F) S128x96x128 .bf16)), Σ' (L13 : List (View.Piece (Elt F) S1024x128 .bf16)), Σ' (L14 : List (View.Piece (Elt F) S1x128 .f32)), Σ' (L15 : List (View.Piece (Elt F) S1x128 .f32)), Σ' (LS3 : List (View.Piece (Elt F) S128x128 .f32)), { LS4 : List (View.Piece (Elt F) S128x128 .f32) //
      ∀ (xi14 : Vec F S1x128 .f32) (xi15 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare xi14 ∗ owns (c : Thread nD τ) arg16 fullShare xi15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ owns (c : Thread nD τ) arg15 fullShare xi14 ∗ owns (c : Thread nD τ) arg16 fullShare xi15 ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS3) ∗ (∃ f, arg21.view.loc (c : Thread nD τ) ↦[arg21.view.set]{fullShare} arg21.view.writes (Elt F) f LS4)) -∗ K ⟨⟩))
          ⊢ wp frame (wpE (defs₀ (F := F)) Variants.none c none) E (cc0_qk_norm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, [], [], ?_, ?_, fun xi14 xi15 E K => ?run⟩
  case run =>
    simp only [cc0_qk_norm_rope_bwd_eq_skeleton]; unfold cc0_qk_norm_rope_bwd_skel
    simp only [k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf14; obtain rfl := harg16.eq_unread hf15
    sl_exec (disch := first | sl_exact hc0 | sl_exact hc1)
    sl_step
    rw [pb_junk]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]
    · iexists _; isplitr; · ipureintro; exact harg15.read_unread _
      iexact H14
    isplitl [H15]
    · iexists _; isplitr; · ipureintro; exact harg16.read_unread _
      iexact H15
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.KernelIdeal.Gen

end
-- ==== Proof.IdealRunB.lean ====
module

public import proofs.«01_k».proof.Proof.IdealRunA

/-! # One step of the kernel, case B

The generated run of the body, with one line added: the loop's stores are rewritten to a form that does not name
what the outputs held before (`pb_junk`), so that the list of stores can be given before those contents are known. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken, `scf.if` 1 not taken: points 1, 2, … 8: 8 of 10), WITH the
    proof that on whole staging memrefs — the inputs' at their contents, the outputs it leaves idle (14, 15: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole) (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) :
    Σ' (L12 : List (View.Piece (Elt F) S128x96x128 .bf16)), Σ' (L13 : List (View.Piece (Elt F) S1024x128 .bf16)), Σ' (L14 : List (View.Piece (Elt F) S1x128 .f32)), Σ' (L15 : List (View.Piece (Elt F) S1x128 .f32)), Σ' (LS3 : List (View.Piece (Elt F) S128x128 .f32)), { LS4 : List (View.Piece (Elt F) S128x128 .f32) //
      ∀ (xi14 : Vec F S1x128 .f32) (xi15 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare xi14 ∗ owns (c : Thread nD τ) arg16 fullShare xi15 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs3 ∗ owns (c : Thread nD τ) arg21 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ owns (c : Thread nD τ) arg15 fullShare xi14 ∗ owns (c : Thread nD τ) arg16 fullShare xi15 ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS3) ∗ (∃ f, arg21.view.loc (c : Thread nD τ) ↦[arg21.view.set]{fullShare} arg21.view.writes (Elt F) f LS4)) -∗ K ⟨⟩))
          ⊢ wp frame (wpE (defs₀ (F := F)) Variants.none c none) E (cc0_qk_norm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, [], [], ?_, ?_, fun xi14 xi15 E K => ?run⟩
  case run =>
    simp only [cc0_qk_norm_rope_bwd_eq_skeleton]; unfold cc0_qk_norm_rope_bwd_skel
    simp only [k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf14; obtain rfl := harg16.eq_unread hf15; obtain rfl := harg20.eq_unread hfs3; obtain rfl := harg21.eq_unread hfs4
    sl_exec (disch := first | sl_exact hc0 | sl_exact hc1)
    sl_step
    rw [pb_junk]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]
    · iexists _; isplitr; · ipureintro; exact harg15.read_unread _
      iexact H14
    isplitl [H15]
    · iexists _; isplitr; · ipureintro; exact harg16.read_unread _
      iexact H15
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.KernelIdeal.Gen

end
-- ==== Proof.IdealRunC.lean ====
module

public import proofs.«01_k».proof.Proof.IdealRunB

/-! # One step of the kernel, case C

The generated run of the body, with one line added: the loop's stores are rewritten to a form that does not name
what the outputs held before (`pb_junk`), so that the list of stores can be given before those contents are known. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE C (`scf.if` 0 not taken, `scf.if` 1 taken: points 9), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole) (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) :
    Σ' (L12 : List (View.Piece (Elt F) S128x96x128 .bf16)), Σ' (L13 : List (View.Piece (Elt F) S1024x128 .bf16)), Σ' (L14 : List (View.Piece (Elt F) S1x128 .f32)), Σ' (L15 : List (View.Piece (Elt F) S1x128 .f32)), Σ' (LS3 : List (View.Piece (Elt F) S128x128 .f32)), { LS4 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs3 ∗ owns (c : Thread nD τ) arg21 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS3) ∗ (∃ f, arg21.view.loc (c : Thread nD τ) ↦[arg21.view.set]{fullShare} arg21.view.writes (Elt F) f LS4)) -∗ K ⟨⟩))
          ⊢ wp frame (wpE (defs₀ (F := F)) Variants.none c none) E (cc0_qk_norm_rope_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc0_qk_norm_rope_bwd_eq_skeleton]; unfold cc0_qk_norm_rope_bwd_skel
    simp only [k0_part139_eq_skeleton, k0_part140_eq_skeleton, k0_part141_eq_skeleton, k0_part142_eq_skeleton, k0_part143_eq_skeleton, k0_part144_eq_skeleton, k0_part145_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg20.eq_unread hfs3; obtain rfl := harg21.eq_unread hfs4
    sl_exec (disch := first | sl_exact hc0 | sl_exact hc1)
    sl_step
    delta kernelRun0_C.sl.v303 kernelRun0_C.sl.v311
    rw [pb_junk]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.KernelIdeal.Gen

end
-- ==== Proof.IdealOuts.lean ====
module

public import proofs.«01_k».proof.Proof.IdealRunC
public import Idealize.ShloMosaic.Lib.Claim

/-! # What a step leaves in each buffer

The first part of the generated frame certificate over the runs of `IdealRunA`, `IdealRunB` and `IdealRunC`: what each
case leaves in the outputs and in the two carried accumulators. The text is the generated one but for the imports and
for binders shared by a section. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole)

/-- Case A's pieces for output 12 tile its block (96 stores of `S4x32x128`, checked by the kernel's evaluation: Lib/Ring.lean `Piece.tiledL`, linear in the pieces, through a loop's `@[irreducible]` trip theorem too), so they cover it. -/
theorem cover0_A_12 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (y : S128x96x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1 S4x32x128.size (by sl_kernel_rfl) y

/-- What case A leaves in output 12's staging buffer: its pieces read back over junk. -/
def out0_A_12 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) : Vec F S128x96x128 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).1)

/-- Case A's pieces for output 13 tile its block (8 stores of `S128x128`, checked by the kernel's evaluation: Lib/Ring.lean `Piece.tiledL`, linear in the pieces, through a loop's `@[irreducible]` trip theorem too), so they cover it. -/
theorem cover0_A_13 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (y : S1024x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1 S128x128.size (by sl_kernel_rfl) y

/-- What case A leaves in output 13's staging buffer: its pieces read back over junk. -/
def out0_A_13 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) : Vec F S1024x128 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.1)

/-- Case A stores nothing into output 14 (the window is idle at its points and not written back there):
    no pieces — a placeholder (junk read back) that nothing consults, since at these points the window is neither
    written back nor read at the next point (Lib/Pipeline.lean "Idle points"). -/
def out0_A_14 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) : Vec F S1x128 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.1)

/-- Case A stores nothing into output 15 (the window is idle at its points and not written back there):
    no pieces — a placeholder (junk read back) that nothing consults, since at these points the window is neither
    written back nor read at the next point (Lib/Pipeline.lean "Idle points"). -/
def out0_A_15 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) : Vec F S1x128 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.1)

/-- Case A's pieces for scratch `arg20`, which the kernel carries between points, cover it: one of them a store of the WHOLE buffer (Lib/Ring.lean `sl_whole_mem`). -/
theorem scover0_A_3 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1 (by sl_whole_mem) y

/-- What case A leaves in scratch `arg20`: its pieces read back over junk. -/
def sout0_A_3 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) : Vec F S128x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1)

/-- Case A's pieces for scratch `arg21`, which the kernel carries between points, cover it: one of them a store of the WHOLE buffer (Lib/Ring.lean `sl_whole_mem`). -/
theorem scover0_A_4 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1 (by sl_whole_mem) y

/-- What case A leaves in scratch `arg21`: its pieces read back over junk. -/
def sout0_A_4 (hc0 : cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) : Vec F S128x128 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1)

/-- Case B's pieces for output 12 tile its block (96 stores of `S4x32x128`, checked by the kernel's evaluation: Lib/Ring.lean `Piece.tiledL`, linear in the pieces, through a loop's `@[irreducible]` trip theorem too), so they cover it. -/
theorem cover0_B_12 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S128x96x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).1 S4x32x128.size (by sl_kernel_rfl) y

/-- What case B leaves in output 12's staging buffer: its pieces read back over junk. -/
def out0_B_12 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S128x96x128 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).1)

/-- Case B's pieces for output 13 tile its block (8 stores of `S128x128`, checked by the kernel's evaluation: Lib/Ring.lean `Piece.tiledL`, linear in the pieces, through a loop's `@[irreducible]` trip theorem too), so they cover it. -/
theorem cover0_B_13 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S1024x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.1 S128x128.size (by sl_kernel_rfl) y

/-- What case B leaves in output 13's staging buffer: its pieces read back over junk. -/
def out0_B_13 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S1024x128 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.1)

/-- Case B stores nothing into output 14 (the window is idle at its points and not written back there):
    no pieces — a placeholder (junk read back) that nothing consults, since at these points the window is neither
    written back nor read at the next point (Lib/Pipeline.lean "Idle points"). -/
def out0_B_14 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S1x128 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.1)

/-- Case B stores nothing into output 15 (the window is idle at its points and not written back there):
    no pieces — a placeholder (junk read back) that nothing consults, since at these points the window is neither
    written back nor read at the next point (Lib/Pipeline.lean "Idle points"). -/
def out0_B_15 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S1x128 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.1)

/-- Case B's pieces for scratch `arg20`, which the kernel carries between points, cover it: 1536 pieces of `S8x128` tiling it (Lib/Ring.lean `Piece.tiledL`). -/
theorem scover0_B_3 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.1 S8x128.size (by sl_kernel_rfl) y

/-- What case B leaves in scratch `arg20`: its pieces read back over junk. -/
def sout0_B_3 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S128x128 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.1)

/-- Case B's pieces for scratch `arg21`, which the kernel carries between points, cover it: 128 pieces of `S8x128` tiling it (Lib/Ring.lean `Piece.tiledL`). -/
theorem scover0_B_4 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.2.1 S8x128.size (by sl_kernel_rfl) y

/-- What case B leaves in scratch `arg21`: its pieces read back over junk. -/
def sout0_B_4 (hc0 : ¬cond0_0 i) (hc1 : ¬cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S128x128 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.2.1)

/-- Case C's pieces for output 12 tile its block (96 stores of `S4x32x128`, checked by the kernel's evaluation: Lib/Ring.lean `Piece.tiledL`, linear in the pieces, through a loop's `@[irreducible]` trip theorem too), so they cover it. -/
theorem cover0_C_12 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S128x96x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).1 S4x32x128.size (by sl_kernel_rfl) y

/-- What case C leaves in output 12's staging buffer: its pieces read back over junk. -/
def out0_C_12 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S128x96x128 .bf16 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).1)

/-- Case C's pieces for output 13 tile its block (8 stores of `S128x128`, checked by the kernel's evaluation: Lib/Ring.lean `Piece.tiledL`, linear in the pieces, through a loop's `@[irreducible]` trip theorem too), so they cover it. -/
theorem cover0_C_13 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S1024x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.1 S128x128.size (by sl_kernel_rfl) y

/-- What case C leaves in output 13's staging buffer: its pieces read back over junk. -/
def out0_C_13 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S1024x128 .bf16 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.1)

/-- Case C's pieces for output 14 tile its block (1 store of `S1x128`, checked by the kernel's evaluation: Lib/Ring.lean `Piece.tiledL`, linear in the pieces, through a loop's `@[irreducible]` trip theorem too), so they cover it. -/
theorem cover0_C_14 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.1 S1x128.size (by sl_kernel_rfl) y

/-- What case C leaves in output 14's staging buffer: its pieces read back over junk. -/
def out0_C_14 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S1x128 .f32 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.1)

/-- Case C's pieces for output 15 tile its block (1 store of `S1x128`, checked by the kernel's evaluation: Lib/Ring.lean `Piece.tiledL`, linear in the pieces, through a loop's `@[irreducible]` trip theorem too), so they cover it. -/
theorem cover0_C_15 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.1 S1x128.size (by sl_kernel_rfl) y

/-- What case C leaves in output 15's staging buffer: its pieces read back over junk. -/
def out0_C_15 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S1x128 .f32 :=
  VO0_15.read (Elt F) (VO0_15.writes (Elt F) VO0_15.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.1)

/-- Case C's pieces for scratch `arg20`, which the kernel carries between points, cover it: 1536 pieces of `S8x128` tiling it (Lib/Ring.lean `Piece.tiledL`). -/
theorem scover0_C_3 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.1 S8x128.size (by sl_kernel_rfl) y

/-- What case C leaves in scratch `arg20`: its pieces read back over junk. -/
def sout0_C_3 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S128x128 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.1)

/-- Case C's pieces for scratch `arg21`, which the kernel carries between points, cover it: 128 pieces of `S8x128` tiling it (Lib/Ring.lean `Piece.tiledL`). -/
theorem scover0_C_4 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) (y : S128x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.2.1 S8x128.size (by sl_kernel_rfl) y

/-- What case C leaves in scratch `arg21`: its pieces read back over junk. -/
def sout0_C_4 (hc0 : ¬cond0_0 i) (hc1 : cond0_1 i)
    (x0 : Vec F S128x96x128 .fp8e5m2) (x1 : Vec F S128x96 .f32) (x2 : Vec F S1024x128 .fp8e5m2) (x3 : Vec F S128x8 .f32) (x4 : Vec F S128x96x128 .fp8e4m3) (x5 : Vec F S128x96 .f32) (x6 : Vec F S1024x128 .fp8e4m3) (x7 : Vec F S128x8 .f32) (x8 : Vec F S2x128x128 .f32) (x9 : Vec F S1x1x128 .i32) (x10 : Vec F S64x128 .f32) (x11 : Vec F S256x256 .fp8e4m3) (xs3 : Vec F S128x128 .f32) (xs4 : Vec F S128x128 .f32) : Vec F S128x128 .f32 :=
  VS0_4.read (Elt F) (VS0_4.writes (Elt F) VS0_4.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.2.1)
end

end Cert.KernelIdeal.Gen

end
-- ==== Proof.IdealFrame.lean ====
module

public import proofs.«01_k».proof.Proof.IdealOuts
public import Idealize.ShloMosaic.Lib.Claim

/-! # The frame of the kernel over the extended reals

The rest of the generated frame certificate; what a point leaves is named by case (`stepA`, `stepB`, `stepC`). -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- The outputs' blocks in window order, then the carried scratch. -/
abbrev Held (F : FTy → Type) : Type := Vec F S128x96x128 .bf16 × Vec F S1024x128 .bf16 × Vec F S1x128 .f32 × Vec F S1x128 .f32 × Vec F S128x128 .f32 × Vec F S128x128 .f32

/-- What the first point (case A) leaves in the outputs and the carried scratch: the case's named terms at the point's memrefs and input blocks. -/
def stepA (c : Dev nD) (t : Fin cfg0.N) (h0 : t.val % 10 = 0) (h1 : ¬t.val % 10 = 9) : Held F :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
    out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
    sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
    sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- What a point between (case B) leaves in the outputs and the carried scratch, over what the point before left (`acc`): the case's named terms at the point's memrefs and input blocks. -/
def stepB (c : Dev nD) (t : Fin cfg0.N) (h0 : ¬t.val % 10 = 0) (h1 : ¬t.val % 10 = 9) (acc : Held F) : Held F :=
  (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2,
    out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2,
    out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2,
    out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2,
    sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2,
    sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2)

/-- What the last point (case C) leaves in the outputs and the carried scratch, over what the point before left (`acc`): the case's named terms at the point's memrefs and input blocks. -/
def stepC (c : Dev nD) (t : Fin cfg0.N) (h0 : ¬t.val % 10 = 0) (h1 : t.val % 10 = 9) (acc : Held F) : Held F :=
  (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2,
    out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2,
    out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2,
    out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2,
    sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2,
    sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.2.2.2.1 acc.2.2.2.2.2)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Held F
  | 0, hn => stepA m c ⟨0, hn⟩ (Nat.zero_mod 10) (by show ¬0 % 10 = 9; omega)
  | n + 1, hn =>
    if h0 : (n + 1) % 10 = 0 then
      if h1 : (n + 1) % 10 = 9 then
        False.elim (by have hN : n + 1 < 10 := lt_of_lt_of_eq hn (show cfg0.N = 10 from N_0); omega)
      else
        stepA m c ⟨n + 1, hn⟩ h0 h1
    else
      if h1 : (n + 1) % 10 = 9 then
        stepC m c ⟨n + 1, hn⟩ h0 h1 (outsAt0 c n (Nat.lt_of_succ_lt hn))
      else
        stepB m c ⟨n + 1, hn⟩ h0 h1 (outsAt0 c n (Nat.lt_of_succ_lt hn))

/-- `outsAt0` at a point of case A: that case's contents. -/
theorem outsAt0_A (c : Dev nD) (t : Fin cfg0.N) (h0 : t.val % 10 = 0) (h1 : ¬t.val % 10 = 9) :
    outsAt0 m c t.val t.isLt = stepA m c t h0 h1 := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 10 = 0) (h1 : ¬t.val % 10 = 9) :
    outsAt0 m c t.val t.isLt = stepB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 10 = 0) (h1 : t.val % 10 = 9) :
    outsAt0 m c t.val t.isLt = stepC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.2.2.1) ∗ owns (c : Thread nD τ) scM0_4 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.2.2.1) ∗ owns (c : Thread nD τ) scM0_4 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)).2.2.2.2.1) ∗ owns (c : Thread nD τ) scM0_4 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨_ + 16, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 10 := lt_of_lt_of_eq t.isLt (show cfg0.N = 10 from N_0)
  by_cases h0 : t.val % 10 = 0
  · by_cases h1 : t.val % 10 = 9
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [Dat.leavesExact_idle (dats m 0 c) 14 t (idleAt0_14_A t ((hcond0_0 t).mpr h0) (fun h => h1 ((hcond0_1 t).mp h))) (noFlush0_14_A t ((hcond0_0 t).mpr h0) (fun h => h1 ((hcond0_1 t).mp h)))]
      rw [Dat.leavesExact_idle (dats m 0 c) 15 t (idleAt0_15_A t ((hcond0_0 t).mpr h0) (fun h => h1 ((hcond0_1 t).mp h))) (noFlush0_15_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold stepA out0_A_12 out0_A_13 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexact H14
        isplitl [H15]; · iexact H15
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, ⟨%e12, H12⟩, ⟨%e13, H13⟩, H14, H15, HS0, HS1, HS2, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _)
        isplitl [H14]; · iexists _; iexact H14
        iexists _; iexact H15
      · exfalso; have hN : t.val < 10 := lt_of_lt_of_eq t.isLt (show cfg0.N = 10 from N_0); omega
  · by_cases h1 : t.val % 10 = 9
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14_C t (fun h => h0 ((hcond0_0 t).mp h)) ((hcond0_1 t).mpr h1)], after0_14]
      rw [show (dats m 0 c).leavesExact 15 t = owns (c : Thread nD τ) (ms0_15 t) fullShare ((dats m 0 c).after 15 t) from by
      unfold Dat.leavesExact; rw [liveAt0_15_C t (fun h => h0 ((hcond0_0 t).mp h)) ((hcond0_1 t).mpr h1)], after0_15]
      by_cases hz : t.val = 0
      · exfalso; have hN : t.val < 10 := lt_of_lt_of_eq t.isLt (show cfg0.N = 10 from N_0); omega
      · rw [PhiS_castSucc m c t, PhiS_pos m c _ _ hz]
        rw [outsAt0_C m c t h0 h1]
        unfold stepC out0_C_12 out0_C_13 out0_C_14 out0_C_15 sout0_C_3 sout0_C_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, ⟨%e12, H12⟩, ⟨%e13, H13⟩, ⟨%e14, H14⟩, ⟨%e15, H15⟩, HS0, HS1, HS2, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H15
        ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [Dat.leavesExact_idle (dats m 0 c) 14 t (idleAt0_14_B t (fun h => h0 ((hcond0_0 t).mp h)) (fun h => h1 ((hcond0_1 t).mp h))) (noFlush0_14_B t (fun h => h0 ((hcond0_0 t).mp h)) (fun h => h1 ((hcond0_1 t).mp h)))]
      rw [Dat.leavesExact_idle (dats m 0 c) 15 t (idleAt0_15_B t (fun h => h0 ((hcond0_0 t).mp h)) (fun h => h1 ((hcond0_1 t).mp h))) (noFlush0_15_B t (fun h => h0 ((hcond0_0 t).mp h)) (fun h => h1 ((hcond0_1 t).mp h)))]
      by_cases hz : t.val = 0
      · exfalso; have hN : t.val < 10 := lt_of_lt_of_eq t.isLt (show cfg0.N = 10 from N_0); omega
      · rw [PhiS_castSucc m c t, PhiS_pos m c _ _ hz]
        rw [outsAt0_B m c t h0 h1]
        unfold stepB out0_B_12 out0_B_13 sout0_B_3 sout0_B_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexact H14
        isplitl [H15]; · iexact H15
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, ⟨%e12, H12⟩, ⟨%e13, H13⟩, H14, H15, HS0, HS1, HS2, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]; · iexists _; iexact H14
        iexists _; iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 10 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Gen

end
-- ==== Proof.Group.lean ====
module

public import proofs.«01_k».proof.Proof.Gen.KernelIdeal.Loops
public import Idealize.ShloMosaic.Lib.Pipeline.FrameBody

/-! # What one group of 128 rows computes

A group is 128 rows of one of the two arrays, one row to a lane; the 128 elements of a row are spread over sixteen
8 x 128 vectors. These are the operations of the kernel's `_group` on those vectors, as functions of the sixteen
vectors of codes, the tables and the two scale rows: nothing about where the vectors come from. -/

@[expose] public section
set_option maxRecDepth 8192
noncomputable section
namespace Cert.KernelIdeal.Gen.Group
open Idealize.ShloMosaic Idealize.ShloMosaic.TcCoe Idealize.ShloMosaic.Tactic
variable {F : FTy → Type} [FloatOps F]

/-- A vector of a row group: eight sublanes, 128 lanes. -/
abbrev Vc (F : FTy → Type) : Type := FVec F S8x128 .f32
/-- One number to a lane. -/
abbrev Rw (F : FTy → Type) : Type := FVec F S1x128 .f32

/-- The order a group goes through its sixteen vectors: `0, 8, 1, 9, ..., 7, 15`. -/
def ord (n : Fin 16) : Fin 16 := ⟨n.val / 2 + 8 * (n.val % 2), by omega⟩

/-- The sum of sixteen vectors, added one after the other. -/
def chain (f : Fin 16 → Vc F) : Vc F :=
  addf (addf (addf (addf (addf (addf (addf (addf (addf (addf (addf (addf (addf (addf (addf (f 0) (f 1)) (f 2)) (f 3)) (f 4)) (f 5)) (f 6)) (f 7)) (f 8)) (f 9)) (f 10)) (f 11)) (f 12)) (f 13)) (f 14)) (f 15)

/-- The sum over the eight sublanes. -/
def subs (x : Vc F) : Rw F :=
  shapeCast S1x128 (multiReduction .add [0] S128 x 0x00000000#32 reduces_S8x128_S128 (.inl rfl) rfl) shapeCasts_S128_S1x128

/-- The sum of the squares of a lane's 128 codes. -/
def ss (x : Fin 16 → Vc F) : Rw F := subs (chain fun j => mulf (x j) (x j))

/-- The number `1/128`. -/
def inv128 : Rw F := broadcast S1x128 (Scalar.ofBits .f32 0x3C000000#32)

/-- `1 / sqrt (mean of squares + eps)`, from the codes and the scale row `b`. -/
def rr (x : Fin 16 → Vc F) (b : Rw F) : Rw F :=
  rsqrt (addf (mulf (ss x) (mulf (mulf b b) inv128)) (broadcast S1x128 (Scalar.ofBits .f32 0x358637BD#32)))

/-- The gradient's scale times that. -/
def pp (x : Fin 16 → Vc F) (a b : Rw F) : Rw F := mulf a (rr x b)

/-- The factor of the gain's gradient. -/
def ww (x : Fin 16 → Vc F) (a b : Rw F) : Rw F :=
  mulf (mulf (pp x a b) b) (broadcast S1x128 (Scalar.ofBits .f32 0x3F800000#32))

/-- The rotated back, gain-weighted gradient: `t0`, `t1` are the cosine and sine tables times the gain. -/
def gg (d t0 t1 : Fin 16 → Vc F) (j : Fin 16) : Vc F :=
  if j.val < 8 then addf (mulf (d j) (t0 j)) (mulf (d (j + 8)) (t1 j))
  else subf (mulf (d j) (t0 j)) (mulf (d (j - 8)) (t1 j))

/-- Its product with the codes. -/
def yy (d x t0 t1 : Fin 16 → Vc F) (j : Fin 16) : Vc F := mulf (gg d t0 t1 j) (x j)

/-- What the group adds to the gain's gradient. -/
def yw (d x t0 t1 : Fin 16 → Vc F) (a b : Rw F) (j : Fin 16) : Vc F :=
  mulf (yy d x t0 t1 j) (broadcastTo S8x128 (ww x a b) broadcasts_S1x128_S8x128)

/-- The sum over the row of `yy`. -/
def mm (d x t0 t1 : Fin 16 → Vc F) : Rw F := subs (chain fun n => yy d x t0 t1 (ord n))

/-- The factor of the codes in the result. -/
def qq (d x t0 t1 : Fin 16 → Vc F) (a b : Rw F) : Rw F :=
  mulf (mulf (pp x a b) (mulf (mulf b b) (mulf (rr x b) (rr x b)))) (mulf (mm d x t0 t1) inv128)

/-- The result, one of the sixteen vectors. -/
def dx (d x t0 t1 : Fin 16 → Vc F) (a b : Rw F) (j : Fin 16) : FVec F S8x128 .bf16 :=
  truncf .bf16 (subf (mulf (broadcastTo S8x128 (pp x a b) broadcasts_S1x128_S8x128) (gg d t0 t1 j))
    (mulf (broadcastTo S8x128 (qq d x t0 t1 a b) broadcasts_S1x128_S8x128) (x j))) bitsLt_bf16_f32

/-- The result, one row to a lane turned into one row to a row. -/
def outT (d x t0 t1 : Fin 16 → Vc F) (a b : Rw F) : FVec F S128x128 .bf16 :=
  transpose S128x128 [1, 0] (concatenate S128x128 0
    [⟨S8x128, dx d x t0 t1 a b 0⟩, ⟨S8x128, dx d x t0 t1 a b 1⟩, ⟨S8x128, dx d x t0 t1 a b 2⟩, ⟨S8x128, dx d x t0 t1 a b 3⟩, ⟨S8x128, dx d x t0 t1 a b 4⟩, ⟨S8x128, dx d x t0 t1 a b 5⟩, ⟨S8x128, dx d x t0 t1 a b 6⟩, ⟨S8x128, dx d x t0 t1 a b 7⟩, ⟨S8x128, dx d x t0 t1 a b 8⟩, ⟨S8x128, dx d x t0 t1 a b 9⟩, ⟨S8x128, dx d x t0 t1 a b 10⟩, ⟨S8x128, dx d x t0 t1 a b 11⟩, ⟨S8x128, dx d x t0 t1 a b 12⟩, ⟨S8x128, dx d x t0 t1 a b 13⟩, ⟨S8x128, dx d x t0 t1 a b 14⟩, ⟨S8x128, dx d x t0 t1 a b 15⟩]
    concatenates_S8x128_S8x128_S8x128_S8x128_S8x128_S8x128_S8x128_S8x128_S8x128_S8x128_S8x128_S8x128_S8x128_S8x128_S8x128_S8x128_S128x128_d0) transposes_S128x128_p1_0_S128x128

/-! ## Where a group's vectors come from -/

theorem quarter_slices : ∀ (r c : Fin 2) (j : Fin 16), S256x256.Slices ![128 * r.val + 8 * j.val, 128 * c.val] S8x128 := by decide
theorem rows_slices : ∀ j : Fin 16, S128x128.Slices ![8 * j.val, 0] S8x128 := by decide
theorem rect_inb : ∀ j : Fin 16, ∀ a : Fin 2, (![8 * j.val, 0] : Fin 2 → Nat) a + S8x128.size a ≤ S128x128.size a := by decide
theorem rectG_inb : ∀ (i : Fin 2) (j : Fin 16), ∀ a : Fin 3, (![i.val, 8 * j.val, 0] : Fin 3 → Nat) a + S1x8x128.size a ≤ S2x128x128.size a := by decide

/-- Sixteen vectors of a 256 x 256 array: those of the 128 x 128 quarter at `r`, `c`. -/
def quarter (z : FVec F S256x256 .f32) (r c : Fin 2) (j : Fin 16) : Vc F :=
  extractStridedSlice S8x128 ![128 * r.val + 8 * j.val, 128 * c.val] z (quarter_slices r c j)

/-- The sixteen vectors of a 128 x 128 array. -/
def rows (z : FVec F S128x128 .f32) (j : Fin 16) : Vc F :=
  extractStridedSlice S8x128 ![8 * j.val, 0] z (rows_slices j)

/-- Rectangle `j` of the sixteen of a 128 x 128 buffer. -/
def rect (j : Fin 16) : Rect S128x128 := Rect.unit (s := S128x128) ![8 * j.val, 0] S8x128.size (rect_inb j)

/-- Eight rows of the gains. -/
def rectG (i : Fin 2) (j : Fin 16) : Rect S2x128x128 := Rect.unit (s := S2x128x128) ![i.val, 8 * j.val, 0] S1x8x128.size (rectG_inb i j)

/-- The token of each lane, within a step: `base` plus the lane divided by `n`. -/
def tokens (v298 : IVec S8x128 32) (n base : BitVec 32) : IVec S8x128 32 :=
  addi (select (andi (cmpi .ne
        (subi (extui 32 (cmpi .sgt v298 (broadcast S8x128 0#32)) natLt_1_32) (extui 32 (cmpi .slt v298 (broadcast S8x128 0#32)) natLt_1_32))
        (broadcast S8x128 (Scalar.subi (Scalar.extui (Scalar.cmpi .sgt n 0#32)) (Scalar.extui (Scalar.cmpi .slt n 0#32)))))
      (cmpi .ne (remsi v298 (broadcast S8x128 n)) (broadcast S8x128 0#32)))
    (subi (divsi v298 (broadcast S8x128 n)) (broadcast S8x128 1#32)) (divsi v298 (broadcast S8x128 n)))
    (broadcast S8x128 base)

/-- A table's columns at the lanes' tokens. -/
def gather (z : Vc F) (i : IVec S8x128 32) : Vc F :=
  dynamicGather 1 z (shapeCast S8x128 (shapeCast S8x128x1 (select (cmpi .slt i (broadcast S8x128 0#32))
    (addi i (broadcast S8x128 128#32)) i) shapeCasts_S8x128_S8x128x1) shapeCasts_S8x128x1_S8x128)

/-- The cosine (`h = 0`) or sine (`h = 1`) table at the lanes' tokens, times the gain: entry `j`. -/
def table (tab : S128x128.Idx → Elt F .f32) (g : S2x128x128.Idx → Elt F .f32) (gi : Fin 2) (i : IVec S8x128 32) (h : Fin 2) (j : Fin 16) : Vc F :=
  mulf (gather (View.ld tab (rect ⟨j.val % 8 + 8 * h.val, by omega⟩)) i)
    (shapeCast S8x128 (View.ld g (rectG gi j)) shapeCasts_S1x8x128_S8x128)

end Cert.KernelIdeal.Gen.Group
-- ==== Proof.Trip.lean ====
module

public import proofs.«01_k».proof.Proof.Group

/-! # One trip of the loop, in groups

A trip handles sixteen tokens: twelve groups of `q` (three of heads by four of tokens) and one of `k`. Here are the
vectors of each group read off the arrays the trip reads, the pieces it stores, and the proof that the generated
trip's pieces are these. -/

@[expose] public section
set_option maxRecDepth 8192
noncomputable section
namespace Cert.KernelIdeal.Gen.Group
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
variable {F : FTy → Type} [FloatOps F]

/-- The first eight tokens of head group `h`. -/
def offLo (k : Fin k0_t1_loop.trips) (h : Fin 3) : Fin 3 → Nat := match h with
  | 0 => k0_off1 k | 1 => k0_off6 k | 2 => k0_off11 k
theorem offLo_inb (k : Fin k0_t1_loop.trips) (h : Fin 3) : ∀ a, offLo k h a + S8x32x128.size a ≤ S128x96x128.size a := match h with
  | 0 => k0_off1_inb k | 1 => k0_off6_inb k | 2 => k0_off11_inb k
/-- The last eight. -/
def offUp (k : Fin k0_t1_loop.trips) (h : Fin 3) : Fin 3 → Nat := match h with
  | 0 => k0_off2 k | 1 => k0_off7 k | 2 => k0_off12 k
theorem offUp_inb (k : Fin k0_t1_loop.trips) (h : Fin 3) : ∀ a, offUp k h a + S8x32x128.size a ≤ S128x96x128.size a := match h with
  | 0 => k0_off2_inb k | 1 => k0_off7_inb k | 2 => k0_off12_inb k
/-- The row of the gradient's scales. -/
def offA (k : Fin k0_t1_loop.trips) (h : Fin 3) (tq : Fin 4) : Fin 3 → Nat := match h with
  | 0 => k0_off3 k (BitVec.ofNat 32 tq.val) | 1 => k0_off8 k (BitVec.ofNat 32 tq.val) | 2 => k0_off13 k (BitVec.ofNat 32 tq.val)
theorem offA_inb (k : Fin k0_t1_loop.trips) (h : Fin 3) (tq : Fin 4) : ∀ a, offA k h tq a + S1x1x128.size a ≤ S6x32x128.size a := match h with
  | 0 => k0_off3_inb k tq | 1 => k0_off8_inb k tq | 2 => k0_off13_inb k tq
/-- The row of the codes' scales. -/
def offB (k : Fin k0_t1_loop.trips) (h : Fin 3) (tq : Fin 4) : Fin 3 → Nat := match h with
  | 0 => k0_off4 k (BitVec.ofNat 32 tq.val) | 1 => k0_off9 k (BitVec.ofNat 32 tq.val) | 2 => k0_off14 k (BitVec.ofNat 32 tq.val)
theorem offB_inb (k : Fin k0_t1_loop.trips) (h : Fin 3) (tq : Fin 4) : ∀ a, offB k h tq a + S1x1x128.size a ≤ S6x32x128.size a := match h with
  | 0 => k0_off4_inb k tq | 1 => k0_off9_inb k tq | 2 => k0_off14_inb k tq
/-- Where the group's result goes. -/
def offOut (k : Fin k0_t1_loop.trips) (h : Fin 3) (tq : Fin 4) : Fin 3 → Nat := match h with
  | 0 => k0_off5 k (BitVec.ofNat 32 (4 * tq.val)) | 1 => k0_off10 k (BitVec.ofNat 32 (4 * tq.val)) | 2 => k0_off15 k (BitVec.ofNat 32 (4 * tq.val))
theorem offOut_inb (k : Fin k0_t1_loop.trips) (h : Fin 3) (tq : Fin 4) : ∀ a, offOut k h tq a + S4x32x128.size a ≤ S128x96x128.size a := match h with
  | 0 => k0_off5_inb k tq | 1 => k0_off10_inb k tq | 2 => k0_off15_inb k tq

/-- The arrays a trip reads. -/
structure Ins (F : FTy → Type) where
  dq : S128x96x128.Idx → Elt F .fp8e5m2
  dk : S1024x128.Idx → Elt F .fp8e5m2
  xq : S128x96x128.Idx → Elt F .fp8e4m3
  xk : S1024x128.Idx → Elt F .fp8e4m3
  g : S2x128x128.Idx → Elt F .f32
  eye : S256x256.Idx → Elt F .fp8e4m3
  tab : S128x128.Idx → Elt F .f32
  sq : S6x32x128.Idx → Elt F .f32
  sk : S2x8x128.Idx → Elt F .f32

/-- The matrix that transposes `q`'s blocks. -/
def eyeQ (I : Ins F) : FVec F S256x256 .fp8e4m3 :=
  shapeCast S256x256 (View.ld I.eye (Rect.unit (s := S256x256) ![0, 0] S256x256.size inb_S256x256_S256x256_0_0)) shapeCasts_S256x256_S256x256
/-- The matrix that transposes `k`'s. -/
def eyeK (I : Ins F) : FVec F S128x128 .fp8e4m3 :=
  shapeCast S128x128 (View.ld I.eye (Rect.unit (s := S256x256) ![0, 0] S128x128.size inb_S256x256_S128x128_0_0)) shapeCasts_S128x128_S128x128

/-- Two times eight tokens of 32 heads, side by side. -/
def stack {e : FTy} (X : S128x96x128.Idx → F e) (k : Fin k0_t1_loop.trips) (h : Fin 3) : FVec F S256x256 e :=
  concatenate S256x256 1
    [⟨S256x128, shapeCast S256x128 (shapeCast S8x32x128 (fun x => X ((Rect.unit (s := S128x96x128) (offLo k h) S8x32x128.size (offLo_inb k h)).idx x)) shapeCasts_S8x32x128_S8x32x128) shapeCasts_S8x32x128_S256x128⟩,
     ⟨S256x128, shapeCast S256x128 (shapeCast S8x32x128 (fun x => X ((Rect.unit (s := S128x96x128) (offUp k h) S8x32x128.size (offUp_inb k h)).idx x)) shapeCasts_S8x32x128_S8x32x128) shapeCasts_S8x32x128_S256x128⟩]
    concatenates_S256x128_S256x128_S256x256_d1

/-- The block of gradients, transposed. -/
def dtQ (I : Ins F) (k : Fin k0_t1_loop.trips) (h : Fin 3) : FVec F S256x256 .f32 :=
  matmul dot_S256x256_S256x256_S256x256_1_1_0_0_n_n none (eyeQ I) (stack (e := .fp8e5m2) I.dq k h) (constant S256x256 .f32 0x00000000#32)
/-- The block of codes, transposed. -/
def xtQ (I : Ins F) (k : Fin k0_t1_loop.trips) (h : Fin 3) : FVec F S256x256 .f32 :=
  matmul dot_S256x256_S256x256_S256x256_1_1_0_0_n_n none (eyeQ I) (stack (e := .fp8e4m3) I.xq k h) (constant S256x256 .f32 0x00000000#32)

/-- The row of `k`'s block. -/
def blockK {e : FTy} (X : S1024x128.Idx → F e) (k : Fin k0_t1_loop.trips) : FVec F S128x128 e :=
  shapeCast S128x128 (fun x => X ((Rect.unit (s := S1024x128) (k0_off16 k) S128x128.size (k0_off16_inb k)).idx x)) shapeCasts_S128x128_S128x128
def dtK (I : Ins F) (k : Fin k0_t1_loop.trips) : FVec F S128x128 .f32 :=
  matmul dot_S128x128_S128x128_S128x128_1_1_0_0_n_n none (eyeK I) (blockK (e := .fp8e5m2) I.dk k) (constant S128x128 .f32 0x00000000#32)
def xtK (I : Ins F) (k : Fin k0_t1_loop.trips) : FVec F S128x128 .f32 :=
  matmul dot_S128x128_S128x128_S128x128_1_1_0_0_n_n none (eyeK I) (blockK (e := .fp8e4m3) I.xk k) (constant S128x128 .f32 0x00000000#32)

/-- The scale rows of a group. -/
def aQ (I : Ins F) (k : Fin k0_t1_loop.trips) (h : Fin 3) (tq : Fin 4) : Rw F :=
  shapeCast S1x128 (View.ld I.sq (Rect.unit (s := S6x32x128) (offA k h tq) S1x1x128.size (offA_inb k h tq))) shapeCasts_S1x1x128_S1x128
def bQ (I : Ins F) (k : Fin k0_t1_loop.trips) (h : Fin 3) (tq : Fin 4) : Rw F :=
  shapeCast S1x128 (View.ld I.sq (Rect.unit (s := S6x32x128) (offB k h tq) S1x1x128.size (offB_inb k h tq))) shapeCasts_S1x1x128_S1x128
def aK (I : Ins F) (k : Fin k0_t1_loop.trips) : Rw F :=
  shapeCast S1x128 (View.ld I.sk (Rect.unit (s := S2x8x128) (k0_off17 k) S1x1x128.size (k0_off17_inb k))) shapeCasts_S1x1x128_S1x128
def bK (I : Ins F) (k : Fin k0_t1_loop.trips) : Rw F :=
  shapeCast S1x128 (View.ld I.sk (Rect.unit (s := S2x8x128) (k0_off18 k) S1x1x128.size (k0_off18_inb k))) shapeCasts_S1x1x128_S1x128

/-- The lanes' tokens. -/
def tokQ (v298 : IVec S8x128 32) (k : Fin k0_t1_loop.trips) (tq : Fin 4) : IVec S8x128 32 :=
  tokens v298 32#32 (Scalar.addi (k0_mult1 k) (BitVec.ofNat 32 (4 * tq.val)))
def tokK (v298 : IVec S8x128 32) (k : Fin k0_t1_loop.trips) : IVec S8x128 32 := tokens v298 8#32 (k0_mult1 k)

/-- The sixteen vectors of `q` codes a group reads, and of gradients. -/
def dQ (I : Ins F) (k : Fin k0_t1_loop.trips) (h : Fin 3) (tq : Fin 4) : Fin 16 → Vc F := quarter (dtQ I k h) ⟨tq.val / 2, by omega⟩ ⟨tq.val % 2, by omega⟩
def xQ (I : Ins F) (k : Fin k0_t1_loop.trips) (h : Fin 3) (tq : Fin 4) : Fin 16 → Vc F := quarter (xtQ I k h) ⟨tq.val / 2, by omega⟩ ⟨tq.val % 2, by omega⟩
def tQ (I : Ins F) (v298 : IVec S8x128 32) (k : Fin k0_t1_loop.trips) (tq : Fin 4) (h : Fin 2) : Fin 16 → Vc F := table I.tab I.g 0 (tokQ v298 k tq) h
def tK (I : Ins F) (v298 : IVec S8x128 32) (k : Fin k0_t1_loop.trips) (h : Fin 2) : Fin 16 → Vc F := table I.tab I.g 1 (tokK v298 k) h

/-- The result a group of `q` stores. -/
def pieceQ (I : Ins F) (v298 : IVec S8x128 32) (k : Fin k0_t1_loop.trips) (h : Fin 3) (tq : Fin 4) : View.Piece (Elt F) S128x96x128 .bf16 :=
  ⟨Rect.unit (s := S128x96x128) (offOut k h tq) S4x32x128.size (offOut_inb k h tq),
    shapeCast S4x32x128 (outT (dQ I k h tq) (xQ I k h tq) (tQ I v298 k tq 0) (tQ I v298 k tq 1) (aQ I k h tq) (bQ I k h tq)) shapeCasts_S128x128_S4x32x128⟩
/-- The result the group of `k` stores. -/
def pieceK (I : Ins F) (v298 : IVec S8x128 32) (k : Fin k0_t1_loop.trips) : View.Piece (Elt F) S1024x128 .bf16 :=
  ⟨Rect.unit (s := S1024x128) (k0_off16 k) S128x128.size (k0_off16_inb k),
    outT (rows (dtK I k)) (rows (xtK I k)) (tK I v298 k 0) (tK I v298 k 1) (aK I k) (bK I k)⟩

/-- What a group of `q` adds to the gain's gradient. -/
def addQ (I : Ins F) (v298 : IVec S8x128 32) (k : Fin k0_t1_loop.trips) (h : Fin 3) (tq : Fin 4) : Fin 16 → Vc F :=
  yw (dQ I k h tq) (xQ I k h tq) (tQ I v298 k tq 0) (tQ I v298 k tq 1) (aQ I k h tq) (bQ I k h tq)
def addK (I : Ins F) (v298 : IVec S8x128 32) (k : Fin k0_t1_loop.trips) : Fin 16 → Vc F :=
  yw (rows (dtK I k)) (rows (xtK I k)) (tK I v298 k 0) (tK I v298 k 1) (aK I k) (bK I k)

/-- A list of stores into the accumulator. -/
abbrev Acc (F : FTy → Type) : Type := List (View.Piece (Elt F) S128x128 .f32)

/-- One more store: vector `j`, what `load` reads there plus `v`. -/
def push (load : Acc F → (j : Fin 16) → Vc F) (v : Fin 16 → Vc F) (L : Acc F) (j : Fin 16) : Acc F :=
  ⟨rect j, shapeCast S8x128 (addf (load L j) (v j)) shapeCasts_S8x128_S8x128⟩ :: L

/-- A group's sixteen stores. -/
def group (load : Acc F → (j : Fin 16) → Vc F) (v : Fin 16 → Vc F) (L : Acc F) : Acc F :=
  [0, 8, 1, 9, 2, 10, 3, 11, 4, 12, 5, 13, 6, 14, 7, 15].foldl (push load v) L

/-- The first group of a trip reads what was there. -/
def loadAt (X : S128x128.Idx → Elt F .f32) (_ : Acc F) (j : Fin 16) : Vc F := View.ld X (rect j)
/-- A later one what the trip has stored. -/
def loadCov {sig : RefSig} {sp : Space} (m : View sig .tc sp S128x128 .f32) (L : Acc F) (j : Fin 16) : Vc F := m.readCov L (rect j).toLoadRect

/-- The stores of a trip's twelve groups of `q`. -/
def accQ {sig : RefSig} {sp : Space} (m : View sig .tc sp S128x128 .f32) (X : S128x128.Idx → Elt F .f32) (I : Ins F) (v298 : IVec S8x128 32) (k : Fin k0_t1_loop.trips) : Acc F :=
  ([(0, 1), (0, 2), (0, 3), (1, 0), (1, 1), (1, 2), (1, 3), (2, 0), (2, 1), (2, 2), (2, 3)] : List (Fin 3 × Fin 4)).foldl
    (fun L ht => group (loadCov m) (addQ I v298 k ht.1 ht.2) L) (group (loadAt X) (addQ I v298 k 0 0) [])

/-- The arrays a trip reads, from the buffers. -/
def insOf (arg1 : Memref sig .tc .vmem S128x96x128 .fp8e5m2) (arg3 : Memref sig .tc .vmem S1024x128 .fp8e5m2) (arg5 : Memref sig .tc .vmem S128x96x128 .fp8e4m3) (arg7 : Memref sig .tc .vmem S1024x128 .fp8e4m3) (arg9 : Memref sig .tc .vmem S2x128x128 .f32) (arg12 : Memref sig .tc .vmem S256x256 .fp8e4m3) (arg17 : Memref sig .tc .vmem S128x128 .f32) (arg18 : Memref sig .tc .vmem S6x32x128 .f32) (arg19 : Memref sig .tc .vmem S2x8x128 .f32) (X_arg1 : BufTy.Contents (Elt F) arg1.view.ty) (X_arg3 : BufTy.Contents (Elt F) arg3.view.ty) (X_arg5 : BufTy.Contents (Elt F) arg5.view.ty) (X_arg7 : BufTy.Contents (Elt F) arg7.view.ty) (X_arg9 : BufTy.Contents (Elt F) arg9.view.ty) (X_arg12 : BufTy.Contents (Elt F) arg12.view.ty) (X_arg17 : BufTy.Contents (Elt F) arg17.view.ty) (X_arg18 : BufTy.Contents (Elt F) arg18.view.ty) (X_arg19 : BufTy.Contents (Elt F) arg19.view.ty) : Ins F :=
  ⟨arg1.view.read (Elt F) X_arg1, arg3.view.read (Elt F) X_arg3, arg5.view.read (Elt F) X_arg5, arg7.view.read (Elt F) X_arg7,
   arg9.view.read (Elt F) X_arg9, arg12.view.read (Elt F) X_arg12, arg17.view.read (Elt F) X_arg17, arg18.view.read (Elt F) X_arg18, arg19.view.read (Elt F) X_arg19⟩

variable (𝒱 : Variants) (c : Dev nD) (bd : Option 𝒱.V) (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole) (v298 : IVec S8x128 32) (X_arg1 : BufTy.Contents (Elt F) arg1.view.ty) (X_arg3 : BufTy.Contents (Elt F) arg3.view.ty) (X_arg5 : BufTy.Contents (Elt F) arg5.view.ty) (X_arg7 : BufTy.Contents (Elt F) arg7.view.ty) (X_arg9 : BufTy.Contents (Elt F) arg9.view.ty) (X_arg12 : BufTy.Contents (Elt F) arg12.view.ty) (X_arg17 : BufTy.Contents (Elt F) arg17.view.ty) (X_arg18 : BufTy.Contents (Elt F) arg18.view.ty) (X_arg19 : BufTy.Contents (Elt F) arg19.view.ty) (k : Fin k0_t1_loop.trips)
  (f13 : BufTy.Contents (Elt F) arg13.view.ty) (f14 : BufTy.Contents (Elt F) arg14.view.ty) (f20 : BufTy.Contents (Elt F) arg20.view.ty) (f21 : BufTy.Contents (Elt F) arg21.view.ty)

set_option maxHeartbeats 4000000

theorem trip_dk :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k).2.1 f13 f14 f20 f21
      = [pieceK (insOf arg1 arg3 arg5 arg7 arg9 arg12 arg17 arg18 arg19 X_arg1 X_arg3 X_arg5 X_arg7 X_arg9 X_arg12 X_arg17 X_arg18 X_arg19) v298 k] := by
  sl_kernel_rfl

theorem trip_dq :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k).1 f13 f14 f20 f21
      = [pieceQ (insOf arg1 arg3 arg5 arg7 arg9 arg12 arg17 arg18 arg19 X_arg1 X_arg3 X_arg5 X_arg7 X_arg9 X_arg12 X_arg17 X_arg18 X_arg19) v298 k 2 3, pieceQ (insOf arg1 arg3 arg5 arg7 arg9 arg12 arg17 arg18 arg19 X_arg1 X_arg3 X_arg5 X_arg7 X_arg9 X_arg12 X_arg17 X_arg18 X_arg19) v298 k 2 2, pieceQ (insOf arg1 arg3 arg5 arg7 arg9 arg12 arg17 arg18 arg19 X_arg1 X_arg3 X_arg5 X_arg7 X_arg9 X_arg12 X_arg17 X_arg18 X_arg19) v298 k 2 1, pieceQ (insOf arg1 arg3 arg5 arg7 arg9 arg12 arg17 arg18 arg19 X_arg1 X_arg3 X_arg5 X_arg7 X_arg9 X_arg12 X_arg17 X_arg18 X_arg19) v298 k 2 0,
         pieceQ (insOf arg1 arg3 arg5 arg7 arg9 arg12 arg17 arg18 arg19 X_arg1 X_arg3 X_arg5 X_arg7 X_arg9 X_arg12 X_arg17 X_arg18 X_arg19) v298 k 1 3, pieceQ (insOf arg1 arg3 arg5 arg7 arg9 arg12 arg17 arg18 arg19 X_arg1 X_arg3 X_arg5 X_arg7 X_arg9 X_arg12 X_arg17 X_arg18 X_arg19) v298 k 1 2, pieceQ (insOf arg1 arg3 arg5 arg7 arg9 arg12 arg17 arg18 arg19 X_arg1 X_arg3 X_arg5 X_arg7 X_arg9 X_arg12 X_arg17 X_arg18 X_arg19) v298 k 1 1, pieceQ (insOf arg1 arg3 arg5 arg7 arg9 arg12 arg17 arg18 arg19 X_arg1 X_arg3 X_arg5 X_arg7 X_arg9 X_arg12 X_arg17 X_arg18 X_arg19) v298 k 1 0,
         pieceQ (insOf arg1 arg3 arg5 arg7 arg9 arg12 arg17 arg18 arg19 X_arg1 X_arg3 X_arg5 X_arg7 X_arg9 X_arg12 X_arg17 X_arg18 X_arg19) v298 k 0 3, pieceQ (insOf arg1 arg3 arg5 arg7 arg9 arg12 arg17 arg18 arg19 X_arg1 X_arg3 X_arg5 X_arg7 X_arg9 X_arg12 X_arg17 X_arg18 X_arg19) v298 k 0 2, pieceQ (insOf arg1 arg3 arg5 arg7 arg9 arg12 arg17 arg18 arg19 X_arg1 X_arg3 X_arg5 X_arg7 X_arg9 X_arg12 X_arg17 X_arg18 X_arg19) v298 k 0 1, pieceQ (insOf arg1 arg3 arg5 arg7 arg9 arg12 arg17 arg18 arg19 X_arg1 X_arg3 X_arg5 X_arg7 X_arg9 X_arg12 X_arg17 X_arg18 X_arg19) v298 k 0 0] := by
  sl_kernel_rfl

theorem trip_accq :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k).2.2.1 f13 f14 f20 f21
      = accQ arg20.view (arg20.view.read (Elt F) f20) (insOf arg1 arg3 arg5 arg7 arg9 arg12 arg17 arg18 arg19 X_arg1 X_arg3 X_arg5 X_arg7 X_arg9 X_arg12 X_arg17 X_arg18 X_arg19) v298 k := by
  sl_kernel_rfl

theorem trip_acck :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k).2.2.2.1 f13 f14 f20 f21
      = group (loadAt (arg21.view.read (Elt F) f21)) (addK (insOf arg1 arg3 arg5 arg7 arg9 arg12 arg17 arg18 arg19 X_arg1 X_arg3 X_arg5 X_arg7 X_arg9 X_arg12 X_arg17 X_arg18 X_arg19) v298 k) [] := by
  sl_kernel_rfl

end Cert.KernelIdeal.Gen.Group
-- ==== Proof.RowMath.lean ====
/-
  One row's mathematics over the extended reals: what the kernel computes for one (token, head) row of 128 codes, what
  the reference computes for it, and that the two are equal. The kernel leaves the row's two scales outside the sums and
  multiplies the gain into the rotation's table; the reference dequantises first. Codes may be any extended reals; the
  gradient's scale is a nonnegative real, the other scale is nonnegative, the gains are positive reals.
-/
module

public import Idealize.ShloMosaic.PureOps.Ideal

@[expose] public section

noncomputable section

namespace Cert.Rope

open Idealize.ShloMosaic
open scoped BigOperators

/-! ## Multiplying a sum by a nonnegative real -/

theorem coe_mul_add (r : ℝ) (hr : 0 ≤ r) (x y : EReal) : (r : EReal) * (x + y) = r * x + r * y :=
  EReal.left_distrib_of_nonneg_of_ne_top (EReal.coe_nonneg.mpr hr) (EReal.coe_ne_top r) x y

theorem coe_mul_sub (r : ℝ) (hr : 0 ≤ r) (x y : EReal) : (r : EReal) * (x - y) = r * x - r * y := by
  rw [sub_eq_add_neg, coe_mul_add r hr, mul_neg, ← sub_eq_add_neg]

theorem coe_mul_sum {ι : Type} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add r hr, ih]

/-- A sum of nonnegative terms may be multiplied term by term, by anything. -/
theorem nonneg_sum_mul {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a) (Finset.sum_nonneg fun i _ => hf i), ih]

theorem mul_self_nonneg' (x : EReal) : 0 ≤ x * x := by
  rcases le_total 0 x with h | h
  · exact mul_nonneg h h
  · have h' : 0 ≤ -x := by simpa using EReal.neg_le_neg_iff.mpr h
    have := mul_nonneg h' h'
    simpa [neg_mul, mul_neg] using this

/-! ## The row -/

/-- The rotation backwards: coordinate `k` of the gradient before it, from coordinates `k` and `k ± 64` after it. -/
def rot (D : Fin 128 → EReal) (C S : Fin 64 → EReal) (k : Fin 128) : EReal :=
  if h : k.val < 64 then D k * C ⟨k.val, h⟩ + D ⟨k.val + 64, by omega⟩ * S ⟨k.val, h⟩
  else D k * C ⟨k.val - 64, by omega⟩ - D ⟨k.val - 64, by omega⟩ * S ⟨k.val - 64, by omega⟩

/-- The same with the gain of coordinate `k` multiplied into the table first, as the kernel does. -/
def rotG (D : Fin 128 → EReal) (C S : Fin 64 → EReal) (γ : Fin 128 → EReal) (k : Fin 128) : EReal :=
  if h : k.val < 64 then D k * (C ⟨k.val, h⟩ * γ k) + D ⟨k.val + 64, by omega⟩ * (S ⟨k.val, h⟩ * γ k)
  else D k * (C ⟨k.val - 64, by omega⟩ * γ k) - D ⟨k.val - 64, by omega⟩ * (S ⟨k.val - 64, by omega⟩ * γ k)

/-- The literal both programs add to a mean square. -/
def eps : EReal := Ideal.ofBits .f32 0x358637bd#32

/-- The reciprocal root of the row's mean square, by the kernel: the scale outside the sum. -/
def kR (X : Fin 128 → EReal) (b : EReal) : EReal :=
  Ideal.rsqrt ((∑ k, X k * X k) * (b * b * (1 / 128 : ℝ)) + eps)

/-- The row's result, by the kernel. -/
def kDx (D X : Fin 128 → EReal) (a b : EReal) (C S : Fin 64 → EReal) (γ : Fin 128 → EReal) (k : Fin 128) : EReal :=
  a * kR X b * rotG D C S γ k
    - a * kR X b * (b * b * (kR X b * kR X b)) * ((∑ j, rotG D C S γ j * X j) * (1 / 128 : ℝ)) * X k

/-- What the kernel adds to the gain's accumulator for the row. -/
def kDg (D X : Fin 128 → EReal) (a b : EReal) (C S : Fin 64 → EReal) (γ : Fin 128 → EReal) (k : Fin 128) : EReal :=
  rotG D C S γ k * X k * (a * kR X b * b)

/-- The reciprocal root of the row's mean square, by the reference. -/
def rR (X : Fin 128 → EReal) (b : EReal) : EReal :=
  Ideal.rsqrt (Ideal.div (∑ k, X k * b * (X k * b)) (128 : ℝ) + eps)

/-- The row's result, by the reference. -/
def rDx (D X : Fin 128 → EReal) (a b : EReal) (C S : Fin 64 → EReal) (γ : Fin 128 → EReal) (k : Fin 128) : EReal :=
  rR X b * (rot (fun j => D j * a) C S k * γ k
    - X k * b * rR X b * Ideal.div (∑ j, rot (fun i => D i * a) C S j * γ j * (X j * b * rR X b)) (128 : ℝ))

/-- The row's term of the gain's gradient, by the reference. -/
def rDg (D X : Fin 128 → EReal) (a b : EReal) (C S : Fin 64 → EReal) (k : Fin 128) : EReal :=
  rot (fun j => D j * a) C S k * (X k * b * rR X b)

theorem div_128 (x : EReal) : Ideal.div x (128 : ℝ) = x * (1 / 128 : ℝ) := by
  unfold Ideal.div
  rw [if_neg (by exact_mod_cast (by norm_num : (128 : ℝ) ≠ 0)), ← EReal.coe_inv]
  norm_num

theorem eps_pos : ∃ e : ℝ, 0 < e ∧ eps = (e : EReal) := by
  unfold eps Ideal.ofBits Ideal.ieee
  have h1 : ((0x358637bd#32).extractLsb' (8 + 23) 1 == 1#1) = false := by decide
  have h2 : ((0x358637bd#32).extractLsb' 23 8).toNat = 107 := by decide
  have h3 : ((0x358637bd#32).extractLsb' 0 23).toNat = 407485 := by decide
  simp only [h1, h2, h3]
  norm_num

theorem rot_scale (D : Fin 128 → EReal) (C S : Fin 64 → EReal) (a : ℝ) (ha : 0 ≤ a) (k : Fin 128) :
    rot (fun j => D j * a) C S k = a * rot D C S k := by
  unfold rot
  dsimp only
  split
  · rw [coe_mul_add a ha]; congr 1 <;> ac_rfl
  · rw [coe_mul_sub a ha]; congr 1 <;> ac_rfl

theorem rotG_eq (D : Fin 128 → EReal) (C S : Fin 64 → EReal) (γ : Fin 128 → EReal) (k : Fin 128) (c : ℝ) (hc : 0 ≤ c)
    (hγ : γ k = c) : rotG D C S γ k = c * rot D C S k := by
  unfold rot rotG
  rw [hγ]
  split
  · rw [coe_mul_add c hc]; congr 1 <;> ac_rfl
  · rw [coe_mul_sub c hc]; congr 1 <;> ac_rfl

theorem sum_sq_nonneg (X : Fin 128 → EReal) : 0 ≤ ∑ k, X k * X k :=
  Finset.sum_nonneg fun k _ => mul_self_nonneg' (X k)

/-- The two programs' mean squares agree. -/
theorem rR_eq (X : Fin 128 → EReal) (b : EReal) : rR X b = kR X b := by
  unfold rR kR
  have : (∑ k, X k * b * (X k * b)) = (∑ k, X k * X k) * (b * b) := by
    rw [nonneg_sum_mul _ _ (fun k => mul_self_nonneg' (X k))]
    exact Finset.sum_congr rfl fun k _ => by ac_rfl
  rw [div_128, this, mul_assoc]

/-- `rsqrt` of a positive extended real is a nonnegative real. -/
theorem rsqrt_real (x : EReal) (hx : 0 < x) : ∃ r : ℝ, 0 ≤ r ∧ Ideal.rsqrt x = r := by
  induction x with
  | bot => simp at hx
  | top => exact ⟨0, le_rfl, rfl⟩
  | coe y =>
    have hy : 0 < y := by exact_mod_cast hx
    refine ⟨(Real.sqrt y)⁻¹, by positivity, ?_⟩
    show (if y < 0 then (⊥ : EReal) else if y = 0 then ⊤ else ((Real.sqrt y)⁻¹ : ℝ)) = _
    rw [if_neg (not_lt.mpr hy.le), if_neg hy.ne']

theorem kR_arg_pos (X : Fin 128 → EReal) (b : EReal) : 0 < (∑ k, X k * X k) * (b * b * (1 / 128 : ℝ)) + eps := by
  obtain ⟨e, he, heq⟩ := eps_pos
  rw [heq]
  have h1 : (0 : EReal) ≤ (∑ k, X k * X k) * (b * b * (1 / 128 : ℝ)) :=
    mul_nonneg (sum_sq_nonneg X) (mul_nonneg (mul_self_nonneg' b) (by exact_mod_cast (by norm_num : (0 : ℝ) ≤ 1 / 128)))
  have h2 : (0 : EReal) < (e : EReal) := by exact_mod_cast he
  exact lt_of_lt_of_le h2 (by simpa using add_le_add_left h1 (e : EReal))

theorem kR_real (X : Fin 128 → EReal) (b : EReal) : ∃ r : ℝ, 0 ≤ r ∧ kR X b = r :=
  rsqrt_real _ (kR_arg_pos X b)

/-- The normalised row is the codes times a nonnegative real: where the scale is infinite, either the row is zero or the
    reciprocal root is. -/
theorem beta (X : Fin 128 → EReal) (b : EReal) (hb : 0 ≤ b) :
    ∃ β : ℝ, 0 ≤ β ∧ ∀ k, X k * (b * kR X b) = X k * β := by
  obtain ⟨r, hr, hreq⟩ := kR_real X b
  induction b with
  | bot => simp at hb
  | coe b =>
    have hb' : 0 ≤ b := by exact_mod_cast hb
    exact ⟨b * r, mul_nonneg hb' hr, fun k => by rw [hreq, ← EReal.coe_mul]⟩
  | top =>
    refine ⟨0, le_rfl, fun k => ?_⟩
    by_cases h : ∑ k, X k * X k = 0
    · have hk : X k * X k = 0 := (Finset.sum_eq_zero_iff_of_nonneg fun i _ => mul_self_nonneg' (X i)).mp h k (Finset.mem_univ k)
      have : X k = 0 := by simpa using hk
      simp [this]
    · have h1 : 0 < ∑ k, X k * X k := lt_of_le_of_ne (sum_sq_nonneg X) (Ne.symm h)
      have hr0 : kR X ⊤ = 0 := by
        unfold kR
        have h2 : (⊤ : EReal) * ⊤ * ((1 / 128 : ℝ) : EReal) = ⊤ := by
          rw [EReal.top_mul_top, EReal.top_mul_coe_of_pos (by norm_num)]
        obtain ⟨e, he, heq⟩ := eps_pos
        rw [h2, EReal.mul_top_of_pos h1, heq, EReal.top_add_coe]
        rfl
      rw [hr0]; simp

section
variable (D X : Fin 128 → EReal) (a b : EReal) (C S : Fin 64 → EReal) (γ : Fin 128 → EReal)

/-- The row's result is the same by both programs. -/
theorem kDx_eq_rDx (ha : 0 ≤ a) (ha' : a < ⊤) (hb : 0 ≤ b) (hγ : ∀ k, 0 < γ k) (hγ' : ∀ k, γ k < ⊤) (k : Fin 128) :
    kDx D X a b C S γ k = rDx D X a b C S γ k := by
  obtain ⟨α, rfl⟩ : ∃ α : ℝ, a = α := ⟨a.toReal, (EReal.coe_toReal ha'.ne (ne_of_gt (lt_of_lt_of_le EReal.bot_lt_zero ha))).symm⟩
  have hα : 0 ≤ α := by exact_mod_cast ha
  have hc : ∀ j, ∃ c : ℝ, 0 ≤ c ∧ γ j = c := fun j =>
    ⟨(γ j).toReal, EReal.toReal_nonneg (hγ j).le, (EReal.coe_toReal (hγ' j).ne (ne_of_gt (lt_trans EReal.bot_lt_zero (hγ j)))).symm⟩
  obtain ⟨r, hr, hreq⟩ := kR_real X b
  obtain ⟨β, hβ, hβeq⟩ := beta X b hb
  have hG : ∀ j, rot (fun i => D i * α) C S j * γ j = α * rotG D C S γ j := fun j => by
    obtain ⟨c, hc0, hcj⟩ := hc j
    rw [rot_scale D C S α hα, rotG_eq D C S γ j c hc0 hcj, hcj]; ac_rfl
  have hX : ∀ j, X j * b * kR X b = X j * β := fun j => by rw [mul_assoc, hβeq]
  unfold rDx kDx
  rw [rR_eq, div_128]
  simp only [hG, hX]
  have hs : (∑ j, (α : EReal) * rotG D C S γ j * (X j * β)) = (α * β : ℝ) * ∑ j, rotG D C S γ j * X j := by
    rw [coe_mul_sum _ (mul_nonneg hα hβ)]
    exact Finset.sum_congr rfl fun j _ => by rw [EReal.coe_mul]; ac_rfl
  rw [hs, hreq, coe_mul_sub r hr, EReal.coe_mul]
  generalize (∑ j, rotG D C S γ j * X j) = M
  have hXX : b * b * ((r : EReal) * r) * X k = X k * β * β := by
    rw [← hβeq, hreq, show X k * (b * (r : EReal)) * β = (X k * β) * (b * r) by ac_rfl, ← hβeq, hreq]; ac_rfl
  congr 1
  · ac_rfl
  · calc (α : EReal) * r * (b * b * (r * r)) * (M * (1 / 128 : ℝ)) * X k
        = α * r * (M * (1 / 128 : ℝ)) * (b * b * ((r : EReal) * r) * X k) := by ac_rfl
      _ = _ := by rw [hXX]; ac_rfl

/-- What the kernel accumulates is the reference's term times the gain. -/
theorem kDg_eq (ha : 0 ≤ a) (ha' : a < ⊤) (k : Fin 128) (c : ℝ) (hc : 0 ≤ c) (hγ : γ k = c) :
    kDg D X a b C S γ k = c * rDg D X a b C S k := by
  obtain ⟨α, rfl⟩ : ∃ α : ℝ, a = α := ⟨a.toReal, (EReal.coe_toReal ha'.ne (ne_of_gt (lt_of_lt_of_le EReal.bot_lt_zero ha))).symm⟩
  have hα : 0 ≤ α := by exact_mod_cast ha
  unfold kDg rDg
  rw [rR_eq, rot_scale D C S α hα, rotG_eq D C S γ k c hc hγ]
  ac_rfl

end

/-- Dividing by the gain a sum of terms that all carry it leaves the sum of the terms. -/
theorem div_gain_sum {ι : Type} (c : ℝ) (hc : 0 < c) (s : Finset ι) (f : ι → EReal) :
    Ideal.div (∑ i ∈ s, (c : EReal) * f i) c = ∑ i ∈ s, f i := by
  unfold Ideal.div
  rw [if_neg (by exact_mod_cast hc.ne'), ← coe_mul_sum c hc.le, ← EReal.coe_inv,
    show (c : EReal) * (∑ i ∈ s, f i) * (c⁻¹ : ℝ) = (∑ i ∈ s, f i) * ((c : EReal) * (c⁻¹ : ℝ)) by ac_rfl,
    ← EReal.coe_mul, mul_inv_cancel₀ hc.ne', EReal.coe_one, mul_one]

end Cert.Rope

end
-- ==== Proof.GroupVal.lean ====
module

public import proofs.«01_k».proof.Proof.Group
public import proofs.«01_k».proof.Proof.RowMath
public import Idealize.ShloMosaic.Lib.Pointwise
public import Idealize.ShloMosaic.Lib.ValueIdx

/-! # A group's values over the reals

Lane `l` of a group holds one row. What the group's operations compute in that lane is what `RowMath` says the kernel
computes for the row. -/

@[expose] public section
set_option maxRecDepth 8192
noncomputable section
namespace Cert.KernelIdeal.Gen.Group
open Idealize.ShloMosaic Idealize.ShloMosaic.TcCoe Idealize.ShloMosaic.Tactic
open Cert.Rope
open scoped BigOperators

/-- Element `k` of the row in lane `l`. -/
def el (v : Fin 16 → Vc Ideal) (l : Fin 128) (k : Fin 128) : EReal :=
  v ⟨k.val / 8, by omega⟩ (ix2 ⟨k.val % 8, by omega⟩ l)

/-- A sum over sixteen vectors and eight sublanes is a sum over the row. -/
theorem sum_row (f : Fin 16 → Fin 8 → EReal) :
    ∑ s : Fin 8, ∑ j : Fin 16, f j s = ∑ k : Fin 128, f ⟨k.val / 8, by omega⟩ ⟨k.val % 8, by omega⟩ := by
  rw [Finset.sum_comm, ← Fintype.sum_prod_type']
  exact Fintype.sum_equiv (finProdFinEquiv (m := 16) (n := 8)) _ _ fun p => by
    obtain ⟨j, s⟩ := p
    have h1 : (s.val + 8 * j.val) / 8 = j.val := by omega
    have h2 : (s.val + 8 * j.val) % 8 = s.val := by omega
    simp only [finProdFinEquiv_apply_val, h1, h2]

theorem chain_apply (f : Fin 16 → Vc Ideal) (i : S8x128.Idx) : chain f i = ∑ j, f j i := by
  simp only [chain, Fin.sum_univ_castSucc, Finset.univ_eq_empty, Finset.sum_empty, zero_add]
  rfl

theorem subs_apply (x : Vc Ideal) (l : Fin 128) : subs x (ix2 0 l) = ∑ s : Fin 8, x (ix2 s l) := by
  unfold subs
  pointwise

theorem ss_apply (x : Fin 16 → Vc Ideal) (l : Fin 128) : ss x (ix2 0 l) = ∑ k, el x l k * el x l k := by
  unfold ss
  rw [subs_apply]
  simp only [chain_apply]
  exact sum_row fun j s => x j (ix2 s l) * x j (ix2 s l)

theorem ord_bij : Function.Bijective ord := by decide

/-- The order of the sixteen terms does not matter. -/
theorem mm_apply (d x t0 t1 : Fin 16 → Vc Ideal) (l : Fin 128) :
    mm d x t0 t1 (ix2 0 l) = ∑ k, el (yy d x t0 t1) l k := by
  unfold mm
  rw [subs_apply]
  simp only [chain_apply]
  rw [show (∑ s : Fin 8, ∑ n : Fin 16, yy d x t0 t1 (ord n) (ix2 s l)) = ∑ s : Fin 8, ∑ j : Fin 16, yy d x t0 t1 j (ix2 s l) from
    Finset.sum_congr rfl fun s _ => ord_bij.sum_comp fun j => yy d x t0 t1 j (ix2 s l)]
  exact sum_row fun j s => yy d x t0 t1 j (ix2 s l)

theorem lit_inv128 : Ideal.ofBits .f32 0x3C000000#32 = ((1 / 128 : ℝ) : EReal) := by
  unfold Ideal.ofBits Ideal.ieee
  have h1 : ((0x3C000000#32).extractLsb' (8 + 23) 1 == 1#1) = false := by decide
  have h2 : ((0x3C000000#32).extractLsb' 23 8).toNat = 120 := by decide
  have h3 : ((0x3C000000#32).extractLsb' 0 23).toNat = 0 := by decide
  simp only [h1, h2, h3]
  norm_num

theorem lit_one : Ideal.ofBits .f32 0x3F800000#32 = (1 : EReal) := by
  unfold Ideal.ofBits Ideal.ieee
  have h1 : ((0x3F800000#32).extractLsb' (8 + 23) 1 == 1#1) = false := by decide
  have h2 : ((0x3F800000#32).extractLsb' 23 8).toNat = 127 := by decide
  have h3 : ((0x3F800000#32).extractLsb' 0 23).toNat = 0 := by decide
  simp only [h1, h2, h3]
  norm_num

theorem rr_apply (x : Fin 16 → Vc Ideal) (b : Rw Ideal) (l : Fin 128) :
    rr x b (ix2 0 l) = kR (el x l) (b (ix2 0 l)) := by
  show Ideal.rsqrt (ss x (ix2 0 l) * (b (ix2 0 l) * b (ix2 0 l) * Ideal.ofBits .f32 0x3C000000#32) + Ideal.ofBits .f32 0x358637BD#32) = _
  rw [ss_apply, lit_inv128]
  rfl

theorem pp_apply (x : Fin 16 → Vc Ideal) (a b : Rw Ideal) (l : Fin 128) :
    pp x a b (ix2 0 l) = a (ix2 0 l) * kR (el x l) (b (ix2 0 l)) := by
  rw [← rr_apply]; rfl

theorem ww_apply (x : Fin 16 → Vc Ideal) (a b : Rw Ideal) (l : Fin 128) :
    ww x a b (ix2 0 l) = a (ix2 0 l) * kR (el x l) (b (ix2 0 l)) * b (ix2 0 l) := by
  rw [← pp_apply]
  show pp x a b (ix2 0 l) * b (ix2 0 l) * Ideal.ofBits .f32 0x3F800000#32 = _
  rw [lit_one, mul_one]

/-- The tables of a lane: the cosines `C` and sines `S` of its token, times the gain. -/
structure Tables (t0 t1 : Fin 16 → Vc Ideal) (l : Fin 128) (C S : Fin 64 → EReal) (γ : Fin 128 → EReal) : Prop where
  cos : ∀ k : Fin 128, el t0 l k = C ⟨k.val % 64, by omega⟩ * γ k
  sin : ∀ k : Fin 128, el t1 l k = S ⟨k.val % 64, by omega⟩ * γ k

variable {d x t0 t1 : Fin 16 → Vc Ideal} {a b : Rw Ideal} {l : Fin 128} {C S : Fin 64 → EReal} {γ : Fin 128 → EReal}

theorem gg_apply (h : Tables t0 t1 l C S γ) (k : Fin 128) : el (gg d t0 t1) l k = rotG (el d l) C S γ k := by
  have hc := h.cos k
  have hs := h.sin k
  unfold el gg rotG at *
  by_cases hk : k.val < 64
  · rw [if_pos (show k.val / 8 < 8 by omega), dif_pos hk]
    have e1 : (⟨k.val / 8, by omega⟩ : Fin 16) + 8 = ⟨(k.val + 64) / 8, by omega⟩ := Fin.ext (by show (k.val / 8 + 8) % 16 = (k.val + 64) / 8; omega)
    have e2 : (⟨k.val % 8, by omega⟩ : Fin 8) = ⟨(k.val + 64) % 8, by omega⟩ := Fin.ext (by show k.val % 8 = (k.val + 64) % 8; omega)
    have e3 : (⟨k.val % 64, by omega⟩ : Fin 64) = ⟨k.val, hk⟩ := Fin.ext (by show k.val % 64 = k.val; omega)
    rw [e3] at hc hs
    show d _ _ * t0 _ _ + d _ _ * t1 _ _ = _
    rw [hc, hs, e1]
    simp only [← e2]
  · rw [if_neg (show ¬ k.val / 8 < 8 by omega), dif_neg hk]
    have e1 : (⟨k.val / 8, by omega⟩ : Fin 16) - 8 = ⟨(k.val - 64) / 8, by omega⟩ := Fin.ext (by show (16 - 8 + k.val / 8) % 16 = (k.val - 64) / 8; omega)
    have e2 : (⟨k.val % 8, by omega⟩ : Fin 8) = ⟨(k.val - 64) % 8, by omega⟩ := Fin.ext (by show k.val % 8 = (k.val - 64) % 8; omega)
    have e3 : (⟨k.val % 64, by omega⟩ : Fin 64) = ⟨k.val - 64, by omega⟩ := Fin.ext (by show k.val % 64 = k.val - 64; omega)
    rw [e3] at hc hs
    show d _ _ * t0 _ _ - d _ _ * t1 _ _ = _
    rw [hc, hs, e1]
    simp only [← e2]

theorem yy_apply (h : Tables t0 t1 l C S γ) (k : Fin 128) :
    el (yy d x t0 t1) l k = rotG (el d l) C S γ k * el x l k := by
  rw [← gg_apply h]; rfl

/-- What the group adds to element `k` of the gain's gradient in lane `l`. -/
theorem yw_apply (h : Tables t0 t1 l C S γ) (k : Fin 128) :
    el (yw d x t0 t1 a b) l k = kDg (el d l) (el x l) (a (ix2 0 l)) (b (ix2 0 l)) C S γ k := by
  unfold kDg
  rw [← yy_apply h, ← ww_apply]
  show yy d x t0 t1 _ _ * broadcastTo S8x128 (ww x a b) broadcasts_S1x128_S8x128 _ = _
  congr 1
  pointwise

theorem qq_apply (h : Tables t0 t1 l C S γ) :
    qq d x t0 t1 a b (ix2 0 l) = a (ix2 0 l) * kR (el x l) (b (ix2 0 l))
      * (b (ix2 0 l) * b (ix2 0 l) * (kR (el x l) (b (ix2 0 l)) * kR (el x l) (b (ix2 0 l))))
      * ((∑ j, rotG (el d l) C S γ j * el x l j) * (1 / 128 : ℝ)) := by
  show pp x a b (ix2 0 l) * (b (ix2 0 l) * b (ix2 0 l) * (rr x b (ix2 0 l) * rr x b (ix2 0 l)))
    * (mm d x t0 t1 (ix2 0 l) * Ideal.ofBits .f32 0x3C000000#32) = _
  rw [pp_apply, rr_apply, mm_apply, lit_inv128]
  simp only [yy_apply h]

theorem dx_apply (h : Tables t0 t1 l C S γ) (k : Fin 128) :
    dx d x t0 t1 a b ⟨k.val / 8, by omega⟩ (ix2 ⟨k.val % 8, by omega⟩ l)
      = kDx (el d l) (el x l) (a (ix2 0 l)) (b (ix2 0 l)) C S γ k := by
  unfold kDx
  rw [← qq_apply h, ← gg_apply h, ← pp_apply]
  show broadcastTo S8x128 (pp x a b) broadcasts_S1x128_S8x128 _ * gg d t0 t1 _ _
    - broadcastTo S8x128 (qq d x t0 t1 a b) broadcasts_S1x128_S8x128 _ * x _ _ = _
  congr 2 <;> pointwise

/-- Row `l` of the group's result. -/
theorem outT_apply (h : Tables t0 t1 l C S γ) (k : Fin 128) :
    outT d x t0 t1 a b (ix2 l k) = kDx (el d l) (el x l) (a (ix2 0 l)) (b (ix2 0 l)) C S γ k := by
  rw [← dx_apply h]
  unfold outT
  have ht := transpose_apply (s := S128x128) (t := S128x128) [1, 0] (concatenate S128x128 0
      (List.ofFn fun j : Fin 16 => (⟨S8x128, dx d x t0 t1 a b j⟩ : (s : Shape) × (s.Idx → EReal))) concatenates_S8x128_S8x128_S8x128_S8x128_S8x128_S8x128_S8x128_S8x128_S8x128_S8x128_S8x128_S8x128_S8x128_S8x128_S8x128_S8x128_S128x128_d0)
    transposes_S128x128_p1_0_S128x128 (ix2 l k) (ix2 k l) (by intro b; fin_cases b <;> rfl)
  refine Eq.trans ht ?_
  exact concatenate_ofFn_apply (t := S128x128) (s₁ := S8x128) 0 (fun j => dx d x t0 t1 a b j) _ rfl 8 rfl (ix2 k l) ⟨k.val / 8, by omega⟩ rfl
    (ix2 ⟨k.val % 8, by omega⟩ l) rfl (by intro b hb; fin_cases b <;> first | rfl | exact absurd rfl hb)

end Cert.KernelIdeal.Gen.Group
-- ==== Proof.TripVal.lean ====
module

public import proofs.«01_k».proof.Proof.Trip
public import proofs.«01_k».proof.Proof.GroupVal

/-! # What a trip's groups hold, in terms of the step's rows

A step handles 128 tokens. `Arr` names its codes, scales, tables and gains by token and head; `Holds` says that the
arrays a trip reads hold them. Then each lane of each group is one row of the step. -/

@[expose] public section
set_option maxRecDepth 8192
noncomputable section
namespace Cert.KernelIdeal.Gen.Group
open Idealize.ShloMosaic Idealize.ShloMosaic.TcCoe Idealize.ShloMosaic.Tactic
open Cert.Rope
open scoped BigOperators

/-- A step's rows: codes, scales, the tokens' cosines and sines, the gains. -/
structure Arr where
  Dq : Fin 128 → Fin 96 → Fin 128 → EReal
  Xq : Fin 128 → Fin 96 → Fin 128 → EReal
  Aq : Fin 128 → Fin 96 → EReal
  Bq : Fin 128 → Fin 96 → EReal
  Dk : Fin 128 → Fin 8 → Fin 128 → EReal
  Xk : Fin 128 → Fin 8 → Fin 128 → EReal
  Ak : Fin 128 → Fin 8 → EReal
  Bk : Fin 128 → Fin 8 → EReal
  C : Fin 128 → Fin 64 → EReal
  S : Fin 128 → Fin 64 → EReal
  γq : Fin 128 → EReal
  γk : Fin 128 → EReal

/-- The arrays a trip reads hold the step's rows; the two scale arrays hold one number to a lane. -/
structure Holds (I : Ins Ideal) (A : Arr) : Prop where
  dq : ∀ t h e, I.dq (ix3 t h e) = A.Dq t h e
  xq : ∀ t h e, I.xq (ix3 t h e) = A.Xq t h e
  dk : ∀ (t : Fin 128) (h : Fin 8) e, I.dk (ix2 ⟨8 * t.val + h.val, by omega⟩ e) = A.Dk t h e
  xk : ∀ (t : Fin 128) (h : Fin 8) e, I.xk (ix2 ⟨8 * t.val + h.val, by omega⟩ e) = A.Xk t h e
  eye : ∀ i j : Fin 256, I.eye (ix2 i j) = if i = j then (1 : EReal) else 0
  cos : ∀ t (p : Fin 64), I.tab (ix2 ⟨p.val, by omega⟩ t) = A.C t p
  sin : ∀ t (p : Fin 64), I.tab (ix2 ⟨p.val + 64, by omega⟩ t) = A.S t p
  gq : ∀ e l, I.g (ix3 0 e l) = A.γq e
  gk : ∀ e l, I.g (ix3 1 e l) = A.γk e
  aq : ∀ (h : Fin 3) (r : Fin 32) (l : Fin 128), I.sq (ix3 ⟨h.val, by omega⟩ r l) = A.Aq ⟨4 * r.val + l.val / 32, by omega⟩ ⟨32 * h.val + l.val % 32, by omega⟩
  bq : ∀ (h : Fin 3) (r : Fin 32) (l : Fin 128), I.sq (ix3 ⟨h.val + 3, by omega⟩ r l) = A.Bq ⟨4 * r.val + l.val / 32, by omega⟩ ⟨32 * h.val + l.val % 32, by omega⟩
  ak : ∀ (r : Fin 8) (l : Fin 128), I.sk (ix3 0 r l) = A.Ak ⟨16 * r.val + l.val / 8, by omega⟩ ⟨l.val % 8, by omega⟩
  bk : ∀ (r : Fin 8) (l : Fin 128), I.sk (ix3 1 r l) = A.Bk ⟨16 * r.val + l.val / 8, by omega⟩ ⟨l.val % 8, by omega⟩

theorem trip_lt (k : Fin k0_t1_loop.trips) : k.val < 8 := lt_of_lt_of_le k.isLt k0_t1_abs.2.1

/-! ## Offsets -/

theorem offLo_eq : ∀ (k : Fin k0_t1_loop.trips) (h : Fin 3), offLo k h = ![16 * k.val, 32 * h.val, 0] := by decide +kernel
theorem offUp_eq : ∀ (k : Fin k0_t1_loop.trips) (h : Fin 3), offUp k h = ![16 * k.val + 8, 32 * h.val, 0] := by decide +kernel
theorem offA_eq : ∀ (k : Fin k0_t1_loop.trips) (h : Fin 3) (tq : Fin 4), offA k h tq = ![h.val, 4 * k.val + tq.val, 0] := by decide +kernel
theorem offB_eq : ∀ (k : Fin k0_t1_loop.trips) (h : Fin 3) (tq : Fin 4), offB k h tq = ![h.val + 3, 4 * k.val + tq.val, 0] := by decide +kernel
theorem offOut_eq : ∀ (k : Fin k0_t1_loop.trips) (h : Fin 3) (tq : Fin 4), offOut k h tq = ![16 * k.val + 4 * tq.val, 32 * h.val, 0] := by decide +kernel
theorem offK_eq : ∀ k : Fin k0_t1_loop.trips, k0_off16 k = ![128 * k.val, 0] := by decide +kernel
theorem offAK_eq : ∀ k : Fin k0_t1_loop.trips, k0_off17 k = ![0, k.val, 0] := by decide +kernel
theorem offBK_eq : ∀ k : Fin k0_t1_loop.trips, k0_off18 k = ![1, k.val, 0] := by decide +kernel

/-! ## Tokens -/

/-- Each lane's number. -/
def Lanes (v298 : IVec S8x128 32) : Prop := ∀ s l, v298 (ix2 s l) = BitVec.ofNat 32 l.val

theorem tokens_at (n : Nat) (hn : n = 32 ∨ n = 8) (v298 : IVec S8x128 32) (hv : Lanes v298) (base : Nat) (s : Fin 8) (l : Fin 128) :
    tokens v298 (BitVec.ofNat 32 n) (BitVec.ofNat 32 base) (ix2 s l) = BitVec.ofNat 32 (base + l.val / n) := by
  have key : ∀ l : Fin 128, (tokens (fun _ => BitVec.ofNat 32 l.val) (BitVec.ofNat 32 n) 0#32 : IVec S8x128 32) (ix2 0 0) = BitVec.ofNat 32 (l.val / n) := by
    rcases hn with rfl | rfl <;> decide +kernel
  have h : tokens v298 (BitVec.ofNat 32 n) (BitVec.ofNat 32 base) (ix2 s l)
      = (tokens (fun _ => v298 (ix2 s l)) (BitVec.ofNat 32 n) 0#32 : IVec S8x128 32) (ix2 0 0) + BitVec.ofNat 32 base := by
    show _ + BitVec.ofNat 32 base = _ + 0#32 + BitVec.ofNat 32 base
    rw [BitVec.add_zero]; rfl
  rw [h, hv, key, ← BitVec.ofNat_add, Nat.add_comm]

theorem base_eq : ∀ (k : Fin k0_t1_loop.trips) (tq : Fin 4),
    Scalar.addi (k0_mult1 k) (BitVec.ofNat 32 (4 * tq.val)) = BitVec.ofNat 32 (16 * k.val + 4 * tq.val) := by decide +kernel
theorem baseK_eq : ∀ k : Fin k0_t1_loop.trips, k0_mult1 k = BitVec.ofNat 32 (16 * k.val) := by decide +kernel

theorem gather_word : ∀ t : Fin 128, (Scalar.select (IntOp.cmpi CmpIPredicate.slt (BitVec.ofNat 32 t.val) 0#32)
    (IntOp.addi (BitVec.ofNat 32 t.val) 128#32) (BitVec.ofNat 32 t.val)).toNat % 128 = t.val := by decide +kernel

theorem gather_apply (z : Vc Ideal) (i : IVec S8x128 32) (s : Fin 8) (l : Fin 128) (t : Fin 128) (h : i (ix2 s l) = BitVec.ofNat 32 t.val) :
    gather z i (ix2 s l) = z (ix2 s t) := by
  unfold gather
  pointwise
  refine congrArg (fun u => z (ix2 s u)) (Fin.ext ?_)
  have h' := gather_word t
  rw [← h] at h'
  exact h'

/-! ## The transposed blocks -/

theorem ix3_eq {n₀ n₁ n₂ : Nat} (i : (⟨3, ![n₀, n₁, n₂]⟩ : Shape).Idx) (a : Fin n₀) (b : Fin n₁) (c : Fin n₂)
    (h0 : (i 0).val = a.val) (h1 : (i 1).val = b.val) (h2 : (i 2).val = c.val) : i = ix3 a b c := by
  funext j
  refine Fin.ext ?_
  match j with
  | 0 => exact h0
  | 1 => exact h1
  | 2 => exact h2

theorem ix2_eq {n₀ n₁ : Nat} (i : (⟨2, ![n₀, n₁]⟩ : Shape).Idx) (a : Fin n₀) (b : Fin n₁)
    (h0 : (i 0).val = a.val) (h1 : (i 1).val = b.val) : i = ix2 a b := by
  funext j
  refine Fin.ext ?_
  match j with
  | 0 => exact h0
  | 1 => exact h1

/-- Eight tokens of 32 heads as 256 rows. -/
theorem flat_apply {α : Type} (Y : S8x32x128.Idx → α) (r : Fin 256) (c : Fin 128) :
    shapeCast S256x128 (shapeCast S8x32x128 Y shapeCasts_S8x32x128_S8x32x128) shapeCasts_S8x32x128_S256x128 (ix2 r c)
      = Y (ix3 ⟨r.val / 32, by omega⟩ ⟨r.val % 32, by omega⟩ c) := by
  rw [shapeCast_self]
  refine shapeCast_apply Y _ _ _ ?_
  rw [Shape.rowMajor_val_three, Shape.rowMajor_val_two]
  show (r.val / 32 * 32 + r.val % 32) * 128 + c.val = r.val * 128 + c.val
  omega

theorem stack_apply {e : FTy} (X : S128x96x128.Idx → Ideal e) (k : Fin k0_t1_loop.trips) (h : Fin 3) (r c : Fin 256) :
    stack X k h (ix2 r c) = X (ix3 ⟨16 * k.val + 8 * (c.val / 128) + r.val / 32, by have := trip_lt k; omega⟩ ⟨32 * h.val + r.val % 32, by omega⟩ ⟨c.val % 128, by omega⟩) := by
  have hlo := offLo_eq k h
  have hup := offUp_eq k h
  unfold stack
  by_cases hc : c.val < 128
  · refine (concatenate_pair_apply_left (t := S256x256) (s₁ := S256x128) (s₂ := S256x128) 1 _ _ _ (ix2 r c) rfl (ix2 r ⟨c.val, hc⟩)
      (by intro b; fin_cases b <;> rfl)).trans ((flat_apply _ r _).trans ?_)
    refine congrArg X (ix3_eq _ _ _ _ ?_ ?_ ?_)
    · show offLo k h 0 + 1 * (r.val / 32) = 16 * k.val + 8 * (c.val / 128) + r.val / 32
      rw [hlo]; show 16 * k.val + _ = _; omega
    · show offLo k h 1 + 1 * (r.val % 32) = 32 * h.val + r.val % 32
      rw [hlo]; show 32 * h.val + _ = _; omega
    · show offLo k h 2 + 1 * c.val = c.val % 128
      rw [hlo]; show 0 + _ = _; omega
  · refine (concatenate_pair_apply_right (t := S256x256) (s₁ := S256x128) (s₂ := S256x128) 1 _ _ _ (ix2 r c) rfl rfl (ix2 r ⟨c.val - 128, by omega⟩)
      (by intro b hb; fin_cases b <;> first | rfl | exact absurd rfl hb) (by show c.val - 128 + 128 = c.val; omega)).trans ((flat_apply _ r _).trans ?_)
    refine congrArg X (ix3_eq _ _ _ _ ?_ ?_ ?_)
    · show offUp k h 0 + 1 * (r.val / 32) = 16 * k.val + 8 * (c.val / 128) + r.val / 32
      rw [hup]; show 16 * k.val + 8 + _ = _; omega
    · show offUp k h 1 + 1 * (r.val % 32) = 32 * h.val + r.val % 32
      rw [hup]; show 32 * h.val + _ = _; omega
    · show offUp k h 2 + 1 * (c.val - 128) = c.val % 128
      rw [hup]; show 0 + _ = _; omega

/-- A product with the unit matrix on the left, rows against rows, transposes. -/
theorem eye_sum {n : Nat} (E Y : Fin n → EReal) (i : Fin n) (hE : ∀ m, E m = if i = m then (1 : EReal) else 0) :
    ∑ m, E m * Y m = Y i := by
  rw [Finset.sum_eq_single i]
  · rw [hE, if_pos rfl, one_mul]
  · intro m _ hm
    rw [hE, if_neg (Ne.symm hm), zero_mul]
  · exact fun h => absurd (Finset.mem_univ i) h

theorem lit_zero : Ideal.ofBits .f32 0x00000000#32 = (0 : EReal) := by
  unfold Ideal.ofBits Ideal.ieee
  have h1 : ((0x00000000#32).extractLsb' (8 + 23) 1 == 1#1) = false := by decide
  have h2 : ((0x00000000#32).extractLsb' 23 8).toNat = 0 := by decide
  have h3 : ((0x00000000#32).extractLsb' 0 23).toNat = 0 := by decide
  simp only [h1, h2, h3]
  norm_num

theorem mmQ_apply {e : FTy} (I : Ins Ideal) (A : Arr) (H : Holds I A) (Y : FVec Ideal S256x256 e) (i n : Fin 256) :
    matmul dot_S256x256_S256x256_S256x256_1_1_0_0_n_n none (eyeQ I) Y (constant S256x256 .f32 0x00000000#32) (ix2 i n) = (Y (ix2 n i) : EReal) := by
  pointwise
  have hE : ∀ m, eyeQ I (ix2 i m) = if i = m then (1 : EReal) else 0 := fun m => by
    rw [← H.eye]
    unfold eyeQ
    refine (congrFun (shapeCast_self (s := S256x256) _ _) _).trans ?_
    exact congrArg I.eye (ix2_eq _ _ _ (by show 0 + 1 * i.val = i.val; omega) (by show 0 + 1 * m.val = m.val; omega))
  exact eye_sum _ _ i hE

theorem mmK_apply {e : FTy} (I : Ins Ideal) (A : Arr) (H : Holds I A) (Y : FVec Ideal S128x128 e) (i n : Fin 128) :
    matmul dot_S128x128_S128x128_S128x128_1_1_0_0_n_n none (eyeK I) Y (constant S128x128 .f32 0x00000000#32) (ix2 i n) = (Y (ix2 n i) : EReal) := by
  pointwise
  have hE : ∀ m, eyeK I (ix2 i m) = if i = m then (1 : EReal) else 0 := fun m => by
    have h := H.eye ⟨i.val, by omega⟩ ⟨m.val, by omega⟩
    simp only [Fin.mk.injEq, ← Fin.ext_iff] at h
    rw [← h]
    unfold eyeK
    refine (congrFun (shapeCast_self (s := S128x128) _ _) _).trans ?_
    exact congrArg I.eye (ix2_eq _ _ _ (by show 0 + 1 * i.val = i.val; omega) (by show 0 + 1 * m.val = m.val; omega))
  exact eye_sum _ _ i hE

theorem quarter_apply (z : FVec Ideal S256x256 .f32) (r c : Fin 2) (j : Fin 16) (s : Fin 8) (l : Fin 128) :
    quarter z r c j (ix2 s l) = z (ix2 ⟨128 * r.val + 8 * j.val + s.val, by omega⟩ ⟨128 * c.val + l.val, by omega⟩) := by
  unfold quarter
  pointwise

theorem rows_apply (z : FVec Ideal S128x128 .f32) (j : Fin 16) (s : Fin 8) (l : Fin 128) :
    rows z j (ix2 s l) = z (ix2 ⟨8 * j.val + s.val, by omega⟩ l) := by
  unfold rows
  pointwise

theorem row_apply (Y : S1x1x128.Idx → EReal) (l : Fin 128) :
    shapeCast S1x128 Y shapeCasts_S1x1x128_S1x128 (ix2 0 l) = Y (ix3 0 0 l) := by
  refine shapeCast_apply Y _ _ _ ?_
  rw [Shape.rowMajor_val_three, Shape.rowMajor_val_two]
  show (0 * 1 + 0) * 128 + l.val = 0 * 128 + l.val
  omega

variable {I : Ins Ideal} {A : Arr} (H : Holds I A) (k : Fin k0_t1_loop.trips) (h : Fin 3) (tq : Fin 4) (l : Fin 128)

/-- The token of lane `l` of a group of `q`, and its head. -/
def tokOf (k : Fin k0_t1_loop.trips) (tq : Fin 4) (l : Fin 128) : Fin 128 := ⟨16 * k.val + 4 * tq.val + l.val / 32, by have := trip_lt k; omega⟩
def headOf (h : Fin 3) (l : Fin 128) : Fin 96 := ⟨32 * h.val + l.val % 32, by omega⟩
/-- The token of lane `l` of the group of `k`, and its head. -/
def tokKOf (k : Fin k0_t1_loop.trips) (l : Fin 128) : Fin 128 := ⟨16 * k.val + l.val / 8, by have := trip_lt k; omega⟩
def headKOf (l : Fin 128) : Fin 8 := ⟨l.val % 8, by omega⟩

include H

theorem aQ_apply : aQ I k h tq (ix2 0 l) = A.Aq (tokOf k tq l) (headOf h l) := by
  unfold aQ
  rw [row_apply]
  refine Eq.trans (congrArg I.sq (ix3_eq _ ⟨h.val, by omega⟩ ⟨4 * k.val + tq.val, by have := trip_lt k; omega⟩ l ?_ ?_ ?_)) ((H.aq h _ l).trans ?_)
  · show offA k h tq 0 + 1 * 0 = h.val
    rw [offA_eq]; rfl
  · show offA k h tq 1 + 1 * 0 = 4 * k.val + tq.val
    rw [offA_eq]; rfl
  · show offA k h tq 2 + 1 * l.val = l.val
    rw [offA_eq]; show 0 + _ = _; omega
  · exact congrArg (A.Aq · _) (Fin.ext (by show 4 * (4 * k.val + tq.val) + l.val / 32 = 16 * k.val + 4 * tq.val + l.val / 32; omega))

theorem bQ_apply : bQ I k h tq (ix2 0 l) = A.Bq (tokOf k tq l) (headOf h l) := by
  unfold bQ
  rw [row_apply]
  refine Eq.trans (congrArg I.sq (ix3_eq _ ⟨h.val + 3, by omega⟩ ⟨4 * k.val + tq.val, by have := trip_lt k; omega⟩ l ?_ ?_ ?_)) ((H.bq h _ l).trans ?_)
  · show offB k h tq 0 + 1 * 0 = h.val + 3
    rw [offB_eq]; rfl
  · show offB k h tq 1 + 1 * 0 = 4 * k.val + tq.val
    rw [offB_eq]; rfl
  · show offB k h tq 2 + 1 * l.val = l.val
    rw [offB_eq]; show 0 + _ = _; omega
  · exact congrArg (A.Bq · _) (Fin.ext (by show 4 * (4 * k.val + tq.val) + l.val / 32 = 16 * k.val + 4 * tq.val + l.val / 32; omega))

theorem aK_apply : aK I k (ix2 0 l) = A.Ak (tokKOf k l) (headKOf l) := by
  unfold aK
  rw [row_apply]
  refine Eq.trans (congrArg I.sk (ix3_eq _ 0 ⟨k.val, trip_lt k⟩ l ?_ ?_ ?_)) (H.ak _ l)
  · show k0_off17 k 0 + 1 * 0 = 0
    rw [offAK_eq]; rfl
  · show k0_off17 k 1 + 1 * 0 = k.val
    rw [offAK_eq]; rfl
  · show k0_off17 k 2 + 1 * l.val = l.val
    rw [offAK_eq]; show 0 + _ = _; omega

theorem bK_apply : bK I k (ix2 0 l) = A.Bk (tokKOf k l) (headKOf l) := by
  unfold bK
  rw [row_apply]
  refine Eq.trans (congrArg I.sk (ix3_eq _ 1 ⟨k.val, trip_lt k⟩ l ?_ ?_ ?_)) (H.bk _ l)
  · show k0_off18 k 0 + 1 * 0 = 1
    rw [offBK_eq]; rfl
  · show k0_off18 k 1 + 1 * 0 = k.val
    rw [offBK_eq]; rfl
  · show k0_off18 k 2 + 1 * l.val = l.val
    rw [offBK_eq]; show 0 + _ = _; omega

/-- A row of the gradients' block, in its lane. -/
theorem dQ_apply : el (dQ I k h tq) l = A.Dq (tokOf k tq l) (headOf h l) := by
  funext e
  rw [← H.dq]
  unfold el dQ
  rw [quarter_apply]
  unfold dtQ
  rw [mmQ_apply I A H, stack_apply]
  refine congrArg I.dq (ix3_eq _ _ _ _ ?_ ?_ ?_)
  · show 16 * k.val + 8 * ((128 * (tq.val / 2) + 8 * (e.val / 8) + e.val % 8) / 128) + (128 * (tq.val % 2) + l.val) / 32 = 16 * k.val + 4 * tq.val + l.val / 32
    omega
  · show 32 * h.val + (128 * (tq.val % 2) + l.val) % 32 = 32 * h.val + l.val % 32
    omega
  · show (128 * (tq.val / 2) + 8 * (e.val / 8) + e.val % 8) % 128 = e.val
    omega

theorem xQ_apply : el (xQ I k h tq) l = A.Xq (tokOf k tq l) (headOf h l) := by
  funext e
  rw [← H.xq]
  unfold el xQ
  rw [quarter_apply]
  unfold xtQ
  rw [mmQ_apply I A H, stack_apply]
  refine congrArg I.xq (ix3_eq _ _ _ _ ?_ ?_ ?_)
  · show 16 * k.val + 8 * ((128 * (tq.val / 2) + 8 * (e.val / 8) + e.val % 8) / 128) + (128 * (tq.val % 2) + l.val) / 32 = 16 * k.val + 4 * tq.val + l.val / 32
    omega
  · show 32 * h.val + (128 * (tq.val % 2) + l.val) % 32 = 32 * h.val + l.val % 32
    omega
  · show (128 * (tq.val / 2) + 8 * (e.val / 8) + e.val % 8) % 128 = e.val
    omega

theorem dK_apply : el (rows (dtK I k)) l = A.Dk (tokKOf k l) (headKOf l) := by
  funext e
  rw [← H.dk]
  unfold el
  rw [rows_apply]
  unfold dtK
  rw [mmK_apply I A H]
  unfold blockK
  refine (congrFun (shapeCast_self (s := S128x128) _ _) _).trans ?_
  refine congrArg I.dk (ix2_eq _ _ _ ?_ ?_)
  · show k0_off16 k 0 + 1 * l.val = 8 * (16 * k.val + l.val / 8) + l.val % 8
    rw [offK_eq]; show 128 * k.val + _ = _; omega
  · show k0_off16 k 1 + 1 * (8 * (e.val / 8) + e.val % 8) = e.val
    rw [offK_eq]; show 0 + _ = _; omega

theorem xK_apply : el (rows (xtK I k)) l = A.Xk (tokKOf k l) (headKOf l) := by
  funext e
  rw [← H.xk]
  unfold el
  rw [rows_apply]
  unfold xtK
  rw [mmK_apply I A H]
  unfold blockK
  refine (congrFun (shapeCast_self (s := S128x128) _ _) _).trans ?_
  refine congrArg I.xk (ix2_eq _ _ _ ?_ ?_)
  · show k0_off16 k 0 + 1 * l.val = 8 * (16 * k.val + l.val / 8) + l.val % 8
    rw [offK_eq]; show 128 * k.val + _ = _; omega
  · show k0_off16 k 1 + 1 * (8 * (e.val / 8) + e.val % 8) = e.val
    rw [offK_eq]; show 0 + _ = _; omega

omit H in
theorem table_apply (i : IVec S8x128 32) (gi hh : Fin 2) (t : Fin 128) (e : Fin 128) (hi : ∀ s, i (ix2 s l) = BitVec.ofNat 32 t.val) :
    el (table I.tab I.g gi i hh) l e = I.tab (ix2 ⟨e.val % 64 + 64 * hh.val, by omega⟩ t) * I.g (ix3 gi e l) := by
  unfold el table
  show gather _ i _ * shapeCast S8x128 _ shapeCasts_S1x8x128_S8x128 _ = _
  refine congrArg₂ (· * ·) ((gather_apply _ _ _ _ t (hi _)).trans (congrArg I.tab (ix2_eq _ _ _ ?_ ?_))) ((shapeCast_apply (s := S1x8x128) (t := S8x128) (View.ld I.g (rectG gi ⟨e.val / 8, by omega⟩)) _ _ (ix3 0 ⟨e.val % 8, by omega⟩ l) ?_).trans (congrArg I.g (ix3_eq _ _ _ _ ?_ ?_ ?_)))
  · show 8 * (e.val / 8 % 8 + 8 * hh.val) + 1 * (e.val % 8) = e.val % 64 + 64 * hh.val
    omega
  · show 0 + 1 * t.val = t.val
    omega
  · rw [Shape.rowMajor_val_three, Shape.rowMajor_val_two]
    show (0 * 8 + e.val % 8) * 128 + l.val = e.val % 8 * 128 + l.val
    omega
  · show gi.val + 1 * 0 = gi.val
    omega
  · show 8 * (e.val / 8) + 1 * (e.val % 8) = e.val
    omega
  · show 0 + 1 * l.val = l.val
    omega

variable {v298 : IVec S8x128 32} (hv : Lanes v298)
include hv

theorem tablesQ : Tables (tQ I v298 k tq 0) (tQ I v298 k tq 1) l (A.C (tokOf k tq l)) (A.S (tokOf k tq l)) A.γq where
  cos e := by
    unfold tQ tokQ
    rw [base_eq, table_apply l _ 0 0 (tokOf k tq l) e fun s => tokens_at 32 (.inl rfl) v298 hv _ s l, ← H.cos, ← H.gq e l]
    rfl
  sin e := by
    unfold tQ tokQ
    rw [base_eq, table_apply l _ 0 1 (tokOf k tq l) e fun s => tokens_at 32 (.inl rfl) v298 hv _ s l, ← H.sin, ← H.gq e l]
    rfl

theorem tablesK : Tables (tK I v298 k 0) (tK I v298 k 1) l (A.C (tokKOf k l)) (A.S (tokKOf k l)) A.γk where
  cos e := by
    unfold tK tokK
    rw [baseK_eq, table_apply l _ 1 0 (tokKOf k l) e fun s => tokens_at 8 (.inr rfl) v298 hv _ s l, ← H.cos, ← H.gk e l]
    rfl
  sin e := by
    unfold tK tokK
    rw [baseK_eq, table_apply l _ 1 1 (tokKOf k l) e fun s => tokens_at 8 (.inr rfl) v298 hv _ s l, ← H.sin, ← H.gk e l]
    rfl

/-- The result of the row of token `t` and head `h`, by the kernel, element `e`; and its term of the gain's gradient. -/
def Arr.dxQ (A : Arr) (t : Fin 128) (h : Fin 96) (e : Fin 128) : EReal := kDx (A.Dq t h) (A.Xq t h) (A.Aq t h) (A.Bq t h) (A.C t) (A.S t) A.γq e
def Arr.dgQ (A : Arr) (t : Fin 128) (h : Fin 96) (e : Fin 128) : EReal := kDg (A.Dq t h) (A.Xq t h) (A.Aq t h) (A.Bq t h) (A.C t) (A.S t) A.γq e
def Arr.dxK (A : Arr) (t : Fin 128) (h : Fin 8) (e : Fin 128) : EReal := kDx (A.Dk t h) (A.Xk t h) (A.Ak t h) (A.Bk t h) (A.C t) (A.S t) A.γk e
def Arr.dgK (A : Arr) (t : Fin 128) (h : Fin 8) (e : Fin 128) : EReal := kDg (A.Dk t h) (A.Xk t h) (A.Ak t h) (A.Bk t h) (A.C t) (A.S t) A.γk e

theorem addQ_apply (e : Fin 128) : el (addQ I v298 k h tq) l e = A.dgQ (tokOf k tq l) (headOf h l) e := by
  unfold addQ Arr.dgQ
  rw [yw_apply (tablesQ H k tq l hv), dQ_apply H, xQ_apply H, aQ_apply H, bQ_apply H]

theorem addK_apply (e : Fin 128) : el (addK I v298 k) l e = A.dgK (tokKOf k l) (headKOf l) e := by
  unfold addK Arr.dgK
  rw [yw_apply (tablesK H k l hv), dK_apply H, xK_apply H, aK_apply H, bK_apply H]

/-- A piece of the `q` result holds its rows. -/
theorem pieceQ_apply (x : (pieceQ I v298 k h tq).1.shape.Idx) :
    (pieceQ I v298 k h tq).2 x = A.dxQ ((pieceQ I v298 k h tq).1.idx x 0) ((pieceQ I v298 k h tq).1.idx x 1) ((pieceQ I v298 k h tq).1.idx x 2) := by
  obtain ⟨a, b, e, rfl⟩ : ∃ (a : Fin 4) (b : Fin 32) (e : Fin 128), x = ix3 a b e := ⟨x 0, x 1, x 2, ix3_eq x _ _ _ rfl rfl rfl⟩
  have ht : (pieceQ I v298 k h tq).1.idx (ix3 a b e) 0 = tokOf k tq ⟨32 * a.val + b.val, by omega⟩ := Fin.ext (by
    show offOut k h tq 0 + 1 * a.val = 16 * k.val + 4 * tq.val + (32 * a.val + b.val) / 32
    rw [offOut_eq]; show 16 * k.val + 4 * tq.val + _ = _; omega)
  have hh : (pieceQ I v298 k h tq).1.idx (ix3 a b e) 1 = headOf h ⟨32 * a.val + b.val, by omega⟩ := Fin.ext (by
    show offOut k h tq 1 + 1 * b.val = 32 * h.val + (32 * a.val + b.val) % 32
    rw [offOut_eq]; show 32 * h.val + _ = _; omega)
  have he : (pieceQ I v298 k h tq).1.idx (ix3 a b e) 2 = e := Fin.ext (by
    show offOut k h tq 2 + 1 * e.val = e.val
    rw [offOut_eq]; show 0 + _ = _; omega)
  rw [ht, hh, he]
  unfold Arr.dxQ
  rw [← dQ_apply H, ← xQ_apply H, ← aQ_apply H, ← bQ_apply H, ← outT_apply (tablesQ H k tq _ hv)]
  show shapeCast S4x32x128 (outT (dQ I k h tq) (xQ I k h tq) (tQ I v298 k tq 0) (tQ I v298 k tq 1) (aQ I k h tq) (bQ I k h tq)) shapeCasts_S128x128_S4x32x128 (ix3 a b e) = _
  refine shapeCast_apply (s := S128x128) (t := S4x32x128) _ _ _ _ ?_
  rw [Shape.rowMajor_val_three, Shape.rowMajor_val_two]
  show (32 * a.val + b.val) * 128 + e.val = (a.val * 32 + b.val) * 128 + e.val
  omega

/-- A piece of the `k` result holds its rows. -/
theorem pieceK_apply (x : (pieceK I v298 k).1.shape.Idx) :
    (pieceK I v298 k).2 x = A.dxK ⟨((pieceK I v298 k).1.idx x 0).val / 8, by have : ((pieceK I v298 k).1.idx x 0).val < 1024 := ((pieceK I v298 k).1.idx x 0).isLt; omega⟩
      ⟨((pieceK I v298 k).1.idx x 0).val % 8, by omega⟩ ((pieceK I v298 k).1.idx x 1) := by
  obtain ⟨l, e, rfl⟩ : ∃ (l : Fin 128) (e : Fin 128), x = ix2 l e := ⟨x 0, x 1, ix2_eq x _ _ rfl rfl⟩
  have h0 : ((pieceK I v298 k).1.idx (ix2 l e) 0).val = 128 * k.val + l.val := by
    show k0_off16 k 0 + 1 * l.val = _
    rw [offK_eq]; show 128 * k.val + _ = _; omega
  have he : (pieceK I v298 k).1.idx (ix2 l e) 1 = e := Fin.ext (by
    show k0_off16 k 1 + 1 * e.val = e.val
    rw [offK_eq]; show 0 + _ = _; omega)
  rw [he]
  have ht : (⟨((pieceK I v298 k).1.idx (ix2 l e) 0).val / 8, by have := trip_lt k; rw [h0]; omega⟩ : Fin 128) = tokKOf k l := Fin.ext (by
    show _ / 8 = 16 * k.val + l.val / 8
    rw [h0]; omega)
  have hh : (⟨((pieceK I v298 k).1.idx (ix2 l e) 0).val % 8, by omega⟩ : Fin 8) = headKOf l := Fin.ext (by
    show _ % 8 = l.val % 8
    rw [h0]; omega)
  rw [ht, hh]
  unfold Arr.dxK
  rw [← dK_apply H, ← xK_apply H, ← aK_apply H, ← bK_apply H, ← outT_apply (tablesK H k _ hv)]
  rfl

end Cert.KernelIdeal.Gen.Group
-- ==== Proof.AccVal.lean ====
module

public import proofs.«01_k».proof.Proof.TripVal

/-! # What a trip adds to the two accumulators

A trip stores each accumulator vector once per group, always what was there plus the group's term. So after a trip the
accumulator of `q` holds, at element `e` and lane `l`, what it held before plus the terms of the twelve rows that the
trip puts in that lane; the accumulator of `k` what it held plus one row's term. -/

@[expose] public section
set_option maxRecDepth 8192
noncomputable section
namespace Cert.KernelIdeal.Gen.Group
open Idealize.ShloMosaic Idealize.ShloMosaic.TcCoe Idealize.ShloMosaic.Tactic
open Cert.Rope
open scoped BigOperators

/-- Vector `j` of what a list of stores leaves. -/
def held (L : Acc Ideal) (j : Fin 16) : Vc Ideal := fun x => View.canon (Val := Elt Ideal) L ((rect j).idx x)

theorem rect_disjoint {i j : Fin 16} (h : j ≠ i) (x : S8x128.Idx) : (rect j).idx x ∉ (rect i).set := by
  intro hm
  have h0 := (Rect.mem_set_unit.mp hm) 0
  have hx : (x 0).val < 8 := (x 0).isLt
  have e1 : ((rect j).idx x 0).val = 8 * j.val + 1 * (x 0).val := rfl
  have h1 : 8 * i.val ≤ ((rect j).idx x 0).val := h0.1
  have h2 : ((rect j).idx x 0).val < 8 * i.val + 8 := h0.2
  exact h (Fin.ext (by omega))

theorem held_push (load : Acc Ideal → (j : Fin 16) → Vc Ideal) (v : Fin 16 → Vc Ideal) (L : Acc Ideal) (i j : Fin 16) :
    held (push load v L i) j = if j = i then addf (load L i) (v i) else held L j := by
  by_cases h : j = i
  · subst h
    rw [if_pos rfl]
    funext x
    unfold held push
    refine (View.canon_cons_emb (Val := Elt Ideal) (rect j) _ L x).trans ?_
    exact congrFun (shapeCast_self (s := S8x128) _ _) x
  · rw [if_neg h]
    funext x
    exact View.canon_cons_of_not_mem _ L (rect_disjoint h x)

theorem held_cov {sig : RefSig} {sp : Space} (m : View sig .tc sp S128x128 .f32) (v : Fin 16 → Vc Ideal) (j : Fin 16) :
    ∀ (js : List (Fin 16)) (_ : js.Nodup) (L : Acc Ideal),
      held (js.foldl (push (loadCov m) v) L) j = if j ∈ js then addf (held L j) (v j) else held L j
  | [], _, L => by simp
  | i :: js, hn, L => by
    rw [List.foldl_cons, held_cov m v j js (List.nodup_cons.mp hn).2, held_push]
    have hl : loadCov m L i = held L i := View.readCov_eq_canon' (Val := Elt Ideal) m L _
    by_cases h : j = i
    · subst h
      rw [if_neg (List.nodup_cons.mp hn).1, if_pos rfl, if_pos (by simp), hl]
    · simp only [List.mem_cons, h, false_or, if_false]

theorem held_at (X : S128x128.Idx → Elt Ideal .f32) (v : Fin 16 → Vc Ideal) (j : Fin 16) :
    ∀ (js : List (Fin 16)) (_ : js.Nodup) (L : Acc Ideal),
      held (js.foldl (push (loadAt X) v) L) j = if j ∈ js then addf (View.ld X (rect j)) (v j) else held L j
  | [], _, L => by simp
  | i :: js, hn, L => by
    rw [List.foldl_cons, held_at X v j js (List.nodup_cons.mp hn).2, held_push]
    by_cases h : j = i
    · subst h
      rw [if_neg (List.nodup_cons.mp hn).1, if_pos rfl, if_pos (by simp)]
      rfl
    · simp only [List.mem_cons, h, false_or, if_false]

theorem order_mem : ∀ j : Fin 16, j ∈ ([0, 8, 1, 9, 2, 10, 3, 11, 4, 12, 5, 13, 6, 14, 7, 15] : List (Fin 16)) := by decide
theorem order_nodup : ([0, 8, 1, 9, 2, 10, 3, 11, 4, 12, 5, 13, 6, 14, 7, 15] : List (Fin 16)).Nodup := by decide

theorem group_cov {sig : RefSig} {sp : Space} (m : View sig .tc sp S128x128 .f32) (v : Fin 16 → Vc Ideal) (L : Acc Ideal) (j : Fin 16) :
    held (group (loadCov m) v L) j = addf (held L j) (v j) := by
  unfold group
  rw [held_cov m v j _ order_nodup, if_pos (order_mem j)]

theorem group_at (X : S128x128.Idx → Elt Ideal .f32) (v : Fin 16 → Vc Ideal) (L : Acc Ideal) (j : Fin 16) :
    held (group (loadAt X) v L) j = addf (View.ld X (rect j)) (v j) := by
  unfold group
  rw [held_at X v j _ order_nodup, if_pos (order_mem j)]

/-- Element `e` of lane `l`, of an array of sixteen vectors. -/
theorem rect_idx (e l : Fin 128) : (rect ⟨e.val / 8, by omega⟩).idx (ix2 ⟨e.val % 8, by omega⟩ l) = ix2 e l :=
  ix2_eq _ _ _ (by show 8 * (e.val / 8) + 1 * (e.val % 8) = e.val; omega) (by show 0 + 1 * l.val = l.val; omega)

theorem canon_held (L : Acc Ideal) (e l : Fin 128) : View.canon (Val := Elt Ideal) L (ix2 e l) = el (held L) l e := by
  unfold el held
  rw [rect_idx]

theorem push_mem (load : Acc Ideal → (j : Fin 16) → Vc Ideal) (v : Fin 16 → Vc Ideal) :
    ∀ (js : List (Fin 16)) (L : Acc Ideal) (j : Fin 16), (j ∈ js ∨ ∃ p ∈ L, p.1 = rect j) →
      ∃ p ∈ js.foldl (push load v) L, p.1 = rect j
  | [], L, j, h => h.resolve_left (by simp)
  | i :: js, L, j, h => by
    rw [List.foldl_cons]
    refine push_mem load v js _ j ?_
    rcases h with h | ⟨p, hp, e⟩
    · rcases List.mem_cons.mp h with rfl | h
      · exact .inr ⟨_, List.mem_cons_self, rfl⟩
      · exact .inl h
    · exact .inr ⟨p, List.mem_cons_of_mem _ hp, e⟩

/-- A group stores every place of the accumulator. -/
theorem group_cover (load : Acc Ideal → (j : Fin 16) → Vc Ideal) (v : Fin 16 → Vc Ideal) (L : Acc Ideal) (e l : Fin 128) :
    ∃ p ∈ group load v L, ix2 e l ∈ p.1.set := by
  obtain ⟨p, hp, he⟩ := push_mem load v _ L ⟨e.val / 8, by omega⟩ (.inl (order_mem ⟨e.val / 8, by omega⟩))
  refine ⟨p, hp, ?_⟩
  rw [he, ← rect_idx e l]
  let x : S8x128.Idx := ix2 ⟨e.val % 8, by omega⟩ l
  exact (LoadRect.mem_set _).mpr fun a => ⟨(x a).val, (x a).isLt, rfl⟩

variable {I : Ins Ideal} {A : Arr} (H : Holds I A) (k : Fin k0_t1_loop.trips) {v298 : IVec S8x128 32} (hv : Lanes v298)
include H hv

/-- The accumulator of `q` after a trip. -/
theorem accQ_apply {sig : RefSig} {sp : Space} (m : View sig .tc sp S128x128 .f32) (X : S128x128.Idx → Elt Ideal .f32) (e l : Fin 128) :
    View.canon (Val := Elt Ideal) (accQ m X I v298 k) (ix2 e l)
      = X (ix2 e l) + ∑ h : Fin 3, ∑ tq : Fin 4, A.dgQ (tokOf k tq l) (headOf h l) e := by
  have ha : ∀ h tq, addQ I v298 k h tq ⟨e.val / 8, by omega⟩ (ix2 ⟨e.val % 8, by omega⟩ l) = A.dgQ (tokOf k tq l) (headOf h l) e :=
    fun h tq => addQ_apply H k h tq l hv e
  rw [canon_held]
  unfold el accQ
  simp only [List.foldl_cons, List.foldl_nil, group_cov, group_at]
  show (((((((((((X ((rect ⟨e.val / 8, by omega⟩).idx (ix2 ⟨e.val % 8, by omega⟩ l)) + _) + _) + _) + _) + _) + _) + _) + _) + _) + _) + _) + _ = _
  simp only [ha, rect_idx, Fin.sum_univ_succ, Fin.sum_univ_zero, add_zero, Finset.univ_eq_empty, Finset.sum_empty, ← add_assoc]
  rfl

/-- The accumulator of `k` after a trip. -/
theorem accK_apply (X : S128x128.Idx → Elt Ideal .f32) (e l : Fin 128) :
    View.canon (Val := Elt Ideal) (group (loadAt X) (addK I v298 k) []) (ix2 e l)
      = X (ix2 e l) + A.dgK (tokKOf k l) (headKOf l) e := by
  rw [canon_held]
  unfold el
  rw [group_at]
  show X ((rect ⟨e.val / 8, by omega⟩).idx (ix2 ⟨e.val % 8, by omega⟩ l)) + el (addK I v298 k) l e = _
  rw [rect_idx, addK_apply H k l hv]

end Cert.KernelIdeal.Gen.Group
end
-- ==== Proof.Scales.lean ====
module

public import proofs.«01_k».proof.Proof.AccVal

/-! # How a step spreads the scales over the lanes

A step multiplies the scales (token by head) with a matrix of zeros and ones, keeps one token out of four (or sixteen) to
each lane, and sums over the tokens with another such matrix. Each lane of each row so receives exactly one scale. -/

@[expose] public section
set_option maxRecDepth 8192
noncomputable section
namespace Cert.KernelIdeal.Gen.Group
open Idealize.ShloMosaic Idealize.ShloMosaic.TcCoe Idealize.ShloMosaic.Tactic
open Cert.Rope
open scoped BigOperators

/-- A comparison of two small words as a number. -/
theorem flag_apply (a b : Nat) (ha : a < 2 ^ 32) (hb : b < 2 ^ 32) :
    ((((IntOp.cmpi .eq (BitVec.ofNat 32 a) (BitVec.ofNat 32 b)).setWidth 32).toInt : ℝ) : EReal) = if a = b then 1 else 0 := by
  by_cases h : a = b
  · subst h
    rw [if_pos rfl]
    have : IntOp.cmpi .eq (BitVec.ofNat 32 a) (BitVec.ofNat 32 a) = 1#1 := by simp [IntOp.cmpi]
    rw [this, show ((1#1).setWidth 32).toInt = 1 from by decide]
    norm_num
  · rw [if_neg h]
    have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    have : IntOp.cmpi .eq (BitVec.ofNat 32 a) (BitVec.ofNat 32 b) = 0#1 := by
      show BitVec.ofBool (BitVec.ofNat 32 a == BitVec.ofNat 32 b) = 0#1
      rw [beq_eq_false_iff_ne.mpr hne]; rfl
    rw [this, show ((0#1).setWidth 32).toInt = 0 from by decide]
    norm_num

theorem same_apply (a b : Nat) (ha : a < 2 ^ 32) (hb : b < 2 ^ 32) :
    (IntOp.cmpi .eq (BitVec.ofNat 32 a) (BitVec.ofNat 32 b)) = if a = b then 1#1 else 0#1 := by
  by_cases h : a = b
  · subst h
    rw [if_pos rfl]
    simp [IntOp.cmpi]
  · rw [if_neg h]
    have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    show BitVec.ofBool (BitVec.ofNat 32 a == BitVec.ofNat 32 b) = 0#1
    rw [beq_eq_false_iff_ne.mpr hne]; rfl

/-! ## The words -/

/-- The head that column `c` of the spread scales of `q` takes, as the kernel computes it. -/
def colQ : IVec S96x384 32 :=
  let v20 : IVec S96x384 32 := iota .tc S96x384 32 [1] iota_S96x384_d1_w32
  let v50 := remsi v20 (broadcast S96x384 (Scalar.select (Scalar.cmpi .eq 32#32 0#32) 1#32 32#32))
  let v59 := andi (xori (cmpi .slt v50 (broadcast S96x384 0#32)) (broadcastTo S96x384 (broadcast S96x384 (Scalar.cmpi .slt (Scalar.select (Scalar.cmpi .eq 32#32 0#32) 1#32 32#32) 0#32)) broadcasts_S96x384_S96x384)) (cmpi .ne v50 (broadcast S96x384 0#32))
  addi (muli (select (andi k0_pay1827 (cmpi .ne k0_pay1828 (broadcast S96x384 0#32))) (subi k0_pay1826 (broadcast S96x384 1#32)) k0_pay1826) (broadcast S96x384 32#32))
    (select v59 (addi v50 (broadcast S96x384 (Scalar.select (Scalar.cmpi .eq 32#32 0#32) 1#32 32#32))) v50)

theorem colQ_row : ∀ c : Fin 384, colQ (ix2 0 c) = BitVec.ofNat 32 (32 * (c.val / 128) + c.val % 32) := by decide +kernel
theorem colQ_apply (h : Fin 96) (c : Fin 384) : colQ (ix2 h c) = BitVec.ofNat 32 (32 * (c.val / 128) + c.val % 32) :=
  colQ_row c

/-- The zeros and ones that give column `c` its head. -/
def eqQ : FVec Ideal S96x384 .f32 :=
  k0_pay1829 (iota .tc S96x384 32 [0] iota_S96x384_d0_w32) (iota .tc S96x384 32 [1] iota_S96x384_d1_w32) k0_pay1826 k0_pay1827 k0_pay1828 0#32

theorem eqQ_apply (h : Fin 96) (c : Fin 384) : eqQ (ix2 h c) = if h.val = 32 * (c.val / 128) + c.val % 32 then (1 : EReal) else 0 := by
  refine Eq.trans ?_ (flag_apply h.val _ (by omega) (by omega))
  rw [← colQ_apply h c, ← show iota .tc S96x384 32 [0] iota_S96x384_d0_w32 (ix2 h c) = BitVec.ofNat 32 h.val from by pointwise]
  rfl

/-- The row that token `t` of the spread scales of `q` goes to, as the kernel computes it. -/
def rowQ : IVec S32x128 32 :=
  select (andi k0_pay1831 (cmpi .ne (remsi (iota .tc S32x128 32 [1] iota_S32x128_d1_w32) k0_pay1832) (broadcast S32x128 0#32)))
    (subi k0_pay1830 (broadcast S32x128 1#32)) k0_pay1830

theorem rowQ_row : ∀ t : Fin 128, rowQ (ix2 0 t) = BitVec.ofNat 32 (t.val / 4) := by decide +kernel

/-- The zeros and ones that sum four tokens. -/
def sumQ : FVec Ideal S32x128 .f32 :=
  k0_pay1833 (iota .tc S32x128 32 [0] iota_S32x128_d0_w32) (iota .tc S32x128 32 [1] iota_S32x128_d1_w32) k0_pay1830 k0_pay1831 k0_pay1832

theorem sumQ_apply (r : Fin 32) (t : Fin 128) : sumQ (ix2 r t) = if r.val = t.val / 4 then (1 : EReal) else 0 := by
  refine Eq.trans ?_ (flag_apply r.val _ (by omega) (by omega))
  rw [← rowQ_row t, ← show iota .tc S32x128 32 [0] iota_S32x128_d0_w32 (ix2 r t) = BitVec.ofNat 32 r.val from by pointwise]
  rfl

/-- Which lanes keep which tokens. -/
def keepQ : IVec S128x128 1 :=
  k0_pay1839 (k0_pay1834 (iota .tc S128x128 32 [1] iota_S128x128_d1_w32)) (4#32) (k0_pay1835 (iota .tc S128x128 32 [0] iota_S128x128_d0_w32))
    (k0_pay1836 (iota .tc S128x128 32 [0] iota_S128x128_d0_w32)) (k0_pay1837 (iota .tc S128x128 32 [0] iota_S128x128_d0_w32)) k0_pay1838

def keepQTok : IVec S128x128 32 :=
  select (andi (xori (k0_pay1837 (iota .tc S128x128 32 [0] iota_S128x128_d0_w32)) k0_pay1838) (k0_pay1836 (iota .tc S128x128 32 [0] iota_S128x128_d0_w32)))
    (addi (k0_pay1835 (iota .tc S128x128 32 [0] iota_S128x128_d0_w32)) (broadcast S128x128 4#32)) (k0_pay1835 (iota .tc S128x128 32 [0] iota_S128x128_d0_w32))

theorem keepQ_lane : ∀ l : Fin 128, k0_pay1834 (iota .tc S128x128 32 [1] iota_S128x128_d1_w32) (ix2 0 l) = BitVec.ofNat 32 (l.val / 32) := by decide +kernel
theorem keepQ_tok : ∀ t : Fin 128, keepQTok (ix2 t 0) = BitVec.ofNat 32 (t.val % 4) := by decide +kernel

theorem keepQ_apply (t l : Fin 128) : keepQ (ix2 t l) = if l.val / 32 = t.val % 4 then 1#1 else 0#1 := by
  refine Eq.trans ?_ (same_apply _ _ (by omega) (by omega))
  rw [← keepQ_lane l, ← keepQ_tok t]
  rfl

/-! ## The products -/

theorem pick {n : Nat} (Y E : Fin n → EReal) (i : Fin n) (hE : ∀ m, E m = if m = i then (1 : EReal) else 0) :
    ∑ m, Y m * E m = Y i := by
  rw [Finset.sum_eq_single i]
  · rw [hE, if_pos rfl, mul_one]
  · intro m _ hm
    rw [hE, if_neg hm, mul_zero]
  · exact fun h => absurd (Finset.mem_univ i) h

variable (V : Vec Ideal S128x96 .f32)

theorem keptQ (t l : Fin 128) (c c' : Fin 384) (hl : l.val = c.val % 128) (hc : c'.val = c.val) :
    (Scalar.select (keepQ (ix2 t l)) (∑ h, (V (ix2 t h) : EReal) * eqQ (ix2 h c')) (0 : EReal) : EReal)
      = if c.val % 128 / 32 = t.val % 4 then V (ix2 t ⟨32 * (c.val / 128) + c.val % 32, by omega⟩) else 0 := by
  obtain rfl : c' = c := Fin.ext hc
  have e : (∑ h, (V (ix2 t h) : EReal) * eqQ (ix2 h c')) = V (ix2 t ⟨32 * (c'.val / 128) + c'.val % 32, by omega⟩) :=
    pick _ _ ⟨32 * (c'.val / 128) + c'.val % 32, by omega⟩ fun m => by
      simp only [Fin.ext_iff]
      exact eqQ_apply m c'
  rw [e, keepQ_apply, hl]
  by_cases h : c'.val % 128 / 32 = t.val % 4
  · rw [if_pos h, if_pos h]; rfl
  · rw [if_neg h, if_neg h]; rfl

/-- One token of four. -/
theorem one_of (n : Nat) (hn : 0 < n) (r q : Nat) (hq : q < n) (i : Fin 128) (hi : i.val = n * r + q) (E Y Z : Fin 128 → EReal)
    (hE : ∀ t, E t = if r = t.val / n then (1 : EReal) else 0) (hY : ∀ t, Y t = if q = t.val % n then Z t else 0) :
    ∑ t, E t * Y t = Z i := by
  rw [Finset.sum_eq_single i]
  · rw [hE, hY, if_pos (by rw [hi, Nat.mul_add_div hn, Nat.div_eq_of_lt hq, Nat.add_zero]), if_pos (by rw [hi, Nat.mul_add_mod, Nat.mod_eq_of_lt hq]), one_mul]
  · intro t _ ht
    by_cases h : r = t.val / n
    · have h2 : ¬ q = t.val % n := fun h2 => ht (Fin.ext (by rw [hi, h, h2, Nat.div_add_mod]))
      rw [hY, if_neg h2, mul_zero]
    · rw [hE, if_neg h, zero_mul]
  · exact fun h => absurd (Finset.mem_univ i) h

/-- The spread scales of `q` before they are stored. -/
def spreadQ : FVec Ideal S32x384 .f32 :=
  k0_pay1840 eqQ sumQ (k0_pay1834 (iota .tc S128x128 32 [1] iota_S128x128_d1_w32)) (4#32) (k0_pay1835 (iota .tc S128x128 32 [0] iota_S128x128_d0_w32))
    (k0_pay1836 (iota .tc S128x128 32 [0] iota_S128x128_d0_w32)) (k0_pay1837 (iota .tc S128x128 32 [0] iota_S128x128_d0_w32)) k0_pay1838 V

theorem spreadQ_apply (r : Fin 32) (c : Fin 384) :
    spreadQ V (ix2 r c)
      = (V (ix2 ⟨4 * r.val + c.val % 128 / 32, by omega⟩ ⟨32 * (c.val / 128) + c.val % 32, by omega⟩) : EReal) := by
  unfold spreadQ k0_pay1840
  pointwise
  refine one_of 4 (by omega) r.val (c.val % 128 / 32) (by omega) ⟨4 * r.val + c.val % 128 / 32, by omega⟩ rfl _ _
    (fun t => V (ix2 t ⟨32 * (c.val / 128) + c.val % 32, by omega⟩)) (fun t => sumQ_apply r t) fun t => ?_
  by_cases h1 : c.val < 128
  · rw [dif_pos h1]
    exact keptQ V t _ c _ (by show c.val = _; omega) rfl
  · rw [dif_neg h1]
    by_cases h2 : c.val - 128 < 128
    · rw [dif_pos h2]
      exact keptQ V t _ c _ (by show c.val - 128 = _; omega) (by show 128 + (c.val - 128) = _; omega)
    · rw [dif_neg h2]
      exact keptQ V t _ c _ (by show c.val - 128 - 128 = _; omega) (by show 256 + (c.val - 128 - 128) = _; omega)

/-- The three slices of the spread scales. -/
theorem sliceQ0 (r : Fin 32) (l : Fin 128) :
    k0_pay1841 eqQ sumQ (k0_pay1834 (iota .tc S128x128 32 [1] iota_S128x128_d1_w32)) (4#32) (k0_pay1835 (iota .tc S128x128 32 [0] iota_S128x128_d0_w32))
      (k0_pay1836 (iota .tc S128x128 32 [0] iota_S128x128_d0_w32)) (k0_pay1837 (iota .tc S128x128 32 [0] iota_S128x128_d0_w32)) k0_pay1838 V (ix3 0 r l)
      = spreadQ V (ix2 r ⟨l.val, by omega⟩) := by
  unfold k0_pay1841
  pointwise
  rfl
theorem sliceQ1 (r : Fin 32) (l : Fin 128) :
    k0_pay1842 eqQ sumQ (k0_pay1834 (iota .tc S128x128 32 [1] iota_S128x128_d1_w32)) (4#32) (k0_pay1835 (iota .tc S128x128 32 [0] iota_S128x128_d0_w32))
      (k0_pay1836 (iota .tc S128x128 32 [0] iota_S128x128_d0_w32)) (k0_pay1837 (iota .tc S128x128 32 [0] iota_S128x128_d0_w32)) k0_pay1838 V (ix3 0 r l)
      = spreadQ V (ix2 r ⟨128 + l.val, by omega⟩) := by
  unfold k0_pay1842
  pointwise
  rfl
theorem sliceQ2 (r : Fin 32) (l : Fin 128) :
    k0_pay1843 eqQ sumQ (k0_pay1834 (iota .tc S128x128 32 [1] iota_S128x128_d1_w32)) (4#32) (k0_pay1835 (iota .tc S128x128 32 [0] iota_S128x128_d0_w32))
      (k0_pay1836 (iota .tc S128x128 32 [0] iota_S128x128_d0_w32)) (k0_pay1837 (iota .tc S128x128 32 [0] iota_S128x128_d0_w32)) k0_pay1838 V (ix3 0 r l)
      = spreadQ V (ix2 r ⟨256 + l.val, by omega⟩) := by
  unfold k0_pay1843
  pointwise
  rfl

/-- The same for the second array of scales, whose operations are cut elsewhere. -/
theorem sliceQ3 : k0_pay1848 sumQ keepQ (k0_pay1844 eqQ V) (k0_pay1845 eqQ V) k0_pay1846
    = k0_pay1841 eqQ sumQ (k0_pay1834 (iota .tc S128x128 32 [1] iota_S128x128_d1_w32)) (4#32) (k0_pay1835 (iota .tc S128x128 32 [0] iota_S128x128_d0_w32))
      (k0_pay1836 (iota .tc S128x128 32 [0] iota_S128x128_d0_w32)) (k0_pay1837 (iota .tc S128x128 32 [0] iota_S128x128_d0_w32)) k0_pay1838 V := rfl
theorem sliceQ4 : k0_pay1849 sumQ keepQ (k0_pay1844 eqQ V) (k0_pay1845 eqQ V) k0_pay1846
    = k0_pay1842 eqQ sumQ (k0_pay1834 (iota .tc S128x128 32 [1] iota_S128x128_d1_w32)) (4#32) (k0_pay1835 (iota .tc S128x128 32 [0] iota_S128x128_d0_w32))
      (k0_pay1836 (iota .tc S128x128 32 [0] iota_S128x128_d0_w32)) (k0_pay1837 (iota .tc S128x128 32 [0] iota_S128x128_d0_w32)) k0_pay1838 V := rfl
theorem sliceQ5 : k0_pay1850 sumQ keepQ (k0_pay1844 eqQ V) (k0_pay1845 eqQ V) k0_pay1846
    = k0_pay1843 eqQ sumQ (k0_pay1834 (iota .tc S128x128 32 [1] iota_S128x128_d1_w32)) (4#32) (k0_pay1835 (iota .tc S128x128 32 [0] iota_S128x128_d0_w32))
      (k0_pay1836 (iota .tc S128x128 32 [0] iota_S128x128_d0_w32)) (k0_pay1837 (iota .tc S128x128 32 [0] iota_S128x128_d0_w32)) k0_pay1838 V := rfl

/-! ## The scales of `k` -/

theorem colK_row : ∀ l : Fin 128, k0_pay1851 (ix2 0 l) = BitVec.ofNat 32 (l.val % 8) := by decide +kernel

/-- The zeros and ones that give lane `l` its head. -/
def eqK : FVec Ideal S8x128 .f32 := k0_pay1852 (iota .tc S8x128 32 [0] iota_S8x128_d0_w32) k0_pay1851

theorem eqK_apply (h : Fin 8) (l : Fin 128) : eqK (ix2 h l) = if h.val = l.val % 8 then (1 : EReal) else 0 := by
  refine Eq.trans ?_ (flag_apply h.val _ (by omega) (by omega))
  rw [← colK_row l, ← show iota .tc S8x128 32 [0] iota_S8x128_d0_w32 (ix2 h l) = BitVec.ofNat 32 h.val from by pointwise]
  rfl

/-- The row that a token of the spread scales of `k` goes to, as the kernel computes it. -/
def rowK : IVec S8x128 32 :=
  let v211 : IVec S8x128 32 := iota .tc S8x128 32 [1] iota_S8x128_d1_w32
  let v213 := divsi v211 (broadcast S8x128 16#32)
  let v220 := subi (extui 32 (cmpi .sgt v211 (broadcast S8x128 0#32)) natLt_1_32) (extui 32 (cmpi .slt v211 (broadcast S8x128 0#32)) natLt_1_32)
  let v225 := Scalar.subi (Scalar.extui (Scalar.cmpi .sgt 16#32 0#32)) (Scalar.extui (Scalar.cmpi .slt 16#32 0#32))
  select (andi (cmpi .ne v220 (broadcast S8x128 v225)) (cmpi .ne (remsi v211 (broadcast S8x128 16#32)) (broadcast S8x128 0#32)))
    (subi v213 (broadcast S8x128 1#32)) v213

theorem rowK_row : ∀ t : Fin 128, rowK (ix2 0 t) = BitVec.ofNat 32 (t.val / 16) := by decide +kernel

theorem sumK_apply (r : Fin 8) (t : Fin 128) : k0_pay1853 (F := Ideal) (ix2 r t) = if r.val = t.val / 16 then (1 : EReal) else 0 := by
  refine Eq.trans ?_ (flag_apply r.val _ (by omega) (by omega))
  rw [← rowK_row t, ← show iota .tc S8x128 32 [0] iota_S8x128_d0_w32 (ix2 r t) = BitVec.ofNat 32 r.val from by pointwise]
  rfl

/-- Which lanes keep which tokens. -/
def keepK : IVec S128x128 1 :=
  k0_pay1856 (iota .tc S128x128 32 [1] iota_S128x128_d1_w32) (iota .tc S128x128 32 [0] iota_S128x128_d0_w32) 8#32
    (k0_pay1854 (iota .tc S128x128 32 [1] iota_S128x128_d1_w32)) (k0_pay1855 (iota .tc S128x128 32 [1] iota_S128x128_d1_w32))

def keepKLane : IVec S128x128 32 :=
  select (andi (k0_pay1855 (iota .tc S128x128 32 [1] iota_S128x128_d1_w32)) (cmpi .ne (remsi (iota .tc S128x128 32 [1] iota_S128x128_d1_w32) (broadcast S128x128 8#32)) (broadcast S128x128 0#32)))
    (subi (k0_pay1854 (iota .tc S128x128 32 [1] iota_S128x128_d1_w32)) (broadcast S128x128 1#32)) (k0_pay1854 (iota .tc S128x128 32 [1] iota_S128x128_d1_w32))

def keepKTok : IVec S128x128 32 :=
  let v264 : BitVec 32 := Scalar.select (Scalar.cmpi .eq 16#32 0#32) 1#32 16#32
  let v266 := remsi (iota .tc S128x128 32 [0] iota_S128x128_d0_w32) (broadcast S128x128 v264)
  select (andi (xori (cmpi .slt v266 (broadcast S128x128 0#32)) (broadcastTo S128x128 (broadcast S128x128 (Scalar.cmpi .slt v264 0#32)) broadcasts_S128x128_S128x128)) (cmpi .ne v266 (broadcast S128x128 0#32)))
    (addi v266 (broadcast S128x128 v264)) v266

theorem keepK_lane : ∀ l : Fin 128, keepKLane (ix2 0 l) = BitVec.ofNat 32 (l.val / 8) := by decide +kernel
theorem keepK_tok : ∀ t : Fin 128, keepKTok (ix2 t 0) = BitVec.ofNat 32 (t.val % 16) := by decide +kernel

theorem keepK_apply (t l : Fin 128) : keepK (ix2 t l) = if l.val / 8 = t.val % 16 then 1#1 else 0#1 := by
  refine Eq.trans ?_ (same_apply _ _ (by omega) (by omega))
  rw [← keepK_lane l, ← keepK_tok t]
  rfl

variable (W : Vec Ideal S128x8 .f32)

/-- The spread scales of `k`. -/
def spreadK : FVec Ideal S1x8x128 .f32 :=
  k0_pay1857 (iota .tc S128x128 32 [1] iota_S128x128_d1_w32) (iota .tc S128x128 32 [0] iota_S128x128_d0_w32) eqK k0_pay1853 8#32
    (k0_pay1854 (iota .tc S128x128 32 [1] iota_S128x128_d1_w32)) (k0_pay1855 (iota .tc S128x128 32 [1] iota_S128x128_d1_w32)) W

theorem spreadK_apply (r : Fin 8) (l : Fin 128) :
    spreadK W (ix3 0 r l) = (W (ix2 ⟨16 * r.val + l.val / 8, by omega⟩ ⟨l.val % 8, by omega⟩) : EReal) := by
  unfold spreadK k0_pay1857
  pointwise
  refine (Finset.sum_congr rfl fun t _ => ?_).trans
    (one_of 16 (by omega) r.val (l.val / 8) (by omega) ⟨16 * r.val + l.val / 8, by omega⟩ rfl (fun t => k0_pay1853 (F := Ideal) (ix2 r t))
      (fun t => if l.val / 8 = t.val % 16 then W (ix2 t ⟨l.val % 8, by omega⟩) else 0)
      (fun t => W (ix2 t ⟨l.val % 8, by omega⟩)) (fun t => sumK_apply r t) fun t => rfl)
  have e : (∑ h, (W (ix2 t h) : EReal) * eqK (ix2 h l)) = W (ix2 t ⟨l.val % 8, by omega⟩) :=
    pick _ _ ⟨l.val % 8, by omega⟩ fun m => by
      simp only [Fin.ext_iff]
      exact eqK_apply m l
  refine (congrArg₂ (fun b x => Scalar.select b (k0_pay1853 (F := Ideal) (ix2 r t) * x) (0 : EReal)) (keepK_apply t l) e).trans ?_
  by_cases h : l.val / 8 = t.val % 16
  · rw [if_pos h, if_pos h]; rfl
  · rw [if_neg h, if_neg h, mul_zero]; rfl

end Cert.KernelIdeal.Gen.Group
end
-- ==== Proof.Step.lean ====
module

public import proofs.«01_k».proof.Proof.Scales
public import proofs.«01_k».proof.Proof.IdealRunA

/-! # What a step's loop reads

Before its loop a step fills three scratch arrays: the cosines and sines of its tokens' angles, and the scales of `q` and
of `k` spread over the lanes. So the loop reads the step's rows (`Holds`), which are those of the step's input blocks. -/

@[expose] public section
set_option maxRecDepth 16384
noncomputable section
namespace Cert.KernelIdeal.Gen.Group
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Rope
open scoped BigOperators

/-- The angle of a step's token at one frequency. -/
def angle (x9 : Vec Ideal S1x1x128 .i32) (x10 : Vec Ideal S64x128 .f32) (t : Fin 128) (p : Fin 64) : EReal :=
  ((((x9 (ix3 0 0 t) : BitVec 32).toInt : ℝ) : EReal) * x10 (ix2 p t))

/-- The rows of a step, from its input blocks. -/
def stepArr (x0 : Vec Ideal S128x96x128 .fp8e5m2) (x1 : Vec Ideal S128x96 .f32) (x2 : Vec Ideal S1024x128 .fp8e5m2) (x3 : Vec Ideal S128x8 .f32) (x4 : Vec Ideal S128x96x128 .fp8e4m3) (x5 : Vec Ideal S128x96 .f32) (x6 : Vec Ideal S1024x128 .fp8e4m3) (x7 : Vec Ideal S128x8 .f32) (x8 : Vec Ideal S2x128x128 .f32) (x9 : Vec Ideal S1x1x128 .i32) (x10 : Vec Ideal S64x128 .f32) (x11 : Vec Ideal S256x256 .fp8e4m3) : Arr where
  Dq t h e := x0 (ix3 t h e)
  Xq t h e := x4 (ix3 t h e)
  Aq t h := x1 (ix2 t h)
  Bq t h := x5 (ix2 t h)
  Dk t h e := x2 (ix2 ⟨8 * t.val + h.val, by omega⟩ e)
  Xk t h e := x6 (ix2 ⟨8 * t.val + h.val, by omega⟩ e)
  Ak t h := x3 (ix2 t h)
  Bk t h := x7 (ix2 t h)
  C t p := Ideal.cos (angle x9 x10 t p)
  S t p := Ideal.sin (angle x9 x10 t p)
  γq e := x8 (ix3 0 e 0)
  γk e := x8 (ix3 1 e 0)

variable (c : Dev nD)  (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole)
variable (x0 : Vec Ideal S128x96x128 .fp8e5m2) (x1 : Vec Ideal S128x96 .f32) (x2 : Vec Ideal S1024x128 .fp8e5m2) (x3 : Vec Ideal S128x8 .f32) (x4 : Vec Ideal S128x96x128 .fp8e4m3) (x5 : Vec Ideal S128x96 .f32) (x6 : Vec Ideal S1024x128 .fp8e4m3) (x7 : Vec Ideal S128x8 .f32) (x8 : Vec Ideal S2x128x128 .f32) (x9 : Vec Ideal S1x1x128 .i32) (x10 : Vec Ideal S64x128 .f32) (x11 : Vec Ideal S256x256 .fp8e4m3)

/-- A whole block, loaded. -/
theorem load_whole {s : Shape} {e : EltTy} (a : Memref sig .tc .vmem s e) (h : a.IsWhole) (x : s.Idx → Elt Ideal e) (off : Fin s.rank → Nat) (ho : off = fun _ => 0)
    (inb : ∀ a, off a + s.size a ≤ s.size a) :
    View.readAt (Elt Ideal) a.view (Rect.unit off s.size inb).toLoadRect (h.unread x) = x := by
  subst ho
  funext y
  refine (congrFun (h.read_unread x) _).trans (congrArg x ?_)
  funext j
  exact Fin.ext (by show 0 + 1 * (y j).val = (y j).val; omega)

/-- The two halves of the table. -/
theorem halves_apply (p : Fin 128) (t : Fin 128) :
    View.canon (Val := Elt Ideal) (kernelRun0_A.sl.HS0_2 c arg10 harg10 arg11 harg11 x9 x10) (ix2 p t)
      = if h : p.val < 64 then Ideal.cos (angle x9 x10 t ⟨p.val, h⟩) else Ideal.sin (angle x9 x10 t ⟨p.val - 64, by omega⟩) := by
  have l9 : View.readAt (Elt Ideal) arg10.view (Rect.unit ![0, 0, 0] S1x1x128.size inb_S1x1x128_S1x1x128_0_0_0).toLoadRect (harg10.unread x9) = x9 :=
    load_whole arg10 harg10 x9 _ (by funext j; fin_cases j <;> rfl) _
  have l10 : View.readAt (Elt Ideal) arg11.view (Rect.unit ![0, 0] S64x128.size inb_S64x128_S64x128_0_0).toLoadRect (harg11.unread x10) = x10 :=
    load_whole arg11 harg11 x10 _ (by funext j; fin_cases j <;> rfl) _
  let G : S128x128.Idx → EReal := fun y => if h : (y 0).val < 64 then Ideal.cos (angle x9 x10 (y 1) ⟨(y 0).val, h⟩) else Ideal.sin (angle x9 x10 (y 1) ⟨(y 0).val - 64, by have : (y 0).val < 128 := (y 0).isLt; omega⟩)
  have ang : ∀ (q : Fin 64) (t : Fin 128), k0_pay1823 x9 x10 (ix2 q t) = angle x9 x10 t q := fun q t => by
    unfold k0_pay1823 angle
    pointwise
    rfl
  refine View.canon_apply_of_pieces (Val := Elt Ideal) (e := .f32) (S := S128x128) G _ ?_ (ix2 p t) ?_
  · unfold kernelRun0_A.sl.HS0_2
    rw [l9, l10]
    intro pc hp
    simp only [List.mem_cons, List.not_mem_nil, _root_.or_false] at hp
    rcases hp with rfl | rfl
    · intro x
      obtain ⟨q, u, rfl⟩ : ∃ (q : Fin 64) (u : Fin 128), x = ix2 q u := ⟨x 0, x 1, ix2_eq x _ _ rfl rfl⟩
      show k0_pay1825 x9 x10 (ix2 q u) = _
      unfold k0_pay1825
      refine (congrFun (shapeCast_self (s := S64x128) _ _) (ix2 q u)).trans ?_
      refine (congrArg Ideal.sin (ang q u)).trans ?_
      have hq : ¬ (64 + 1 * q.val < 64) := by omega
      refine Eq.trans ?_ (dif_neg hq).symm
      refine congrArg Ideal.sin (congrArg₂ (angle x9 x10) (Fin.ext ?_) (Fin.ext ?_))
      · show u.val = 0 + 1 * u.val; omega
      · show q.val = 64 + 1 * q.val - 64; omega
    · intro x
      obtain ⟨q, u, rfl⟩ : ∃ (q : Fin 64) (u : Fin 128), x = ix2 q u := ⟨x 0, x 1, ix2_eq x _ _ rfl rfl⟩
      show k0_pay1824 x9 x10 (ix2 q u) = _
      unfold k0_pay1824
      refine (congrFun (shapeCast_self (s := S64x128) _ _) (ix2 q u)).trans ?_
      refine (congrArg Ideal.cos (ang q u)).trans ?_
      have hq : 0 + 1 * q.val < 64 := by omega
      refine Eq.trans ?_ (dif_pos hq).symm
      refine congrArg Ideal.cos (congrArg₂ (angle x9 x10) (Fin.ext ?_) (Fin.ext ?_))
      · show u.val = 0 + 1 * u.val; omega
      · show q.val = 0 + 1 * q.val; omega
  · by_cases h : p.val < 64
    · refine ⟨_, List.mem_cons_of_mem _ List.mem_cons_self, (Rect.mem_set_unit (inb := inb_S128x128_S64x128_0_0)).mpr fun a => ?_⟩
      match a with
      | 0 => exact ⟨Nat.zero_le _, by show p.val < 0 + 64; omega⟩
      | 1 => exact ⟨Nat.zero_le _, by show t.val < 0 + 128; omega⟩
    · refine ⟨_, List.mem_cons_self, (Rect.mem_set_unit (inb := inb_S128x128_S64x128_64_0)).mpr fun a => ?_⟩
      match a with
      | 0 => exact ⟨by show 64 ≤ p.val; omega, by show p.val < 64 + 64; omega⟩
      | 1 => exact ⟨Nat.zero_le _, by show t.val < 0 + 128; omega⟩

/-- The spread scales of `q` as stored. -/
theorem scalesQ_apply (h : Fin 6) (r : Fin 32) (l : Fin 128) :
    View.canon (Val := Elt Ideal) (kernelRun0_A.sl.HS1_6 c arg2 harg2 arg6 harg6 x1 x5) (ix3 h r l)
      = (if h.val < 3 then x1 else x5) (ix2 ⟨4 * r.val + l.val / 32, by omega⟩ ⟨32 * (h.val % 3) + l.val % 32, by omega⟩) := by
  have l1 : View.readAt (Elt Ideal) arg2.view (Rect.unit ![0, 0] S128x96.size inb_S128x96_S128x96_0_0).toLoadRect (harg2.unread x1) = x1 :=
    load_whole arg2 harg2 x1 _ (by funext j; fin_cases j <;> rfl) _
  have l5 : View.readAt (Elt Ideal) arg6.view (Rect.unit ![0, 0] S128x96.size inb_S128x96_S128x96_0_0).toLoadRect (harg6.unread x5) = x5 :=
    load_whole arg6 harg6 x5 _ (by funext j; fin_cases j <;> rfl) _
  let G : S6x32x128.Idx → EReal := fun y => (if (y 0).val < 3 then x1 else x5)
    (ix2 ⟨4 * (y 1).val + (y 2).val / 32, by have h1 : (y 1).val < 32 := (y 1).isLt; have h2 : (y 2).val < 128 := (y 2).isLt; omega⟩ ⟨32 * ((y 0).val % 3) + (y 2).val % 32, by omega⟩)
  have fin : ∀ (V : Vec Ideal S128x96 .f32) (n n' : Nat) (hn : n' = n % 3) (r r' : Fin 32) (l l' : Fin 128) (hr : r' = r) (hl : l' = l) (hc : 128 * n' + l.val < 384) (hh : 32 * (n % 3) + l'.val % 32 < 96),
      (if n < 3 then x1 else x5) = V → spreadQ V (ix2 r ⟨128 * n' + l.val, hc⟩)
        = (if n < 3 then x1 else x5) (ix2 ⟨4 * r'.val + l'.val / 32, by omega⟩ ⟨32 * (n % 3) + l'.val % 32, hh⟩) := by
    intro V n n' hn r r' l l' hr hl hc hh hV
    subst hn hr hl
    rw [hV, spreadQ_apply]
    refine congrArg₂ (fun a b => V (ix2 a b)) (Fin.ext ?_) (Fin.ext ?_)
    · show 4 * r'.val + (128 * (n % 3) + l'.val) % 128 / 32 = 4 * r'.val + l'.val / 32; omega
    · show 32 * ((128 * (n % 3) + l'.val) / 128) + (128 * (n % 3) + l'.val) % 32 = 32 * (n % 3) + l'.val % 32; omega
  refine View.canon_apply_of_pieces (Val := Elt Ideal) (e := .f32) (S := S6x32x128) G _ ?_ (ix3 h r l) ?_
  · unfold kernelRun0_A.sl.HS1_6 kernelRun0_A.sl.r_2 kernelRun0_A.sl.r_3
    rw [l1, l5]
    intro pc hp
    simp only [List.mem_cons, List.not_mem_nil, _root_.or_false] at hp
    rcases hp with rfl | rfl | rfl | rfl | rfl | rfl
    · intro x
      obtain ⟨q, u, rfl⟩ : ∃ (q : Fin 32) (u : Fin 128), x = ix3 0 q u := ⟨x 1, x 2, ix3_eq x _ _ _ (by have : (x 0).val < 1 := (x 0).isLt; show (x 0).val = 0; omega) rfl rfl⟩
      refine ((congrFun (sliceQ5 x5) _).trans (sliceQ2 x5 q u)).trans ?_
      refine Eq.trans (congrArg (fun z => spreadQ x5 (ix2 q z)) (Fin.ext (by show 256 + u.val = 128 * 2 + u.val; omega)))
        (fin x5 5 2 rfl q ⟨0 + 1 * q.val, by omega⟩ u ⟨0 + 1 * u.val, by omega⟩ (Fin.ext (by show 0 + 1 * q.val = q.val; omega)) (Fin.ext (by show 0 + 1 * u.val = u.val; omega)) (by omega) (by omega) rfl)
    · intro x
      obtain ⟨q, u, rfl⟩ : ∃ (q : Fin 32) (u : Fin 128), x = ix3 0 q u := ⟨x 1, x 2, ix3_eq x _ _ _ (by have : (x 0).val < 1 := (x 0).isLt; show (x 0).val = 0; omega) rfl rfl⟩
      refine ((congrFun (sliceQ4 x5) _).trans (sliceQ1 x5 q u)).trans ?_
      refine Eq.trans (congrArg (fun z => spreadQ x5 (ix2 q z)) (Fin.ext (by show 128 + u.val = 128 * 1 + u.val; omega)))
        (fin x5 4 1 rfl q ⟨0 + 1 * q.val, by omega⟩ u ⟨0 + 1 * u.val, by omega⟩ (Fin.ext (by show 0 + 1 * q.val = q.val; omega)) (Fin.ext (by show 0 + 1 * u.val = u.val; omega)) (by omega) (by omega) rfl)
    · intro x
      obtain ⟨q, u, rfl⟩ : ∃ (q : Fin 32) (u : Fin 128), x = ix3 0 q u := ⟨x 1, x 2, ix3_eq x _ _ _ (by have : (x 0).val < 1 := (x 0).isLt; show (x 0).val = 0; omega) rfl rfl⟩
      refine ((congrFun (sliceQ3 x5) _).trans (sliceQ0 x5 q u)).trans ?_
      refine Eq.trans (congrArg (fun z => spreadQ x5 (ix2 q z)) (Fin.ext (by show u.val = 128 * 0 + u.val; omega)))
        (fin x5 3 0 rfl q ⟨0 + 1 * q.val, by omega⟩ u ⟨0 + 1 * u.val, by omega⟩ (Fin.ext (by show 0 + 1 * q.val = q.val; omega)) (Fin.ext (by show 0 + 1 * u.val = u.val; omega)) (by omega) (by omega) rfl)
    · intro x
      obtain ⟨q, u, rfl⟩ : ∃ (q : Fin 32) (u : Fin 128), x = ix3 0 q u := ⟨x 1, x 2, ix3_eq x _ _ _ (by have : (x 0).val < 1 := (x 0).isLt; show (x 0).val = 0; omega) rfl rfl⟩
      refine (sliceQ2 x1 q u).trans ?_
      refine Eq.trans (congrArg (fun z => spreadQ x1 (ix2 q z)) (Fin.ext (by show 256 + u.val = 128 * 2 + u.val; omega)))
        (fin x1 2 2 rfl q ⟨0 + 1 * q.val, by omega⟩ u ⟨0 + 1 * u.val, by omega⟩ (Fin.ext (by show 0 + 1 * q.val = q.val; omega)) (Fin.ext (by show 0 + 1 * u.val = u.val; omega)) (by omega) (by omega) rfl)
    · intro x
      obtain ⟨q, u, rfl⟩ : ∃ (q : Fin 32) (u : Fin 128), x = ix3 0 q u := ⟨x 1, x 2, ix3_eq x _ _ _ (by have : (x 0).val < 1 := (x 0).isLt; show (x 0).val = 0; omega) rfl rfl⟩
      refine (sliceQ1 x1 q u).trans ?_
      refine Eq.trans (congrArg (fun z => spreadQ x1 (ix2 q z)) (Fin.ext (by show 128 + u.val = 128 * 1 + u.val; omega)))
        (fin x1 1 1 rfl q ⟨0 + 1 * q.val, by omega⟩ u ⟨0 + 1 * u.val, by omega⟩ (Fin.ext (by show 0 + 1 * q.val = q.val; omega)) (Fin.ext (by show 0 + 1 * u.val = u.val; omega)) (by omega) (by omega) rfl)
    · intro x
      obtain ⟨q, u, rfl⟩ : ∃ (q : Fin 32) (u : Fin 128), x = ix3 0 q u := ⟨x 1, x 2, ix3_eq x _ _ _ (by have : (x 0).val < 1 := (x 0).isLt; show (x 0).val = 0; omega) rfl rfl⟩
      refine (sliceQ0 x1 q u).trans ?_
      refine Eq.trans (congrArg (fun z => spreadQ x1 (ix2 q z)) (Fin.ext (by show u.val = 128 * 0 + u.val; omega)))
        (fin x1 0 0 rfl q ⟨0 + 1 * q.val, by omega⟩ u ⟨0 + 1 * u.val, by omega⟩ (Fin.ext (by show 0 + 1 * q.val = q.val; omega)) (Fin.ext (by show 0 + 1 * u.val = u.val; omega)) (by omega) (by omega) rfl)
  · have key : ∀ n : Nat, h.val = n → ∀ a : Fin 3, (![n, 0, 0] : Fin 3 → Nat) a ≤ ((ix3 h r l : S6x32x128.Idx) a).val ∧ ((ix3 h r l : S6x32x128.Idx) a).val < (![n, 0, 0] : Fin 3 → Nat) a + S1x32x128.size a := fun n hn a => by
      match a with
      | 0 => exact ⟨by show n ≤ h.val; omega, by show h.val < n + 1; omega⟩
      | 1 => exact ⟨Nat.zero_le _, by show r.val < 0 + 32; omega⟩
      | 2 => exact ⟨Nat.zero_le _, by show l.val < 0 + 128; omega⟩
    unfold kernelRun0_A.sl.HS1_6
    have hh : h.val = 0 ∨ h.val = 1 ∨ h.val = 2 ∨ h.val = 3 ∨ h.val = 4 ∨ h.val = 5 := by omega
    rcases hh with e | e | e | e | e | e
    · exact ⟨_, .tail _ (.tail _ (.tail _ (.tail _ (.tail _ (.head _))))), (Rect.mem_set_unit (inb := inb_S6x32x128_S1x32x128_0_0_0)).mpr (key 0 e)⟩
    · exact ⟨_, .tail _ (.tail _ (.tail _ (.tail _ (.head _)))), (Rect.mem_set_unit (inb := inb_S6x32x128_S1x32x128_1_0_0)).mpr (key 1 e)⟩
    · exact ⟨_, .tail _ (.tail _ (.tail _ (.head _))), (Rect.mem_set_unit (inb := inb_S6x32x128_S1x32x128_2_0_0)).mpr (key 2 e)⟩
    · exact ⟨_, .tail _ (.tail _ (.head _)), (Rect.mem_set_unit (inb := inb_S6x32x128_S1x32x128_3_0_0)).mpr (key 3 e)⟩
    · exact ⟨_, .tail _ (.head _), (Rect.mem_set_unit (inb := inb_S6x32x128_S1x32x128_4_0_0)).mpr (key 4 e)⟩
    · exact ⟨_, .head _, (Rect.mem_set_unit (inb := inb_S6x32x128_S1x32x128_5_0_0)).mpr (key 5 e)⟩

/-- The spread scales of `k` as stored. -/
theorem scalesK_apply (h : Fin 2) (r : Fin 8) (l : Fin 128) :
    View.canon (Val := Elt Ideal) (kernelRun0_A.sl.HS2_2 c arg4 harg4 arg8 harg8 x3 x7) (ix3 h r l)
      = (if h.val < 1 then x3 else x7) (ix2 ⟨16 * r.val + l.val / 8, by omega⟩ ⟨l.val % 8, by omega⟩) := by
  have l3 : View.readAt (Elt Ideal) arg4.view (Rect.unit ![0, 0] S128x8.size inb_S128x8_S128x8_0_0).toLoadRect (harg4.unread x3) = x3 :=
    load_whole arg4 harg4 x3 _ (by funext j; fin_cases j <;> rfl) _
  have l7 : View.readAt (Elt Ideal) arg8.view (Rect.unit ![0, 0] S128x8.size inb_S128x8_S128x8_0_0).toLoadRect (harg8.unread x7) = x7 :=
    load_whole arg8 harg8 x7 _ (by funext j; fin_cases j <;> rfl) _
  let G : S2x8x128.Idx → EReal := fun y => (if (y 0).val < 1 then x3 else x7)
    (ix2 ⟨16 * (y 1).val + (y 2).val / 8, by have h1 : (y 1).val < 8 := (y 1).isLt; have h2 : (y 2).val < 128 := (y 2).isLt; omega⟩ ⟨(y 2).val % 8, by omega⟩)
  refine View.canon_apply_of_pieces (Val := Elt Ideal) (e := .f32) (S := S2x8x128) G _ ?_ (ix3 h r l) ?_
  · unfold kernelRun0_A.sl.HS2_2 kernelRun0_A.sl.r_4
    rw [l3, l7]
    intro pc hp
    simp only [List.mem_cons, List.not_mem_nil, _root_.or_false] at hp
    rcases hp with rfl | rfl
    · intro x
      obtain ⟨q, u, rfl⟩ : ∃ (q : Fin 8) (u : Fin 128), x = ix3 0 q u := ⟨x 1, x 2, ix3_eq x _ _ _ (by have : (x 0).val < 1 := (x 0).isLt; show (x 0).val = 0; omega) rfl rfl⟩
      refine (spreadK_apply x7 q u).trans ?_
      refine congrArg₂ (fun a b => x7 (ix2 a b)) (Fin.ext ?_) (Fin.ext ?_)
      · show 16 * q.val + u.val / 8 = 16 * (0 + 1 * q.val) + (0 + 1 * u.val) / 8; omega
      · show u.val % 8 = (0 + 1 * u.val) % 8; omega
    · intro x
      obtain ⟨q, u, rfl⟩ : ∃ (q : Fin 8) (u : Fin 128), x = ix3 0 q u := ⟨x 1, x 2, ix3_eq x _ _ _ (by have : (x 0).val < 1 := (x 0).isLt; show (x 0).val = 0; omega) rfl rfl⟩
      refine (spreadK_apply x3 q u).trans ?_
      refine congrArg₂ (fun a b => x3 (ix2 a b)) (Fin.ext ?_) (Fin.ext ?_)
      · show 16 * q.val + u.val / 8 = 16 * (0 + 1 * q.val) + (0 + 1 * u.val) / 8; omega
      · show u.val % 8 = (0 + 1 * u.val) % 8; omega
  · have key : ∀ n : Nat, h.val = n → ∀ a : Fin 3, (![n, 0, 0] : Fin 3 → Nat) a ≤ ((ix3 h r l : S2x8x128.Idx) a).val ∧ ((ix3 h r l : S2x8x128.Idx) a).val < (![n, 0, 0] : Fin 3 → Nat) a + S1x8x128.size a := fun n hn a => by
      match a with
      | 0 => exact ⟨by show n ≤ h.val; omega, by show h.val < n + 1; omega⟩
      | 1 => exact ⟨Nat.zero_le _, by show r.val < 0 + 8; omega⟩
      | 2 => exact ⟨Nat.zero_le _, by show l.val < 0 + 128; omega⟩
    unfold kernelRun0_A.sl.HS2_2
    have hh : h.val = 0 ∨ h.val = 1 := by omega
    rcases hh with e | e
    · exact ⟨_, .tail _ (.head _), (Rect.mem_set_unit (inb := inb_S2x8x128_S1x8x128_0_0_0)).mpr (key 0 e)⟩
    · exact ⟨_, .head _, (Rect.mem_set_unit (inb := inb_S2x8x128_S1x8x128_1_0_0)).mpr (key 1 e)⟩

/-- So the loop reads the step's rows. The gains are constant along the lanes; the unit matrix is one. -/
theorem holds_step (hg : ∀ (g : Fin 2) (e l : Fin 128), x8 (ix3 g e l) = x8 (ix3 g e 0))
    (he : ∀ i j : Fin 256, x11 (ix2 i j) = if i = j then (1 : EReal) else 0) :
    Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) where
  dq t h e := congrFun (harg1.read_unread x0) _
  xq t h e := congrFun (harg5.read_unread x4) _
  dk t h e := congrFun (harg3.read_unread x2) _
  xk t h e := congrFun (harg7.read_unread x6) _
  eye i j := (congrFun (harg12.read_unread x11) _).trans (he i j)
  cos t p := ((congrFun (View.read_writes_junk_eq_canon (Val := Elt Ideal) arg17.view _) _).trans (halves_apply (x9 := x9) (x10 := x10) c arg10 harg10 arg11 harg11 ⟨p.val, by omega⟩ t)).trans (dif_pos p.isLt)
  sin t p := ((congrFun (View.read_writes_junk_eq_canon (Val := Elt Ideal) arg17.view _) _).trans (halves_apply (x9 := x9) (x10 := x10) c arg10 harg10 arg11 harg11 ⟨p.val + 64, by omega⟩ t)).trans
    ((dif_neg (show ¬ p.val + 64 < 64 by omega)).trans (congrArg (fun q => Ideal.sin (angle x9 x10 t q)) (Fin.ext (by show p.val + 64 - 64 = p.val; omega))))
  gq e l := (congrFun (harg9.read_unread x8) _).trans (hg 0 e l)
  gk e l := (congrFun (harg9.read_unread x8) _).trans (hg 1 e l)
  aq h r l := ((congrFun (View.read_writes_junk_eq_canon (Val := Elt Ideal) arg18.view _) _).trans (scalesQ_apply (x1 := x1) (x5 := x5) c arg2 harg2 arg6 harg6 ⟨h.val, by omega⟩ r l)).trans
    ((congrFun (if_pos h.isLt) _).trans (congrArg₂ (fun a b => x1 (ix2 a b)) rfl (Fin.ext (by show 32 * (h.val % 3) + l.val % 32 = 32 * h.val + l.val % 32; omega))))
  bq h r l := ((congrFun (View.read_writes_junk_eq_canon (Val := Elt Ideal) arg18.view _) _).trans (scalesQ_apply (x1 := x1) (x5 := x5) c arg2 harg2 arg6 harg6 ⟨h.val + 3, by omega⟩ r l)).trans
    ((congrFun (if_neg (show ¬ h.val + 3 < 3 by omega)) _).trans (congrArg₂ (fun a b => x5 (ix2 a b)) rfl (Fin.ext (by show 32 * ((h.val + 3) % 3) + l.val % 32 = 32 * h.val + l.val % 32; omega))))
  ak r l := (congrFun (View.read_writes_junk_eq_canon (Val := Elt Ideal) arg19.view _) _).trans (scalesK_apply (x3 := x3) (x7 := x7) c arg4 harg4 arg8 harg8 0 r l)
  bk r l := (congrFun (View.read_writes_junk_eq_canon (Val := Elt Ideal) arg19.view _) _).trans (scalesK_apply (x3 := x3) (x7 := x7) c arg4 harg4 arg8 harg8 1 r l)

end Cert.KernelIdeal.Gen.Group
end
-- ==== Proof.Loop.lean ====
module

public import proofs.«01_k».proof.Proof.AccVal

/-! # What a step's eight trips leave

Each piece that the loop stores in an output holds its rows' results; the two accumulators hold what they held at the
loop's entry plus the terms of all the step's rows that fall in the lane. -/

@[expose] public section
set_option maxRecDepth 8192
noncomputable section
namespace Cert.KernelIdeal.Gen.Group
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Rope
open scoped BigOperators
variable (𝒱 : Variants) (c : Dev nD) (bd : Option 𝒱.V) (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole) (v298 : IVec S8x128 32) (X_arg1 : BufTy.Contents (Elt Ideal) arg1.view.ty) (X_arg3 : BufTy.Contents (Elt Ideal) arg3.view.ty) (X_arg5 : BufTy.Contents (Elt Ideal) arg5.view.ty) (X_arg7 : BufTy.Contents (Elt Ideal) arg7.view.ty) (X_arg9 : BufTy.Contents (Elt Ideal) arg9.view.ty) (X_arg12 : BufTy.Contents (Elt Ideal) arg12.view.ty) (X_arg17 : BufTy.Contents (Elt Ideal) arg17.view.ty) (X_arg18 : BufTy.Contents (Elt Ideal) arg18.view.ty) (X_arg19 : BufTy.Contents (Elt Ideal) arg19.view.ty)
variable (G13 : BufTy.Contents (Elt Ideal) arg13.view.ty) (G14 : BufTy.Contents (Elt Ideal) arg14.view.ty) (G20 : BufTy.Contents (Elt Ideal) arg20.view.ty) (G21 : BufTy.Contents (Elt Ideal) arg21.view.ty)

theorem tripL_dq (k : Fin k0_t1_loop.trips) : (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k G13 G14 G20 G21).1
    = [pieceQ (insOf arg1 arg3 arg5 arg7 arg9 arg12 arg17 arg18 arg19 X_arg1 X_arg3 X_arg5 X_arg7 X_arg9 X_arg12 X_arg17 X_arg18 X_arg19) v298 k 2 3, pieceQ (insOf arg1 arg3 arg5 arg7 arg9 arg12 arg17 arg18 arg19 X_arg1 X_arg3 X_arg5 X_arg7 X_arg9 X_arg12 X_arg17 X_arg18 X_arg19) v298 k 2 2, pieceQ (insOf arg1 arg3 arg5 arg7 arg9 arg12 arg17 arg18 arg19 X_arg1 X_arg3 X_arg5 X_arg7 X_arg9 X_arg12 X_arg17 X_arg18 X_arg19) v298 k 2 1, pieceQ (insOf arg1 arg3 arg5 arg7 arg9 arg12 arg17 arg18 arg19 X_arg1 X_arg3 X_arg5 X_arg7 X_arg9 X_arg12 X_arg17 X_arg18 X_arg19) v298 k 2 0, pieceQ (insOf arg1 arg3 arg5 arg7 arg9 arg12 arg17 arg18 arg19 X_arg1 X_arg3 X_arg5 X_arg7 X_arg9 X_arg12 X_arg17 X_arg18 X_arg19) v298 k 1 3, pieceQ (insOf arg1 arg3 arg5 arg7 arg9 arg12 arg17 arg18 arg19 X_arg1 X_arg3 X_arg5 X_arg7 X_arg9 X_arg12 X_arg17 X_arg18 X_arg19) v298 k 1 2, pieceQ (insOf arg1 arg3 arg5 arg7 arg9 arg12 arg17 arg18 arg19 X_arg1 X_arg3 X_arg5 X_arg7 X_arg9 X_arg12 X_arg17 X_arg18 X_arg19) v298 k 1 1, pieceQ (insOf arg1 arg3 arg5 arg7 arg9 arg12 arg17 arg18 arg19 X_arg1 X_arg3 X_arg5 X_arg7 X_arg9 X_arg12 X_arg17 X_arg18 X_arg19) v298 k 1 0, pieceQ (insOf arg1 arg3 arg5 arg7 arg9 arg12 arg17 arg18 arg19 X_arg1 X_arg3 X_arg5 X_arg7 X_arg9 X_arg12 X_arg17 X_arg18 X_arg19) v298 k 0 3, pieceQ (insOf arg1 arg3 arg5 arg7 arg9 arg12 arg17 arg18 arg19 X_arg1 X_arg3 X_arg5 X_arg7 X_arg9 X_arg12 X_arg17 X_arg18 X_arg19) v298 k 0 2, pieceQ (insOf arg1 arg3 arg5 arg7 arg9 arg12 arg17 arg18 arg19 X_arg1 X_arg3 X_arg5 X_arg7 X_arg9 X_arg12 X_arg17 X_arg18 X_arg19) v298 k 0 1, pieceQ (insOf arg1 arg3 arg5 arg7 arg9 arg12 arg17 arg18 arg19 X_arg1 X_arg3 X_arg5 X_arg7 X_arg9 X_arg12 X_arg17 X_arg18 X_arg19) v298 k 0 0] := by
  unfold tripL_k0_t1; exact trip_dq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k G13 G14 G20 G21

theorem tripL_dk (k : Fin k0_t1_loop.trips) : (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k G13 G14 G20 G21).2.1 = [pieceK (insOf arg1 arg3 arg5 arg7 arg9 arg12 arg17 arg18 arg19 X_arg1 X_arg3 X_arg5 X_arg7 X_arg9 X_arg12 X_arg17 X_arg18 X_arg19) v298 k] := by
  unfold tripL_k0_t1; exact trip_dk 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k G13 G14 G20 G21

theorem tripL_accq (k : Fin k0_t1_loop.trips) : (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k G13 G14 G20 G21).2.2.1
    = accQ arg20.view (arg20.view.read (Elt Ideal) G20) (insOf arg1 arg3 arg5 arg7 arg9 arg12 arg17 arg18 arg19 X_arg1 X_arg3 X_arg5 X_arg7 X_arg9 X_arg12 X_arg17 X_arg18 X_arg19) v298 k := by
  unfold tripL_k0_t1; exact trip_accq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k G13 G14 G20 G21

theorem tripL_acck (k : Fin k0_t1_loop.trips) : (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k G13 G14 G20 G21).2.2.2
    = group (loadAt (arg21.view.read (Elt Ideal) G21)) (addK (insOf arg1 arg3 arg5 arg7 arg9 arg12 arg17 arg18 arg19 X_arg1 X_arg3 X_arg5 X_arg7 X_arg9 X_arg12 X_arg17 X_arg18 X_arg19) v298 k) [] := by
  unfold tripL_k0_t1; exact trip_acck 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 k G13 G14 G20 G21

/-- The rows' results as the two output blocks hold them: row `8 t + h` of the second is token `t`'s head `h`. -/
def GQ (A : Arr) (y : S128x96x128.Idx) : EReal := A.dxQ (y 0) (y 1) (y 2)
def GK (A : Arr) (y : S1024x128.Idx) : EReal :=
  A.dxK ⟨(y 0).val / 8, by have : (y 0).val < 1024 := (y 0).isLt; omega⟩ ⟨(y 0).val % 8, by omega⟩ (y 1)

/-- The last group of a trip stores every place. -/
theorem accQ_cover {sg : RefSig} {sp : Space} (m : View sg .tc sp S128x128 .f32) (X : S128x128.Idx → Elt Ideal .f32) (I : Ins Ideal) (w : IVec S8x128 32)
    (k : Fin k0_t1_loop.trips) (e l : Fin 128) : ∃ p ∈ accQ m X I w k, ix2 e l ∈ p.1.set := by
  unfold accQ
  simp only [List.foldl_cons, List.foldl_nil]
  exact group_cover _ _ _ e l

variable {A : Arr} (H : Holds (insOf arg1 arg3 arg5 arg7 arg9 arg12 arg17 arg18 arg19 X_arg1 X_arg3 X_arg5 X_arg7 X_arg9 X_arg12 X_arg17 X_arg18 X_arg19) A) (hv : Lanes v298)
include H hv

/-- The pieces of `q`'s result. -/
theorem loop_dq : ∀ (n : ℕ) (_ : n ≤ k0_t1_loop.trips), ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 n).1, ∀ x : p.1.shape.Idx,
    p.2 x = GQ A (p.1.emb x)
  | 0, _ => fun p hp => absurd hp List.not_mem_nil
  | n + 1, hn => fun p hp x => by
    have ih := loop_dq n (Nat.le_of_succ_le hn)
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 ⟨n, hn⟩
    have hp' := (congrArg (fun T => p ∈ T.1) e).mp hp
    rcases List.mem_append.mp hp' with h | h
    · rw [tripL_dq] at h
      simp only [List.mem_cons, List.not_mem_nil, or_false] at h
      rcases h with rfl | rfl | rfl | rfl | rfl | rfl | rfl | rfl | rfl | rfl | rfl | rfl <;> exact pieceQ_apply H ⟨n, hn⟩ _ _ hv x
    · exact ih p h x

/-- The pieces of `k`'s result: row `8 t + h` is token `t`'s head `h`. -/
theorem loop_dk : ∀ (n : ℕ) (_ : n ≤ k0_t1_loop.trips), ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 n).2.1, ∀ x : p.1.shape.Idx,
    p.2 x = GK A (p.1.emb x)
  | 0, _ => fun p hp => absurd hp List.not_mem_nil
  | n + 1, hn => fun p hp x => by
    have ih := loop_dk n (Nat.le_of_succ_le hn)
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 ⟨n, hn⟩
    have hp' := (congrArg (fun T => p ∈ T.2.1) e).mp hp
    rcases List.mem_append.mp hp' with h | h
    · rw [tripL_dk] at h
      obtain rfl := List.mem_singleton.mp h
      exact pieceK_apply H ⟨n, hn⟩ hv x
    · exact ih p h x

/-- The accumulator of `q` after `n` trips. -/
theorem loop_accq (e l : Fin 128) : ∀ (n : ℕ) (hn : n ≤ k0_t1_loop.trips),
    arg20.view.read (Elt Ideal) (arg20.view.writes (Elt Ideal) G20 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 n).2.2.1) (ix2 e l)
      = arg20.view.read (Elt Ideal) G20 (ix2 e l) + ∑ k : Fin n, ∑ h : Fin 3, ∑ tq : Fin 4, A.dgQ (tokOf (Fin.castLE hn k) tq l) (headOf h l) e
  | 0, _ => by
    rw [Finset.univ_eq_empty, Finset.sum_empty]
    exact (add_zero _).symm
  | n + 1, hn => by
    have ih := loop_accq e l n (Nat.le_of_succ_le hn)
    have s : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 (n + 1)).2.2.1 = accQ arg20.view (arg20.view.read (Elt Ideal) (arg20.view.writes (Elt Ideal) G20 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 n).2.2.1)) (insOf arg1 arg3 arg5 arg7 arg9 arg12 arg17 arg18 arg19 X_arg1 X_arg3 X_arg5 X_arg7 X_arg9 X_arg12 X_arg17 X_arg18 X_arg19) v298 ⟨n, hn⟩ ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 n).2.2.1 :=
      (congrArg (fun T => T.2.2.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 ⟨n, hn⟩)).trans (congrArg (· ++ _) (tripL_accq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 _ _ _ _ ⟨n, hn⟩))
    refine (congrArg (fun L => arg20.view.read (Elt Ideal) (arg20.view.writes (Elt Ideal) G20 L) (ix2 e l)) s).trans ?_
    rw [View.writes_append, View.read_writes_apply_eq_canon _ _ _ _ (accQ_cover _ _ _ _ _ e l), accQ_apply H ⟨n, hn⟩ hv, ih,
      Fin.sum_univ_castSucc (fun k : Fin (n + 1) => ∑ h : Fin 3, ∑ tq : Fin 4, A.dgQ (tokOf (Fin.castLE hn k) tq l) (headOf h l) e), ← add_assoc]
    rfl

/-- The accumulator of `k` after `n` trips. -/
theorem loop_acck (e l : Fin 128) : ∀ (n : ℕ) (hn : n ≤ k0_t1_loop.trips),
    arg21.view.read (Elt Ideal) (arg21.view.writes (Elt Ideal) G21 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 n).2.2.2) (ix2 e l)
      = arg21.view.read (Elt Ideal) G21 (ix2 e l) + ∑ k : Fin n, A.dgK (tokKOf (Fin.castLE hn k) l) (headKOf l) e
  | 0, _ => by
    rw [Finset.univ_eq_empty, Finset.sum_empty]
    exact (add_zero _).symm
  | n + 1, hn => by
    have ih := loop_acck e l n (Nat.le_of_succ_le hn)
    have s : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 (n + 1)).2.2.2 = group (loadAt (arg21.view.read (Elt Ideal) (arg21.view.writes (Elt Ideal) G21 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 n).2.2.2))) (addK (insOf arg1 arg3 arg5 arg7 arg9 arg12 arg17 arg18 arg19 X_arg1 X_arg3 X_arg5 X_arg7 X_arg9 X_arg12 X_arg17 X_arg18 X_arg19) v298 ⟨n, hn⟩) [] ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 n).2.2.2 :=
      (congrArg (fun T => T.2.2.2) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 G13 G14 G20 G21 ⟨n, hn⟩)).trans (congrArg (· ++ _) (tripL_acck 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v298 X_arg1 X_arg3 X_arg5 X_arg7 X_arg9 X_arg12 X_arg17 X_arg18 X_arg19 _ _ _ _ ⟨n, hn⟩))
    refine (congrArg (fun L => arg21.view.read (Elt Ideal) (arg21.view.writes (Elt Ideal) G21 L) (ix2 e l)) s).trans ?_
    rw [View.writes_append, View.read_writes_apply_eq_canon _ _ _ _ (group_cover _ _ _ e l), accK_apply H ⟨n, hn⟩ hv, ih,
      Fin.sum_univ_castSucc, ← add_assoc]
    rfl

end Cert.KernelIdeal.Gen.Group
end
-- ==== Proof.StepVal.lean ====
module

public import proofs.«01_k».proof.Proof.Step
public import proofs.«01_k».proof.Proof.Loop
public import proofs.«01_k».proof.Proof.IdealOuts

/-! # What a step leaves, as the rows' results

The two result blocks hold the step's rows' results, and each accumulator what it held before (nothing at the first step)
plus the terms of the step's rows; the last step sums the accumulators over the lanes, each place divided by its gain. -/

@[expose] public section
set_option maxRecDepth 16384
noncomputable section
namespace Cert.KernelIdeal.Gen.Group
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Rope
open scoped BigOperators

/-- The terms of a step's rows that the accumulators gather at element `e`, lane `l`. -/
def stepQ (A : Arr) (e l : Fin 128) : EReal := ∑ k : Fin k0_t1_loop.trips, ∑ h : Fin 3, ∑ tq : Fin 4, A.dgQ (tokOf k tq l) (headOf h l) e
def stepK (A : Arr) (e l : Fin 128) : EReal := ∑ k : Fin k0_t1_loop.trips, A.dgK (tokKOf k l) (headKOf l) e

theorem lanes_iota : Lanes (iota Kind.tc S8x128 32 [1] iota_S8x128_d1_w32) := fun s l => by pointwise

/-- The accumulators' sum over the lanes. -/
theorem sum_lanes_q (V : Vec Ideal S128x128 .f32) (G : Vec Ideal S1x128x128 .f32) (e : Fin 128) :
    k0_pay4 V G (ix2 0 e) = ∑ l : Fin 128, Ideal.div (V (ix2 e l)) (G (ix3 0 e l)) := by
  unfold k0_pay4
  pointwise

theorem sum_lanes_k (V : Vec Ideal S128x128 .f32) (G : Vec Ideal S1x128x128 .f32) (e : Fin 128) :
    k0_pay5 V G (ix2 0 e) = ∑ l : Fin 128, Ideal.div (V (ix2 e l)) (G (ix3 0 e l)) := by
  unfold k0_pay5
  pointwise

/-- A store of the whole array, read back. -/
theorem read_zero {sg : RefSig} {sp : Space} (m : View sg .tc sp S128x128 .f32) (W : Vec Ideal S128x128 .f32) (f) (y : S128x128.Idx) :
    m.read (Elt Ideal) (m.writes (Elt Ideal) f [⟨Rect.unit ![0, 0] S128x128.size inb_S128x128_S128x128_0_0, W⟩]) y = W y := by
  have hc : ∃ p ∈ ([⟨Rect.unit ![0, 0] S128x128.size inb_S128x128_S128x128_0_0, W⟩] : List (View.Piece (Elt Ideal) S128x128 .f32)), y ∈ p.1.set :=
    ⟨_, List.mem_cons_self, (Rect.mem_set_unit (inb := inb_S128x128_S128x128_0_0)).mpr fun a => by
      match a with
      | 0 => exact ⟨Nat.zero_le _, by have : (y 0).val < 128 := (y 0).isLt; show (y 0).val < 0 + 128; omega⟩
      | 1 => exact ⟨Nat.zero_le _, by have : (y 1).val < 128 := (y 1).isLt; show (y 1).val < 0 + 128; omega⟩⟩
  rw [View.read_writes_apply_eq_canon m f y _ hc]
  refine View.canon_apply_of_pieces (Val := Elt Ideal) (e := .f32) (S := S128x128) W _ ?_ y hc
  intro p hp x
  obtain rfl := List.mem_singleton.mp hp
  refine congrArg W ?_
  funext a
  refine Fin.ext ?_
  match a with
  | 0 => show (x 0).val = 0 + 1 * (x 0).val; omega
  | 1 => show (x 1).val = 0 + 1 * (x 1).val; omega

theorem zero_q (y : S128x128.Idx) : k0_pay1821 (F := Ideal) y = 0 := by
  unfold k0_pay1821
  refine (congrFun (shapeCast_self (s := S128x128) _ _) y).trans ?_
  exact lit_zero

theorem zero_k (y : S128x128.Idx) : k0_pay1822 (F := Ideal) y = 0 := by
  unfold k0_pay1822
  refine (congrFun (shapeCast_self (s := S128x128) _ _) y).trans ?_
  exact lit_zero

variable (c : Dev nD)  (i : grid0.Coords) (arg1 : Memref sig .tc .vmem S128x96x128 .fp8e5m2) (harg1 : arg1.IsWhole) (arg2 : Memref sig .tc .vmem S128x96 .f32) (harg2 : arg2.IsWhole) (arg3 : Memref sig .tc .vmem S1024x128 .fp8e5m2) (harg3 : arg3.IsWhole) (arg4 : Memref sig .tc .vmem S128x8 .f32) (harg4 : arg4.IsWhole) (arg5 : Memref sig .tc .vmem S128x96x128 .fp8e4m3) (harg5 : arg5.IsWhole) (arg6 : Memref sig .tc .vmem S128x96 .f32) (harg6 : arg6.IsWhole) (arg7 : Memref sig .tc .vmem S1024x128 .fp8e4m3) (harg7 : arg7.IsWhole) (arg8 : Memref sig .tc .vmem S128x8 .f32) (harg8 : arg8.IsWhole) (arg9 : Memref sig .tc .vmem S2x128x128 .f32) (harg9 : arg9.IsWhole) (arg10 : Memref sig .tc .vmem S1x1x128 .i32) (harg10 : arg10.IsWhole) (arg11 : Memref sig .tc .vmem S64x128 .f32) (harg11 : arg11.IsWhole) (arg12 : Memref sig .tc .vmem S256x256 .fp8e4m3) (harg12 : arg12.IsWhole) (arg13 : Memref sig .tc .vmem S128x96x128 .bf16) (harg13 : arg13.IsWhole) (arg14 : Memref sig .tc .vmem S1024x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S6x32x128 .f32) (harg18 : arg18.IsWhole) (arg19 : Memref sig .tc .vmem S2x8x128 .f32) (harg19 : arg19.IsWhole) (arg20 : Memref sig .tc .vmem S128x128 .f32) (harg20 : arg20.IsWhole) (arg21 : Memref sig .tc .vmem S128x128 .f32) (harg21 : arg21.IsWhole)
variable (x0 : Vec Ideal S128x96x128 .fp8e5m2) (x1 : Vec Ideal S128x96 .f32) (x2 : Vec Ideal S1024x128 .fp8e5m2) (x3 : Vec Ideal S128x8 .f32) (x4 : Vec Ideal S128x96x128 .fp8e4m3) (x5 : Vec Ideal S128x96 .f32) (x6 : Vec Ideal S1024x128 .fp8e4m3) (x7 : Vec Ideal S128x8 .f32) (x8 : Vec Ideal S2x128x128 .f32) (x9 : Vec Ideal S1x1x128 .i32) (x10 : Vec Ideal S64x128 .f32) (x11 : Vec Ideal S256x256 .fp8e4m3)
variable (hg : ∀ (g : Fin 2) (e l : Fin 128), x8 (ix3 g e l) = x8 (ix3 g e 0))
    (he : ∀ i j : Fin 256, x11 (ix2 i j) = if i = j then (1 : EReal) else 0)
include hg he

/-- Case A: result block 12. -/
theorem out_A_12 (hc0 : cond0_0 i) (hc1 : ¬cond0_1 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = GQ (stepArr x0 x1 x2 x3 x4 x5 x6 x7 x8 x9 x10 x11) := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  funext y
  refine (congrFun (View.read_writes_junk_eq_canon (Val := Elt Ideal) VO0_12 _) y).trans ?_
  refine View.canon_apply_of_pieces (Val := Elt Ideal) (GQ (stepArr x0 x1 x2 x3 x4 x5 x6 x7 x8 x9 x10 x11)) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 y)
  exact loop_dq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (arg20.view.writes (Elt Ideal) arg20.view.junk kernelRun0_A.sl.HS3_1) (arg21.view.writes (Elt Ideal) arg21.view.junk kernelRun0_A.sl.HS4_1) H lanes_iota k0_t1_loop.trips le_rfl

/-- Case A: result block 13. -/
theorem out_A_13 (hc0 : cond0_0 i) (hc1 : ¬cond0_1 i) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 = GK (stepArr x0 x1 x2 x3 x4 x5 x6 x7 x8 x9 x10 x11) := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  funext y
  refine (congrFun (View.read_writes_junk_eq_canon (Val := Elt Ideal) VO0_13 _) y).trans ?_
  refine View.canon_apply_of_pieces (Val := Elt Ideal) (GK (stepArr x0 x1 x2 x3 x4 x5 x6 x7 x8 x9 x10 x11)) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 y)
  exact loop_dk Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (arg20.view.writes (Elt Ideal) arg20.view.junk kernelRun0_A.sl.HS3_1) (arg21.view.writes (Elt Ideal) arg21.view.junk kernelRun0_A.sl.HS4_1) H lanes_iota k0_t1_loop.trips le_rfl

/-- Case A: accumulator 3. -/
theorem sout_A_3 (hc0 : cond0_0 i) (hc1 : ¬cond0_1 i) (e l : Fin 128) :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 (ix2 e l) = stepQ (stepArr x0 x1 x2 x3 x4 x5 x6 x7 x8 x9 x10 x11) e l := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  refine (congrFun (View.read_writes_junk_eq_canon (Val := Elt Ideal) VS0_3 _) _).trans ?_
  refine (congrFun (View.read_writes_junk_eq_canon (Val := Elt Ideal) arg20.view _) _).symm.trans ?_
  have e1 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (arg20.view.writes (Elt Ideal) arg20.view.junk kernelRun0_A.sl.HS3_1) (arg21.view.writes (Elt Ideal) arg21.view.junk kernelRun0_A.sl.HS4_1) k0_t1_loop.trips).2.2.1 ++ kernelRun0_A.sl.HS3_1 := rfl
  rw [e1, View.writes_append]
  refine (loop_accq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (arg20.view.writes (Elt Ideal) arg20.view.junk kernelRun0_A.sl.HS3_1) (arg21.view.writes (Elt Ideal) arg21.view.junk kernelRun0_A.sl.HS4_1) H lanes_iota e l k0_t1_loop.trips le_rfl).trans ?_
  refine (congrArg (· + _) ((read_zero arg20.view _ _ _).trans (zero_q _))).trans (zero_add _)

/-- Case A: accumulator 4. -/
theorem sout_A_4 (hc0 : cond0_0 i) (hc1 : ¬cond0_1 i) (e l : Fin 128) :
    sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 (ix2 e l) = stepK (stepArr x0 x1 x2 x3 x4 x5 x6 x7 x8 x9 x10 x11) e l := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  refine (congrFun (View.read_writes_junk_eq_canon (Val := Elt Ideal) VS0_4 _) _).trans ?_
  refine (congrFun (View.read_writes_junk_eq_canon (Val := Elt Ideal) arg21.view _) _).symm.trans ?_
  have e1 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11).2.2.2.2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (arg20.view.writes (Elt Ideal) arg20.view.junk kernelRun0_A.sl.HS3_1) (arg21.view.writes (Elt Ideal) arg21.view.junk kernelRun0_A.sl.HS4_1) k0_t1_loop.trips).2.2.2 ++ kernelRun0_A.sl.HS4_1 := rfl
  rw [e1, View.writes_append]
  refine (loop_acck Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (arg20.view.writes (Elt Ideal) arg20.view.junk kernelRun0_A.sl.HS3_1) (arg21.view.writes (Elt Ideal) arg21.view.junk kernelRun0_A.sl.HS4_1) H lanes_iota e l k0_t1_loop.trips le_rfl).trans ?_
  refine (congrArg (· + _) ((read_zero arg21.view _ _ _).trans (zero_k _))).trans (zero_add _)

/-- Case B: result block 12. -/
theorem out_B_12 (hc0 : ¬cond0_0 i) (hc1 : ¬cond0_1 i) (xs3 xs4 : Vec Ideal S128x128 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 = GQ (stepArr x0 x1 x2 x3 x4 x5 x6 x7 x8 x9 x10 x11) := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  funext y
  refine (congrFun (View.read_writes_junk_eq_canon (Val := Elt Ideal) VO0_12 _) y).trans ?_
  refine View.canon_apply_of_pieces (Val := Elt Ideal) (GQ (stepArr x0 x1 x2 x3 x4 x5 x6 x7 x8 x9 x10 x11)) _ ?_ y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 y)
  exact loop_dq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) H lanes_iota k0_t1_loop.trips le_rfl

/-- Case B: result block 13. -/
theorem out_B_13 (hc0 : ¬cond0_0 i) (hc1 : ¬cond0_1 i) (xs3 xs4 : Vec Ideal S128x128 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 = GK (stepArr x0 x1 x2 x3 x4 x5 x6 x7 x8 x9 x10 x11) := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  funext y
  refine (congrFun (View.read_writes_junk_eq_canon (Val := Elt Ideal) VO0_13 _) y).trans ?_
  refine View.canon_apply_of_pieces (Val := Elt Ideal) (GK (stepArr x0 x1 x2 x3 x4 x5 x6 x7 x8 x9 x10 x11)) _ ?_ y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 y)
  exact loop_dk Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) H lanes_iota k0_t1_loop.trips le_rfl

/-- Case B: accumulator 3. -/
theorem sout_B_3 (hc0 : ¬cond0_0 i) (hc1 : ¬cond0_1 i) (xs3 xs4 : Vec Ideal S128x128 .f32) (e l : Fin 128) :
    sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 (ix2 e l) = xs3 (ix2 e l) + stepQ (stepArr x0 x1 x2 x3 x4 x5 x6 x7 x8 x9 x10 x11) e l := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  refine (congrFun (View.read_writes_junk_eq_canon (Val := Elt Ideal) VS0_3 _) _).trans ?_
  refine (View.read_writes_apply_eq_canon (Val := Elt Ideal) arg20.view (harg20.unread xs3) _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 (ix2 e l))).symm.trans ?_
  have e1 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) k0_t1_loop.trips).2.2.1 := rfl
  rw [e1]
  refine (loop_accq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) H lanes_iota e l k0_t1_loop.trips le_rfl).trans ?_
  exact congrArg (· + _) (congrFun (harg20.read_unread xs3) _)

/-- Case B: accumulator 4. -/
theorem sout_B_4 (hc0 : ¬cond0_0 i) (hc1 : ¬cond0_1 i) (xs3 xs4 : Vec Ideal S128x128 .f32) (e l : Fin 128) :
    sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 (ix2 e l) = xs4 (ix2 e l) + stepK (stepArr x0 x1 x2 x3 x4 x5 x6 x7 x8 x9 x10 x11) e l := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  refine (congrFun (View.read_writes_junk_eq_canon (Val := Elt Ideal) VS0_4 _) _).trans ?_
  refine (View.read_writes_apply_eq_canon (Val := Elt Ideal) arg21.view (harg21.unread xs4) _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 (ix2 e l))).symm.trans ?_
  have e1 : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) k0_t1_loop.trips).2.2.2 := rfl
  rw [e1]
  refine (loop_acck Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) H lanes_iota e l k0_t1_loop.trips le_rfl).trans ?_
  exact congrArg (· + _) (congrFun (harg21.read_unread xs4) _)

/-- Case C: result block 12. -/
theorem out_C_12 (hc0 : ¬cond0_0 i) (hc1 : cond0_1 i) (xs3 xs4 : Vec Ideal S128x128 .f32) :
    out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 = GQ (stepArr x0 x1 x2 x3 x4 x5 x6 x7 x8 x9 x10 x11) := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  funext y
  refine (congrFun (View.read_writes_junk_eq_canon (Val := Elt Ideal) VO0_12 _) y).trans ?_
  refine View.canon_apply_of_pieces (Val := Elt Ideal) (GQ (stepArr x0 x1 x2 x3 x4 x5 x6 x7 x8 x9 x10 x11)) _ ?_ y (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 y)
  exact loop_dq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) H lanes_iota k0_t1_loop.trips le_rfl

/-- Case C: result block 13. -/
theorem out_C_13 (hc0 : ¬cond0_0 i) (hc1 : cond0_1 i) (xs3 xs4 : Vec Ideal S128x128 .f32) :
    out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 = GK (stepArr x0 x1 x2 x3 x4 x5 x6 x7 x8 x9 x10 x11) := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  funext y
  refine (congrFun (View.read_writes_junk_eq_canon (Val := Elt Ideal) VO0_13 _) y).trans ?_
  refine View.canon_apply_of_pieces (Val := Elt Ideal) (GK (stepArr x0 x1 x2 x3 x4 x5 x6 x7 x8 x9 x10 x11)) _ ?_ y (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 y)
  exact loop_dk Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) H lanes_iota k0_t1_loop.trips le_rfl

/-- Case C: accumulator 3. -/
theorem sout_C_3 (hc0 : ¬cond0_0 i) (hc1 : cond0_1 i) (xs3 xs4 : Vec Ideal S128x128 .f32) (e l : Fin 128) :
    sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 (ix2 e l) = xs3 (ix2 e l) + stepQ (stepArr x0 x1 x2 x3 x4 x5 x6 x7 x8 x9 x10 x11) e l := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  refine (congrFun (View.read_writes_junk_eq_canon (Val := Elt Ideal) VS0_3 _) _).trans ?_
  refine (View.read_writes_apply_eq_canon (Val := Elt Ideal) arg20.view (harg20.unread xs3) _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 (ix2 e l))).symm.trans ?_
  have e1 : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) k0_t1_loop.trips).2.2.1 := rfl
  rw [e1]
  refine (loop_accq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) H lanes_iota e l k0_t1_loop.trips le_rfl).trans ?_
  exact congrArg (· + _) (congrFun (harg20.read_unread xs3) _)

/-- Case C: accumulator 4. -/
theorem sout_C_4 (hc0 : ¬cond0_0 i) (hc1 : cond0_1 i) (xs3 xs4 : Vec Ideal S128x128 .f32) (e l : Fin 128) :
    sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 (ix2 e l) = xs4 (ix2 e l) + stepK (stepArr x0 x1 x2 x3 x4 x5 x6 x7 x8 x9 x10 x11) e l := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  refine (congrFun (View.read_writes_junk_eq_canon (Val := Elt Ideal) VS0_4 _) _).trans ?_
  refine (View.read_writes_apply_eq_canon (Val := Elt Ideal) arg21.view (harg21.unread xs4) _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 (ix2 e l))).symm.trans ?_
  have e1 : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.2.2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) k0_t1_loop.trips).2.2.2 := rfl
  rw [e1]
  refine (loop_acck Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) H lanes_iota e l k0_t1_loop.trips le_rfl).trans ?_
  exact congrArg (· + _) (congrFun (harg21.read_unread xs4) _)

/-- Case C: the gain's gradient, 14. -/
theorem out_C_14 (hc0 : ¬cond0_0 i) (hc1 : cond0_1 i) (xs3 xs4 : Vec Ideal S128x128 .f32) (e : Fin 128) :
    out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 (ix2 0 e) = ∑ l : Fin 128, Ideal.div (xs3 (ix2 e l) + stepQ (stepArr x0 x1 x2 x3 x4 x5 x6 x7 x8 x9 x10 x11) e l) ((stepArr x0 x1 x2 x3 x4 x5 x6 x7 x8 x9 x10 x11).γq e) := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  refine (congrFun (View.read_writes_junk_eq_canon (Val := Elt Ideal) VO0_14 _) _).trans ?_
  let V : Vec Ideal S128x128 .f32 := View.readAt (Elt Ideal) arg20.view (Rect.unit ![0, 0] S128x128.size inb_S128x128_S128x128_0_0).toLoadRect (arg20.view.writes (Elt Ideal) (harg20.unread xs3) (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) k0_t1_loop.trips).2.2.1)
  let G : Vec Ideal S1x128x128 .f32 := View.readAt (Elt Ideal) arg9.view (Rect.unit (s := S2x128x128) ![0, 0, 0] S1x128x128.size inb_S2x128x128_S1x128x128_0_0_0).toLoadRect (harg9.unread x8)
  refine (View.canon_apply_of_pieces (Val := Elt Ideal) (e := .f32) (S := S1x128) (k0_pay4 V G) _ ?_ (ix2 0 e) (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 (ix2 0 e))).trans ?_
  · have e1 : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.1 = [⟨Rect.unit ![0, 0] S1x128.size inb_S1x128_S1x128_0_0, k0_pay4 V G⟩] := rfl
    rw [e1]
    intro p hp x
    obtain rfl := List.mem_singleton.mp hp
    refine congrArg (k0_pay4 V G) ?_
    funext a
    refine Fin.ext ?_
    match a with
    | 0 => show (x 0).val = 0 + 1 * (x 0).val; omega
    | 1 => show (x 1).val = 0 + 1 * (x 1).val; omega
  · refine (sum_lanes_q V G e).trans (Finset.sum_congr rfl fun l _ => congrArg₂ Ideal.div ?_ ?_)
    · have ev : V (ix2 e l) = arg20.view.read (Elt Ideal) (arg20.view.writes (Elt Ideal) (harg20.unread xs3) (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) k0_t1_loop.trips).2.2.1) (ix2 e l) := by
        refine congrArg (arg20.view.read (Elt Ideal) _) ?_
        exact ix2_eq _ _ _ (by show 0 + 1 * e.val = e.val; omega) (by show 0 + 1 * l.val = l.val; omega)
      rw [ev]
      refine (loop_accq Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) H lanes_iota e l k0_t1_loop.trips le_rfl).trans ?_
      exact congrArg (· + _) (congrFun (harg20.read_unread xs3) _)
    · refine (congrFun (harg9.read_unread x8) _).trans ?_
      refine (congrArg x8 (ix3_eq _ 0 e l ?_ ?_ ?_)).trans (hg 0 e l)
      · rfl
      · show 0 + 1 * e.val = e.val; omega
      · show 0 + 1 * l.val = l.val; omega

/-- Case C: the gain's gradient, 15. -/
theorem out_C_15 (hc0 : ¬cond0_0 i) (hc1 : cond0_1 i) (xs3 xs4 : Vec Ideal S128x128 .f32) (e : Fin 128) :
    out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 (ix2 0 e) = ∑ l : Fin 128, Ideal.div (xs4 (ix2 e l) + stepK (stepArr x0 x1 x2 x3 x4 x5 x6 x7 x8 x9 x10 x11) e l) ((stepArr x0 x1 x2 x3 x4 x5 x6 x7 x8 x9 x10 x11).γk e) := by
  have H : Holds (insOf arg1 arg3 arg5 arg7 arg9 arg12 arg17 arg18 arg19 (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7))) (stepArr x0 x1 x2 x3 x4 x5 x6 x7 x8 x9 x10 x11) := by
    apply holds_step
    · exact hg
    · exact he
  refine (congrFun (View.read_writes_junk_eq_canon (Val := Elt Ideal) VO0_15 _) _).trans ?_
  let V : Vec Ideal S128x128 .f32 := View.readAt (Elt Ideal) arg21.view (Rect.unit ![0, 0] S128x128.size inb_S128x128_S128x128_0_0).toLoadRect (arg21.view.writes (Elt Ideal) (harg21.unread xs4) (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) k0_t1_loop.trips).2.2.2)
  let G : Vec Ideal S1x128x128 .f32 := View.readAt (Elt Ideal) arg9.view (Rect.unit (s := S2x128x128) ![1, 0, 0] S1x128x128.size inb_S2x128x128_S1x128x128_1_0_0).toLoadRect (harg9.unread x8)
  refine (View.canon_apply_of_pieces (Val := Elt Ideal) (e := .f32) (S := S1x128) (k0_pay5 V G) _ ?_ (ix2 0 e) (cover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4 (ix2 0 e))).trans ?_
  · have e1 : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 xs3 xs4).2.2.2.1 = [⟨Rect.unit ![0, 0] S1x128.size inb_S1x128_S1x128_0_0, k0_pay5 V G⟩] := rfl
    rw [e1]
    intro p hp x
    obtain rfl := List.mem_singleton.mp hp
    refine congrArg (k0_pay5 V G) ?_
    funext a
    refine Fin.ext ?_
    match a with
    | 0 => show (x 0).val = 0 + 1 * (x 0).val; omega
    | 1 => show (x 1).val = 0 + 1 * (x 1).val; omega
  · refine (sum_lanes_k V G e).trans (Finset.sum_congr rfl fun l _ => congrArg₂ Ideal.div ?_ ?_)
    · have ev : V (ix2 e l) = arg21.view.read (Elt Ideal) (arg21.view.writes (Elt Ideal) (harg21.unread xs4) (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) k0_t1_loop.trips).2.2.2) (ix2 e l) := by
        refine congrArg (arg21.view.read (Elt Ideal) _) ?_
        exact ix2_eq _ _ _ (by show 0 + 1 * e.val = e.val; omega) (by show 0 + 1 * l.val = l.val; omega)
      rw [ev]
      refine (loop_acck Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (iota Kind.tc S8x128 32 [1] iota_S8x128_d1_w32) (harg1.unread x0) (harg3.unread x2) (harg5.unread x4) (harg7.unread x6) (harg9.unread x8) (harg12.unread x11)
      (arg17.view.writes (Elt Ideal) arg17.view.junk (kernelRun0_A.sl.HS0_2 c arg10 harg10 arg11 harg11 x9 x10))
      (arg18.view.writes (Elt Ideal) arg18.view.junk (kernelRun0_A.sl.HS1_6 c arg2 harg2 arg6 harg6 x1 x5))
      (arg19.view.writes (Elt Ideal) arg19.view.junk (kernelRun0_A.sl.HS2_2 c arg4 harg4 arg8 harg8 x3 x7)) arg13.view.junk arg14.view.junk (harg20.unread xs3) (harg21.unread xs4) H lanes_iota e l k0_t1_loop.trips le_rfl).trans ?_
      exact congrArg (· + _) (congrFun (harg21.read_unread xs4) _)
    · refine (congrFun (harg9.read_unread x8) _).trans ?_
      refine (congrArg x8 (ix3_eq _ 1 e l ?_ ?_ ?_)).trans (hg 1 e l)
      · rfl
      · show 0 + 1 * e.val = e.val; omega
      · show 0 + 1 * l.val = l.val; omega

end Cert.KernelIdeal.Gen.Group
end
-- ==== Proof.Eye0.lean ====
module

public import proofs.«01_k».proof.Proof.Gen.KernelIdeal

/-! # Rows 0 to 31 of the matrix that the kernel transposes by: they are the unit matrix's -/

@[expose] public section
namespace Cert.KernelIdeal.Gen.Group
set_option maxRecDepth 16384
set_option maxHeartbeats 0
theorem eye_rows0 : ∀ a : Fin 32, ∀ b : Fin 256, lit1t (256 * (0 + a.val) + b.val) = if b.val = 0 + a.val then 0x3F800000#32 else 0#32 := by
  decide +kernel
end Cert.KernelIdeal.Gen.Group
end
-- ==== Proof.Eye1.lean ====
module

public import proofs.«01_k».proof.Proof.Gen.KernelIdeal

/-! # Rows 32 to 63 of the matrix that the kernel transposes by: they are the unit matrix's -/

@[expose] public section
namespace Cert.KernelIdeal.Gen.Group
set_option maxRecDepth 16384
set_option maxHeartbeats 0
theorem eye_rows1 : ∀ a : Fin 32, ∀ b : Fin 256, lit1t (256 * (32 + a.val) + b.val) = if b.val = 32 + a.val then 0x3F800000#32 else 0#32 := by
  decide +kernel
end Cert.KernelIdeal.Gen.Group
end
-- ==== Proof.Eye2.lean ====
module

public import proofs.«01_k».proof.Proof.Gen.KernelIdeal

/-! # Rows 64 to 95 of the matrix that the kernel transposes by: they are the unit matrix's -/

@[expose] public section
namespace Cert.KernelIdeal.Gen.Group
set_option maxRecDepth 16384
set_option maxHeartbeats 0
theorem eye_rows2 : ∀ a : Fin 32, ∀ b : Fin 256, lit1t (256 * (64 + a.val) + b.val) = if b.val = 64 + a.val then 0x3F800000#32 else 0#32 := by
  decide +kernel
end Cert.KernelIdeal.Gen.Group
end
-- ==== Proof.Eye3.lean ====
module

public import proofs.«01_k».proof.Proof.Gen.KernelIdeal

/-! # Rows 96 to 127 of the matrix that the kernel transposes by: they are the unit matrix's -/

@[expose] public section
namespace Cert.KernelIdeal.Gen.Group
set_option maxRecDepth 16384
set_option maxHeartbeats 0
theorem eye_rows3 : ∀ a : Fin 32, ∀ b : Fin 256, lit1t (256 * (96 + a.val) + b.val) = if b.val = 96 + a.val then 0x3F800000#32 else 0#32 := by
  decide +kernel
end Cert.KernelIdeal.Gen.Group
end
-- ==== Proof.Eye4.lean ====
module

public import proofs.«01_k».proof.Proof.Gen.KernelIdeal

/-! # Rows 128 to 159 of the matrix that the kernel transposes by: they are the unit matrix's -/

@[expose] public section
namespace Cert.KernelIdeal.Gen.Group
set_option maxRecDepth 16384
set_option maxHeartbeats 0
theorem eye_rows4 : ∀ a : Fin 32, ∀ b : Fin 256, lit1t (256 * (128 + a.val) + b.val) = if b.val = 128 + a.val then 0x3F800000#32 else 0#32 := by
  decide +kernel
end Cert.KernelIdeal.Gen.Group
end
-- ==== Proof.Eye5.lean ====
module

public import proofs.«01_k».proof.Proof.Gen.KernelIdeal

/-! # Rows 160 to 191 of the matrix that the kernel transposes by: they are the unit matrix's -/

@[expose] public section
namespace Cert.KernelIdeal.Gen.Group
set_option maxRecDepth 16384
set_option maxHeartbeats 0
theorem eye_rows5 : ∀ a : Fin 32, ∀ b : Fin 256, lit1t (256 * (160 + a.val) + b.val) = if b.val = 160 + a.val then 0x3F800000#32 else 0#32 := by
  decide +kernel
end Cert.KernelIdeal.Gen.Group
end
-- ==== Proof.Eye6.lean ====
module

public import proofs.«01_k».proof.Proof.Gen.KernelIdeal

/-! # Rows 192 to 223 of the matrix that the kernel transposes by: they are the unit matrix's -/

@[expose] public section
namespace Cert.KernelIdeal.Gen.Group
set_option maxRecDepth 16384
set_option maxHeartbeats 0
theorem eye_rows6 : ∀ a : Fin 32, ∀ b : Fin 256, lit1t (256 * (192 + a.val) + b.val) = if b.val = 192 + a.val then 0x3F800000#32 else 0#32 := by
  decide +kernel
end Cert.KernelIdeal.Gen.Group
end
-- ==== Proof.Eye7.lean ====
module

public import proofs.«01_k».proof.Proof.Gen.KernelIdeal

/-! # Rows 224 to 255 of the matrix that the kernel transposes by: they are the unit matrix's -/

@[expose] public section
namespace Cert.KernelIdeal.Gen.Group
set_option maxRecDepth 16384
set_option maxHeartbeats 0
theorem eye_rows7 : ∀ a : Fin 32, ∀ b : Fin 256, lit1t (256 * (224 + a.val) + b.val) = if b.val = 224 + a.val then 0x3F800000#32 else 0#32 := by
  decide +kernel
end Cert.KernelIdeal.Gen.Group
end
-- ==== Proof.Inputs.lean ====
module

public import proofs.«01_k».proof.Proof.IdealFrame
public import proofs.«01_k».proof.Proof.TripVal
public import Idealize.ShloMosaic.Lib.StableHlo.ReadAt

/-! # The kernel's operands at a grid step

Each block a grid step reads, at an index, as the argument it comes from: step `t` holds tokens `128 t` to `128 t + 127`. -/

@[expose] public section
set_option maxRecDepth 8192
noncomputable section
namespace Cert.KernelIdeal.Gen.Group
open Idealize.ShloMosaic Idealize.ShloMosaic.TcCoe Idealize.ShloMosaic.Tactic
open Cert.KernelIdeal Cert.KernelIdeal.Gen
open scoped BigOperators

variable (m : (ℓ : Loc nD τ sig) → Buf (Elt Ideal) ℓ) (c : Dev nD) (t : Fin cfg0.N)

theorem t_lt : t.val < 10 := lt_of_lt_of_eq t.isLt N_0

/-- Token `u` of step `t`. -/
def stepTok (u : Fin 128) : Fin 1280 := ⟨128 * t.val + u.val, by have := t_lt t; omega⟩

theorem V_0 (T : Fin 1280) (h : Fin 96) (e : Fin 128) : V m c main_v7 (ix3 T h e) = m ((c : Thread nD τ).loc main_arg0) (ix4 0 T h e) := by
  unfold V
  after_reads_simp
  clean_types
  pointwise

theorem index_0 : ∀ t : Fin grid0.N, win0_0.index t = ![t.val, 0, 0] := by decide +kernel

theorem iblk_0 (u : Fin 128) (h : Fin 96) (e : Fin 128) : iblk m c 0 t (ix3 u h e) = m ((c : Thread nD τ).loc main_arg0) (ix4 0 (stepTok t u) h e) := by
  refine Eq.trans ?_ (V_0 m c (stepTok t u) h e)
  show V m c main_v7 (((cfg0.win 0).blk t).view.emb (ix3 u h e)) = _
  refine congrArg (V m c main_v7) ?_
  funext a
  apply Fin.ext
  have hi := congrFun (index_0 t) a
  revert hi
  match a with
  | ⟨0, _⟩ =>
    intro hi
    show win0_0.index t 0 * 128 + 1 * u.val = 128 * t.val + u.val
    rw [show win0_0.index t 0 = t.val from hi]
    omega
  | ⟨1, _⟩ =>
    intro hi
    show win0_0.index t 1 * 96 + 1 * h.val = h.val
    rw [show win0_0.index t 1 = 0 from hi]
    omega
  | ⟨2, _⟩ =>
    intro hi
    show win0_0.index t 2 * 128 + 1 * e.val = e.val
    rw [show win0_0.index t 2 = 0 from hi]
    omega

theorem V_1 (T : Fin 1280) (h : Fin 96) : V m c main_v8 (ix2 T h) = m ((c : Thread nD τ).loc main_arg1) (ix3 0 T h) := by
  unfold V
  after_reads_simp
  clean_types
  pointwise

theorem index_1 : ∀ t : Fin grid0.N, win0_1.index t = ![t.val, 0] := by decide +kernel

theorem iblk_1 (u : Fin 128) (h : Fin 96) : iblk m c 1 t (ix2 u h) = m ((c : Thread nD τ).loc main_arg1) (ix3 0 (stepTok t u) h) := by
  refine Eq.trans ?_ (V_1 m c (stepTok t u) h)
  show V m c main_v8 (((cfg0.win 1).blk t).view.emb (ix2 u h)) = _
  refine congrArg (V m c main_v8) ?_
  funext a
  apply Fin.ext
  have hi := congrFun (index_1 t) a
  revert hi
  match a with
  | ⟨0, _⟩ =>
    intro hi
    show win0_1.index t 0 * 128 + 1 * u.val = 128 * t.val + u.val
    rw [show win0_1.index t 0 = t.val from hi]
    omega
  | ⟨1, _⟩ =>
    intro hi
    show win0_1.index t 1 * 96 + 1 * h.val = h.val
    rw [show win0_1.index t 1 = 0 from hi]
    omega

theorem V_2 (T : Fin 1280) (h : Fin 8) (e : Fin 128) : V m c main_v9 (ix2 (⟨8 * T.val + h.val, by omega⟩ : Fin 10240) e) = m ((c : Thread nD τ).loc main_arg2) (ix4 0 T h e) := by
  unfold V
  after_reads_simp
  clean_types
  pointwise

theorem index_2 : ∀ t : Fin grid0.N, win0_2.index t = ![t.val, 0] := by decide +kernel

theorem iblk_2 (u : Fin 128) (h : Fin 8) (e : Fin 128) : iblk m c 2 t (ix2 (⟨8 * u.val + h.val, by omega⟩ : Fin 1024) e) = m ((c : Thread nD τ).loc main_arg2) (ix4 0 (stepTok t u) h e) := by
  refine Eq.trans ?_ (V_2 m c (stepTok t u) h e)
  show V m c main_v9 (((cfg0.win 2).blk t).view.emb (ix2 (⟨8 * u.val + h.val, by omega⟩ : Fin 1024) e)) = _
  refine congrArg (V m c main_v9) ?_
  funext a
  apply Fin.ext
  have hi := congrFun (index_2 t) a
  revert hi
  match a with
  | ⟨0, _⟩ =>
    intro hi
    show win0_2.index t 0 * 1024 + 1 * (8 * u.val + h.val) = 8 * (128 * t.val + u.val) + h.val
    rw [show win0_2.index t 0 = t.val from hi]
    omega
  | ⟨1, _⟩ =>
    intro hi
    show win0_2.index t 1 * 128 + 1 * e.val = e.val
    rw [show win0_2.index t 1 = 0 from hi]
    omega

theorem V_3 (T : Fin 1280) (h : Fin 8) : V m c main_v10 (ix2 T h) = m ((c : Thread nD τ).loc main_arg3) (ix3 0 T h) := by
  unfold V
  after_reads_simp
  clean_types
  pointwise

theorem index_3 : ∀ t : Fin grid0.N, win0_3.index t = ![t.val, 0] := by decide +kernel

theorem iblk_3 (u : Fin 128) (h : Fin 8) : iblk m c 3 t (ix2 u h) = m ((c : Thread nD τ).loc main_arg3) (ix3 0 (stepTok t u) h) := by
  refine Eq.trans ?_ (V_3 m c (stepTok t u) h)
  show V m c main_v10 (((cfg0.win 3).blk t).view.emb (ix2 u h)) = _
  refine congrArg (V m c main_v10) ?_
  funext a
  apply Fin.ext
  have hi := congrFun (index_3 t) a
  revert hi
  match a with
  | ⟨0, _⟩ =>
    intro hi
    show win0_3.index t 0 * 128 + 1 * u.val = 128 * t.val + u.val
    rw [show win0_3.index t 0 = t.val from hi]
    omega
  | ⟨1, _⟩ =>
    intro hi
    show win0_3.index t 1 * 8 + 1 * h.val = h.val
    rw [show win0_3.index t 1 = 0 from hi]
    omega

theorem V_4 (T : Fin 1280) (h : Fin 96) (e : Fin 128) : V m c main_v11 (ix3 T h e) = m ((c : Thread nD τ).loc main_arg4) (ix4 0 T h e) := by
  unfold V
  after_reads_simp
  clean_types
  pointwise

theorem index_4 : ∀ t : Fin grid0.N, win0_4.index t = ![t.val, 0, 0] := by decide +kernel

theorem iblk_4 (u : Fin 128) (h : Fin 96) (e : Fin 128) : iblk m c 4 t (ix3 u h e) = m ((c : Thread nD τ).loc main_arg4) (ix4 0 (stepTok t u) h e) := by
  refine Eq.trans ?_ (V_4 m c (stepTok t u) h e)
  show V m c main_v11 (((cfg0.win 4).blk t).view.emb (ix3 u h e)) = _
  refine congrArg (V m c main_v11) ?_
  funext a
  apply Fin.ext
  have hi := congrFun (index_4 t) a
  revert hi
  match a with
  | ⟨0, _⟩ =>
    intro hi
    show win0_4.index t 0 * 128 + 1 * u.val = 128 * t.val + u.val
    rw [show win0_4.index t 0 = t.val from hi]
    omega
  | ⟨1, _⟩ =>
    intro hi
    show win0_4.index t 1 * 96 + 1 * h.val = h.val
    rw [show win0_4.index t 1 = 0 from hi]
    omega
  | ⟨2, _⟩ =>
    intro hi
    show win0_4.index t 2 * 128 + 1 * e.val = e.val
    rw [show win0_4.index t 2 = 0 from hi]
    omega

theorem V_5 (T : Fin 1280) (h : Fin 96) : V m c main_v12 (ix2 T h) = m ((c : Thread nD τ).loc main_arg5) (ix3 0 T h) := by
  unfold V
  after_reads_simp
  clean_types
  pointwise

theorem index_5 : ∀ t : Fin grid0.N, win0_5.index t = ![t.val, 0] := by decide +kernel

theorem iblk_5 (u : Fin 128) (h : Fin 96) : iblk m c 5 t (ix2 u h) = m ((c : Thread nD τ).loc main_arg5) (ix3 0 (stepTok t u) h) := by
  refine Eq.trans ?_ (V_5 m c (stepTok t u) h)
  show V m c main_v12 (((cfg0.win 5).blk t).view.emb (ix2 u h)) = _
  refine congrArg (V m c main_v12) ?_
  funext a
  apply Fin.ext
  have hi := congrFun (index_5 t) a
  revert hi
  match a with
  | ⟨0, _⟩ =>
    intro hi
    show win0_5.index t 0 * 128 + 1 * u.val = 128 * t.val + u.val
    rw [show win0_5.index t 0 = t.val from hi]
    omega
  | ⟨1, _⟩ =>
    intro hi
    show win0_5.index t 1 * 96 + 1 * h.val = h.val
    rw [show win0_5.index t 1 = 0 from hi]
    omega

theorem V_6 (T : Fin 1280) (h : Fin 8) (e : Fin 128) : V m c main_v13 (ix2 (⟨8 * T.val + h.val, by omega⟩ : Fin 10240) e) = m ((c : Thread nD τ).loc main_arg6) (ix4 0 T h e) := by
  unfold V
  after_reads_simp
  clean_types
  pointwise

theorem index_6 : ∀ t : Fin grid0.N, win0_6.index t = ![t.val, 0] := by decide +kernel

theorem iblk_6 (u : Fin 128) (h : Fin 8) (e : Fin 128) : iblk m c 6 t (ix2 (⟨8 * u.val + h.val, by omega⟩ : Fin 1024) e) = m ((c : Thread nD τ).loc main_arg6) (ix4 0 (stepTok t u) h e) := by
  refine Eq.trans ?_ (V_6 m c (stepTok t u) h e)
  show V m c main_v13 (((cfg0.win 6).blk t).view.emb (ix2 (⟨8 * u.val + h.val, by omega⟩ : Fin 1024) e)) = _
  refine congrArg (V m c main_v13) ?_
  funext a
  apply Fin.ext
  have hi := congrFun (index_6 t) a
  revert hi
  match a with
  | ⟨0, _⟩ =>
    intro hi
    show win0_6.index t 0 * 1024 + 1 * (8 * u.val + h.val) = 8 * (128 * t.val + u.val) + h.val
    rw [show win0_6.index t 0 = t.val from hi]
    omega
  | ⟨1, _⟩ =>
    intro hi
    show win0_6.index t 1 * 128 + 1 * e.val = e.val
    rw [show win0_6.index t 1 = 0 from hi]
    omega

theorem V_7 (T : Fin 1280) (h : Fin 8) : V m c main_v14 (ix2 T h) = m ((c : Thread nD τ).loc main_arg7) (ix3 0 T h) := by
  unfold V
  after_reads_simp
  clean_types
  pointwise

theorem index_7 : ∀ t : Fin grid0.N, win0_7.index t = ![t.val, 0] := by decide +kernel

theorem iblk_7 (u : Fin 128) (h : Fin 8) : iblk m c 7 t (ix2 u h) = m ((c : Thread nD τ).loc main_arg7) (ix3 0 (stepTok t u) h) := by
  refine Eq.trans ?_ (V_7 m c (stepTok t u) h)
  show V m c main_v14 (((cfg0.win 7).blk t).view.emb (ix2 u h)) = _
  refine congrArg (V m c main_v14) ?_
  funext a
  apply Fin.ext
  have hi := congrFun (index_7 t) a
  revert hi
  match a with
  | ⟨0, _⟩ =>
    intro hi
    show win0_7.index t 0 * 128 + 1 * u.val = 128 * t.val + u.val
    rw [show win0_7.index t 0 = t.val from hi]
    omega
  | ⟨1, _⟩ =>
    intro hi
    show win0_7.index t 1 * 8 + 1 * h.val = h.val
    rw [show win0_7.index t 1 = 0 from hi]
    omega

theorem index_8 : ∀ t : Fin grid0.N, win0_8.index t = ![0, 0, 0] := by decide +kernel

theorem blk_8 (g : Fin 2) (e l : Fin 128) : iblk m c 8 t (ix3 g e l) = V m c main_v6 (ix3 g e l) := by
  show V m c main_v6 (((cfg0.win 8).blk t).view.emb (ix3 g e l)) = _
  refine congrArg (V m c main_v6) ?_
  funext a
  apply Fin.ext
  have hi := congrFun (index_8 t) a
  revert hi
  match a with
  | ⟨0, _⟩ =>
    intro hi
    show win0_8.index t 0 * 2 + 1 * g.val = g.val
    rw [show win0_8.index t 0 = 0 from hi]
    omega
  | ⟨1, _⟩ =>
    intro hi
    show win0_8.index t 1 * 128 + 1 * e.val = e.val
    rw [show win0_8.index t 1 = 0 from hi]
    omega
  | ⟨2, _⟩ =>
    intro hi
    show win0_8.index t 2 * 128 + 1 * l.val = l.val
    rw [show win0_8.index t 2 = 0 from hi]
    omega

theorem index_9 : ∀ t : Fin grid0.N, win0_9.index t = ![t.val, 0, 0] := by decide +kernel

theorem blk_9 (u : Fin 128) : iblk m c 9 t (ix3 0 0 u) = V m c main_v15 (ix3 (⟨t.val, t_lt t⟩ : Fin 10) 0 u) := by
  show V m c main_v15 (((cfg0.win 9).blk t).view.emb (ix3 0 0 u)) = _
  refine congrArg (V m c main_v15) ?_
  funext a
  apply Fin.ext
  have hi := congrFun (index_9 t) a
  revert hi
  match a with
  | ⟨0, _⟩ =>
    intro hi
    show win0_9.index t 0 * 1 + 1 * 0 = t.val
    rw [show win0_9.index t 0 = t.val from hi]
    omega
  | ⟨1, _⟩ =>
    intro hi
    show win0_9.index t 1 * 1 + 1 * 0 = 0
    rw [show win0_9.index t 1 = 0 from hi]

  | ⟨2, _⟩ =>
    intro hi
    show win0_9.index t 2 * 128 + 1 * u.val = u.val
    rw [show win0_9.index t 2 = 0 from hi]
    omega

theorem index_10 : ∀ t : Fin grid0.N, win0_10.index t = ![0, 0] := by decide +kernel

theorem blk_10 (p : Fin 64) (u : Fin 128) : iblk m c 10 t (ix2 p u) = V m c main_v0 (ix2 p u) := by
  show V m c main_v0 (((cfg0.win 10).blk t).view.emb (ix2 p u)) = _
  refine congrArg (V m c main_v0) ?_
  funext a
  apply Fin.ext
  have hi := congrFun (index_10 t) a
  revert hi
  match a with
  | ⟨0, _⟩ =>
    intro hi
    show win0_10.index t 0 * 64 + 1 * p.val = p.val
    rw [show win0_10.index t 0 = 0 from hi]
    omega
  | ⟨1, _⟩ =>
    intro hi
    show win0_10.index t 1 * 128 + 1 * u.val = u.val
    rw [show win0_10.index t 1 = 0 from hi]
    omega

theorem index_11 : ∀ t : Fin grid0.N, win0_11.index t = ![0, 0] := by decide +kernel

theorem blk_11 (i j : Fin 256) : iblk m c 11 t (ix2 i j) = V m c main_v1 (ix2 i j) := by
  show V m c main_v1 (((cfg0.win 11).blk t).view.emb (ix2 i j)) = _
  refine congrArg (V m c main_v1) ?_
  funext a
  apply Fin.ext
  have hi := congrFun (index_11 t) a
  revert hi
  match a with
  | ⟨0, _⟩ =>
    intro hi
    show win0_11.index t 0 * 256 + 1 * i.val = i.val
    rw [show win0_11.index t 0 = 0 from hi]
    omega
  | ⟨1, _⟩ =>
    intro hi
    show win0_11.index t 1 * 256 + 1 * j.val = j.val
    rw [show win0_11.index t 1 = 0 from hi]
    omega

/-- The first gain, at every lane. -/
theorem iblk_8q (e l : Fin 128) : iblk m c 8 t (ix3 0 e l) = m ((c : Thread nD τ).loc main_arg8) (ix1 e) := by
  rw [blk_8]
  unfold V
  after_reads_simp
  clean_types
  pointwise
  after_reads_simp
  clean_types
  pointwise

/-- The second gain, at every lane. -/
theorem iblk_8k (e l : Fin 128) : iblk m c 8 t (ix3 1 e l) = m ((c : Thread nD τ).loc main_arg9) (ix1 e) := by
  rw [blk_8]
  unfold V
  after_reads_simp
  clean_types
  pointwise
  after_reads_simp
  clean_types
  pointwise

theorem gains_lanes (g : Fin 2) (e l : Fin 128) : iblk m c 8 t (ix3 g e l) = iblk m c 8 t (ix3 g e 0) := by
  match g with
  | ⟨0, _⟩ => exact (iblk_8q m c t e l).trans (iblk_8q m c t e 0).symm
  | ⟨1, _⟩ => exact (iblk_8k m c t e l).trans (iblk_8k m c t e 0).symm

theorem iblk_9 (u : Fin 128) : iblk m c 9 t (ix3 0 0 u) = m ((c : Thread nD τ).loc main_arg10) (ix2 0 (stepTok t u)) := by
  rw [blk_9]
  unfold V
  after_reads_simp
  clean_types
  pointwise
  refine congrArg (fun a => m ((c : Thread nD τ).loc main_arg10) (ix2 0 a)) (Fin.ext ?_)
  show t.val * 128 + u.val = 128 * t.val + u.val
  omega

theorem iblk_10 (p : Fin 64) (u : Fin 128) : iblk m c 10 t (ix2 p u) = FloatOps.ofBits (F := Ideal) .f32 (lit0 p) := by
  rw [blk_10]
  unfold V
  after_reads_simp
  clean_types
  pointwise
  exact congrArg (fun a => Ideal.ofBits .f32 (lit0 a)) (Fin.ext (Shape.rowMajor_val_one _))

theorem iblk_11 (i j : Fin 256) : iblk m c 11 t (ix2 i j) = FloatOps.ofBits (F := Ideal) .f32 (lit1 (S256x256.rowMajor (ix2 i j))) := by
  rw [blk_11]
  unfold V
  after_reads_simp
  clean_types
  pointwise

end Cert.KernelIdeal.Gen.Group
end
-- ==== Proof.EyeVal.lean ====
module

public import proofs.«01_k».proof.Proof.Eye0
public import proofs.«01_k».proof.Proof.Eye1
public import proofs.«01_k».proof.Proof.Eye2
public import proofs.«01_k».proof.Proof.Eye3
public import proofs.«01_k».proof.Proof.Eye4
public import proofs.«01_k».proof.Proof.Eye5
public import proofs.«01_k».proof.Proof.Eye6
public import proofs.«01_k».proof.Proof.Eye7
public import proofs.«01_k».proof.Proof.Inputs

/-! # The matrix that the kernel transposes by is the unit matrix -/

@[expose] public section
set_option maxRecDepth 8192
noncomputable section
namespace Cert.KernelIdeal.Gen.Group
open Idealize.ShloMosaic Idealize.ShloMosaic.TcCoe
open Cert.KernelIdeal Cert.KernelIdeal.Gen

/-- Eight groups of 32 rows are all the rows. -/
theorem rows_all (f : Nat → BitVec 32)
    (r0 : ∀ a : Fin 32, ∀ b : Fin 256, f (256 * (0 + a.val) + b.val) = if b.val = 0 + a.val then 0x3F800000#32 else 0#32)
    (r1 : ∀ a : Fin 32, ∀ b : Fin 256, f (256 * (32 + a.val) + b.val) = if b.val = 32 + a.val then 0x3F800000#32 else 0#32)
    (r2 : ∀ a : Fin 32, ∀ b : Fin 256, f (256 * (64 + a.val) + b.val) = if b.val = 64 + a.val then 0x3F800000#32 else 0#32)
    (r3 : ∀ a : Fin 32, ∀ b : Fin 256, f (256 * (96 + a.val) + b.val) = if b.val = 96 + a.val then 0x3F800000#32 else 0#32)
    (r4 : ∀ a : Fin 32, ∀ b : Fin 256, f (256 * (128 + a.val) + b.val) = if b.val = 128 + a.val then 0x3F800000#32 else 0#32)
    (r5 : ∀ a : Fin 32, ∀ b : Fin 256, f (256 * (160 + a.val) + b.val) = if b.val = 160 + a.val then 0x3F800000#32 else 0#32)
    (r6 : ∀ a : Fin 32, ∀ b : Fin 256, f (256 * (192 + a.val) + b.val) = if b.val = 192 + a.val then 0x3F800000#32 else 0#32)
    (r7 : ∀ a : Fin 32, ∀ b : Fin 256, f (256 * (224 + a.val) + b.val) = if b.val = 224 + a.val then 0x3F800000#32 else 0#32)
    (i j : Fin 256) : f (256 * i.val + j.val) = if j.val = i.val then 0x3F800000#32 else 0#32 := by
  have h : i.val = 32 * (i.val / 32) + i.val % 32 := by omega
  have ha : i.val % 32 < 32 := by omega
  have hk : i.val / 32 < 8 := by omega
  rw [h]
  generalize i.val % 32 = a at ha ⊢
  generalize i.val / 32 = k at hk ⊢
  match k, hk with
  | 0, _ => rw [show 32 * 0 = 0 from rfl]; exact r0 ⟨a, ha⟩ j
  | 1, _ => rw [show 32 * 1 = 32 from rfl]; exact r1 ⟨a, ha⟩ j
  | 2, _ => rw [show 32 * 2 = 64 from rfl]; exact r2 ⟨a, ha⟩ j
  | 3, _ => rw [show 32 * 3 = 96 from rfl]; exact r3 ⟨a, ha⟩ j
  | 4, _ => rw [show 32 * 4 = 128 from rfl]; exact r4 ⟨a, ha⟩ j
  | 5, _ => rw [show 32 * 5 = 160 from rfl]; exact r5 ⟨a, ha⟩ j
  | 6, _ => rw [show 32 * 6 = 192 from rfl]; exact r6 ⟨a, ha⟩ j
  | 7, _ => rw [show 32 * 7 = 224 from rfl]; exact r7 ⟨a, ha⟩ j

/-- Every entry of the table. -/
theorem eye_entry (i j : Fin 256) : lit1t (256 * i.val + j.val) = if j.val = i.val then 0x3F800000#32 else 0#32 :=
  rows_all lit1t eye_rows0 eye_rows1 eye_rows2 eye_rows3 eye_rows4 eye_rows5 eye_rows6 eye_rows7 i j

theorem eye_unit (m : (ℓ : Loc nD τ sig) → Buf (Elt Ideal) ℓ) (c : Dev nD) (t : Fin cfg0.N) (i j : Fin 256) :
    iblk m c 11 t (ix2 i j) = if i = j then (1 : EReal) else 0 := by
  rw [iblk_11]
  have hl : lit1 (S256x256.rowMajor (ix2 i j)) = lit1t (256 * i.val + j.val) := by
    have hv : (S256x256.rowMajor (ix2 i j)).val = 256 * i.val + j.val := by
      refine (Shape.rowMajor_val_two (ix2 i j)).trans ?_
      show i.val * 256 + j.val = _
      omega
    exact congrArg lit1t hv
  rw [hl, eye_entry]
  by_cases h : i = j
  · subst h
    rw [if_pos rfl, if_pos rfl]
    exact Ideal.ofBits_one_f32
  · rw [if_neg h, if_neg (fun e => h (Fin.ext e.symm))]
    exact lit_zero
end Cert.KernelIdeal.Gen.Group
end
-- ==== Proof.IdealValue.lean ====
module

public import proofs.«01_k».proof.Proof.IdealFrame
public import Idealize.ShloMosaic.Lib.Pipeline.Value

/-! # The arrays after the run

The generated value certificate over `IdealFrame`, without the parts the proof does not use and with a step's tuple named
(`stepA`, `stepB`, `stepC`). -/

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 12's array: the run's contents for that window after the body (`Gen.outsAt0`: its component 0), read through the window's block. -/
theorem flushed12 (c : Dev nD) (t : Fin cfg0.N) :
    (dats m 0 c).flushed 12 t = (cfg0.win 12).cut (grid0.coords t) ((outsAt0 m c t.val t.isLt).1) := by
  show (cfg0.win 12).cut (grid0.coords t) ((dats m 0 c).after 12 t) = _
  rw [after0_12]

/-- The index map sends distinct grid points to distinct block indices (decided over the 10 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- WHAT POINT `t` WRITES BACK to output window 13's array: the run's contents for that window after the body (`Gen.outsAt0`: its component 1), read through the window's block. -/
theorem flushed13 (c : Dev nD) (t : Fin cfg0.N) :
    (dats m 0 c).flushed 13 t = (cfg0.win 13).cut (grid0.coords t) ((outsAt0 m c t.val t.isLt).2.1) := by
  show (cfg0.win 13).cut (grid0.coords t) ((dats m 0 c).after 13 t) = _
  rw [after0_13]

/-- The index map sends distinct grid points to distinct block indices (decided over the 10 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- WHAT POINT `t` WRITES BACK to output window 14's array: the run's contents for that window after the body (`Gen.outsAt0`: its component 2), read through the window's block. -/
theorem flushed14 (c : Dev nD) (t : Fin cfg0.N) :
    (dats m 0 c).flushed 14 t = (cfg0.win 14).cut (grid0.coords t) ((outsAt0 m c t.val t.isLt).2.2.1) := by
  show (cfg0.win 14).cut (grid0.coords t) ((dats m 0 c).after 14 t) = _
  rw [after0_14]

-- no `blocks14`: window 14's index map revisits a block index, or its points could not be enumerated here;
-- the final array is still the frame's `arrAt`, to read with Lib/Pipeline/Value.lean's lemmas by hand

/-- WHAT POINT `t` WRITES BACK to output window 15's array: the run's contents for that window after the body (`Gen.outsAt0`: its component 3), read through the window's block. -/
theorem flushed15 (c : Dev nD) (t : Fin cfg0.N) :
    (dats m 0 c).flushed 15 t = (cfg0.win 15).cut (grid0.coords t) ((outsAt0 m c t.val t.isLt).2.2.2.1) := by
  show (cfg0.win 15).cut (grid0.coords t) ((dats m 0 c).after 15 t) = _
  rw [after0_15]

-- no `blocks15`: window 15's index map revisits a block index, or its points could not be enumerated here;
-- the final array is still the frame's `arrAt`, to read with Lib/Pipeline/Value.lean's lemmas by hand

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v16_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v16_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v16_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v16_3) = (dats m 0 c).arrAt 15 cfg0.N :=
  (h c).1 15

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v16_0) = (dats m 0 c).arrAt 12 cfg0.N
      ∧ r.2.mem ((c : Thread nD τ).loc main_v16_1) = (dats m 0 c).arrAt 13 cfg0.N
      ∧ r.2.mem ((c : Thread nD τ).loc main_v16_2) = (dats m 0 c).arrAt 14 cfg0.N
      ∧ r.2.mem ((c : Thread nD τ).loc main_v16_3) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post12 m r h c,
      post13 m r h c,
      post14 m r h c,
      post15 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Held F :=
  ((VO0_12.read (Elt F) VO0_12.junk, VO0_13.read (Elt F) VO0_13.junk, VO0_14.read (Elt F) VO0_14.junk, VO0_15.read (Elt F) VO0_15.junk, VS0_3.read (Elt F) VS0_3.junk, VS0_4.read (Elt F) VS0_4.junk))

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Held F) : Held F :=
  if h0 : n % 10 = 0 then
    if h1 : n % 10 = 9 then
      False.elim (by have hN : n < 10 := lt_of_lt_of_eq hb (show cfg0.N = 10 from N_0); omega)
    else
      stepA m c ⟨n, hb⟩ h0 h1
  else
    if h1 : n % 10 = 9 then
      stepC m c ⟨n, hb⟩ h0 h1 acc
    else
      stepB m c ⟨n, hb⟩ h0 h1 acc

/-- `stAt0` at a point of case A: that case's contents. -/
theorem stAt0_A (c : Dev nD) (t : Fin cfg0.N) (acc : Held F) (h0 : t.val % 10 = 0) (h1 : ¬t.val % 10 = 9) :
    stAt0 m c t.val t.isLt acc = stepA m c t h0 h1 :=
  (dif_pos h0).trans ((dif_neg h1).trans rfl)

/-- `stAt0` at a point of case B: that case's contents, over `acc`. -/
theorem stAt0_B (c : Dev nD) (t : Fin cfg0.N) (acc : Held F) (h0 : ¬t.val % 10 = 0) (h1 : ¬t.val % 10 = 9) :
    stAt0 m c t.val t.isLt acc = stepB m c t h0 h1 acc :=
  (dif_neg h0).trans ((dif_neg h1).trans rfl)

/-- `stAt0` at a point of case C: that case's contents, over `acc`. -/
theorem stAt0_C (c : Dev nD) (t : Fin cfg0.N) (acc : Held F) (h0 : ¬t.val % 10 = 0) (h1 : t.val % 10 = 9) :
    stAt0 m c t.val t.isLt acc = stepC m c t h0 h1 acc :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 10 from N_0)
  have e := Pipeline.eq_accAt_of_mod (fun n h => outsAt0 m c n h) 10 (fun n h => stAt0 m c n h junk0) (stAt0 m c)
    (fun n h _ => by
      have hN := lt_of_lt_of_eq h (show cfg0.N = 10 from N_0)
      obtain rfl : n = 0 := by omega
      exact outsAt0_zero m c h)
    (fun n h _ => outsAt0_succ m c n h)
    (by decide) n hn (by have := Nat.div_add_mod n 10; omega)
  have hd : n / 10 = 0 := Nat.div_eq_of_lt hN
  have hm : n % 10 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 12 -/

/-- The block of the array that holds index `i`, numbered in the order the points write the blocks back (one per point),
    `i`'s place in it, and the point that writes it back. -/
abbrev run12Of (i : S1280x96x128.Idx) : ℕ := 1 * ((i 0).val / 128 - 0) + 1 * ((i 1).val / 96 - 0) + 1 * ((i 2).val / 128 - 0)
set_option backward.proofsInPublic true in
abbrev loc12Of (i : S1280x96x128.Idx) : S128x96x128.Idx := fun a => match a with
  | ⟨0, _⟩ => ⟨(i 0).val % 128, Nat.mod_lt _ (by decide)⟩
  | ⟨1, _⟩ => ⟨(i 1).val % 96, Nat.mod_lt _ (by decide)⟩
  | ⟨2, _⟩ => ⟨(i 2).val % 128, Nat.mod_lt _ (by decide)⟩
abbrev pt12Of (i : S1280x96x128.Idx) : ℕ := run12Of i

/-- WHAT THE ARRAY ENDS HOLDING at index `i` inside the box the flushing blocks fill: output 12's component of the carried
    state's fold at the point that writes `i`'s block back, at `i`'s place in the block. `G12` states the array's contents
    only inside the box. -/
def G12 (c : Dev nD) : Buf (Elt F) ((c : Thread nD τ).loc main_v16_0) := fun i =>
  if h : pt12Of i < cfg0.N then
    (Pipeline.accAt (fun n h => stAt0 m c n h junk0) (stAt0 m c) 0 (pt12Of i) (by omega)).1 (loc12Of i)
  else V m c (Pipeline.arrRef spec0 12) i

/-- The printed index map, decided over the grid: output window 12's block indices stay in the box, and the block number
    read off them is the point's (`t`). -/
theorem idx_facts12 : ∀ t : Fin cfg0.N, 0 ≤ win0_12.index t (0 : Fin 3) ∧ win0_12.index t (0 : Fin 3) ≤ 9
    ∧ 0 ≤ win0_12.index t (1 : Fin 3) ∧ win0_12.index t (1 : Fin 3) ≤ 0
    ∧ 0 ≤ win0_12.index t (2 : Fin 3) ∧ win0_12.index t (2 : Fin 3) ≤ 0
    ∧ 1 * (win0_12.index t (0 : Fin 3) - 0) + 1 * (win0_12.index t (1 : Fin 3) - 0) + 1 * (win0_12.index t (2 : Fin 3) - 0) = t.val :=
  (by decide +kernel : ∀ t : Fin grid0.N, _)

/-- Every block of the box is SOME flushing point's: `onto12Pt`, the point that writes back the block at place `q` of the box. -/
abbrev onto12Pt (q0 : Fin 10) (q1 : Fin 1) (q2 : Fin 1) : Fin grid0.N :=
  ⟨1 * q0.val + 1 * q1.val + 1 * q2.val, lt_of_lt_of_eq (by omega) N_0.symm⟩
theorem idx_onto12 : ∀ (q0 : Fin 10) (q1 : Fin 1) (q2 : Fin 1), ∃ t : Fin cfg0.N, (cfg0.win 12).flush t = true ∧ win0_12.index t = ![q0.val + 0, q1.val + 0, q2.val + 0] :=
  fun q0 q1 q2 => ⟨onto12Pt q0 q1 q2, (by decide +kernel : ∀ (q0 : Fin 10) (q1 : Fin 1) (q2 : Fin 1), win0_12.flush (onto12Pt q0 q1 q2) = true ∧ win0_12.index (onto12Pt q0 q1 q2) = ![q0.val + 0, q1.val + 0, q2.val + 0]) q0 q1 q2⟩

/-- WHAT A FLUSHING POINT `t` WRITES BACK is block `t` of `G12`: output 12's component of the fold up to `t`. -/
theorem flushed12_eq (c : Dev nD) (t : Fin cfg0.N) (hf : (cfg0.win 12).flush t = true) :
    (dats m 0 c).flushed 12 t = ((cfg0.win 12).blk t).view.read (Elt F) (G12 m c) := by
  show (cfg0.win 12).cut (grid0.coords t) ((dats m 0 c).after 12 t) = _
  rw [after0_12, outsAt0_sweep]
  obtain ⟨e0, e1, e2, e3⟩ := idx_facts12 t
  funext y
  have hy0 : (y 0).val < 128 := (y 0).isLt
  have hy1 : (y 1).val < 96 := (y 1).isLt
  have hy2 : (y 2).val < 128 := (y 2).isLt
  have hb0 : (((cfg0.win 12).blk t).view.emb y 0).val = win0_12.index t (0 : Fin 3) * 128 + 1 * (y 0).val := rfl
  have hb1 : (((cfg0.win 12).blk t).view.emb y 1).val = win0_12.index t (1 : Fin 3) * 96 + 1 * (y 1).val := rfl
  have hb2 : (((cfg0.win 12).blk t).view.emb y 2).val = win0_12.index t (2 : Fin 3) * 128 + 1 * (y 2).val := rfl
  have hr : run12Of (((cfg0.win 12).blk t).view.emb y) = t.val := by
    show 1 * ((((cfg0.win 12).blk t).view.emb y 0).val / 128 - 0) + 1 * ((((cfg0.win 12).blk t).view.emb y 1).val / 96 - 0) + 1 * ((((cfg0.win 12).blk t).view.emb y 2).val / 128 - 0) = _
    rw [hb0, hb1, hb2]
    rw [show (win0_12.index t (0 : Fin 3) * 128 + 1 * (y 0).val) / 128 = win0_12.index t (0 : Fin 3) from by omega]; rw [show (win0_12.index t (1 : Fin 3) * 96 + 1 * (y 1).val) / 96 = win0_12.index t (1 : Fin 3) from by omega]; rw [show (win0_12.index t (2 : Fin 3) * 128 + 1 * (y 2).val) / 128 = win0_12.index t (2 : Fin 3) from by omega]
    omega
  have hl : loc12Of (((cfg0.win 12).blk t).view.emb y) = (cfg0.win 12).xinj (grid0.coords t) y := by
    funext a; apply Fin.ext
    match a with
    | ⟨0, _⟩ => show (((cfg0.win 12).blk t).view.emb y 0).val % 128 = (y 0).val; rw [hb0]; omega
    | ⟨1, _⟩ => show (((cfg0.win 12).blk t).view.emb y 1).val % 96 = (y 1).val; rw [hb1]; omega
    | ⟨2, _⟩ => show (((cfg0.win 12).blk t).view.emb y 2).val % 128 = (y 2).val; rw [hb2]; omega
  have hp : pt12Of (((cfg0.win 12).blk t).view.emb y) = t.val := by
    exact hr
  show (Pipeline.accAt (fun n h => stAt0 m c n h junk0) (stAt0 m c) 0 t.val _).1 ((cfg0.win 12).xinj (grid0.coords t) y) = G12 m c (((cfg0.win 12).blk t).view.emb y)
  unfold G12
  rw [dif_pos (by rw [hp]; exact t.isLt), hl, fold0_congr m c _ _ _ _ hp.symm]

/-- An index of the array is in point `t`'s block iff each coordinate is in the block's range on its axis. -/
theorem mem_blk12 (t : Fin cfg0.N) (i : S1280x96x128.Idx) :
    i ∈ ((cfg0.win 12).blk t).view.set ↔ ∀ a : Fin 3, win0_12.index t a * S128x96x128.size a ≤ (i a).val ∧ (i a).val < win0_12.index t a * S128x96x128.size a + S128x96x128.size a := by
  show i ∈ ((View.whole main_v16_0).slice (win0_12.rect t)).set ↔ _
  rw [View.set_slice_whole, Rect.mem_set_unit]
  exact Iff.rfl

/-- THE COVERED INDICES: in some flushing point's block iff inside the box those blocks fill. -/
theorem covered_iff12 (i : S1280x96x128.Idx) :
    (∃ t : Fin cfg0.N, (cfg0.win 12).flush t = true ∧ i ∈ ((cfg0.win 12).blk t).view.set) ↔ 0 ≤ (i 0).val ∧ (i 0).val < 1280 ∧ 0 ≤ (i 1).val ∧ (i 1).val < 96 ∧ 0 ≤ (i 2).val ∧ (i 2).val < 128 := by
  constructor
  · rintro ⟨t, -, hi⟩
    rw [mem_blk12] at hi
    have b0 : win0_12.index t (0 : Fin 3) * 128 ≤ (i 0).val ∧ (i 0).val < win0_12.index t (0 : Fin 3) * 128 + 128 := hi 0
    have b1 : win0_12.index t (1 : Fin 3) * 96 ≤ (i 1).val ∧ (i 1).val < win0_12.index t (1 : Fin 3) * 96 + 96 := hi 1
    have b2 : win0_12.index t (2 : Fin 3) * 128 ≤ (i 2).val ∧ (i 2).val < win0_12.index t (2 : Fin 3) * 128 + 128 := hi 2
    obtain ⟨e0, e1, e2, e3⟩ := idx_facts12 t
    omega
  · intro h
    have hi0 : (i 0).val < 1280 := (i 0).isLt
    have hi1 : (i 1).val < 96 := (i 1).isLt
    have hi2 : (i 2).val < 128 := (i 2).isLt
    obtain ⟨t, hft, ht⟩ := idx_onto12 ⟨(i 0).val / 128 - 0, by omega⟩ ⟨(i 1).val / 96 - 0, by omega⟩ ⟨(i 2).val / 128 - 0, by omega⟩
    have q0 : win0_12.index t (0 : Fin 3) = (i 0).val / 128 - 0 + 0 := congrFun ht 0
    have q1 : win0_12.index t (1 : Fin 3) = (i 1).val / 96 - 0 + 0 := congrFun ht 1
    have q2 : win0_12.index t (2 : Fin 3) = (i 2).val / 128 - 0 + 0 := congrFun ht 2
    refine ⟨t, hft, ?_⟩
    rw [mem_blk12]
    intro a
    match a with
    | ⟨0, _⟩ => show win0_12.index t (0 : Fin 3) * 128 ≤ (i 0).val ∧ (i 0).val < win0_12.index t (0 : Fin 3) * 128 + 128; omega
    | ⟨1, _⟩ => show win0_12.index t (1 : Fin 3) * 96 ≤ (i 1).val ∧ (i 1).val < win0_12.index t (1 : Fin 3) * 96 + 96; omega
    | ⟨2, _⟩ => show win0_12.index t (2 : Fin 3) * 128 ≤ (i 2).val ∧ (i 2).val < win0_12.index t (2 : Fin 3) * 128 + 128; omega

/-- THE ARRAY after the run: `G12` (the flushing blocks tile it). -/
theorem final12 (c : Dev nD) : (dats m 0 c).arrAt 12 cfg0.N = G12 m c :=
  (dats m 0 c).arrAt_eq_of_cover 12 _ (fun t hf => flushed12_eq m c t hf) (fun i => (covered_iff12 i).2 (by
    have h0 : (i 0).val < 1280 := (i 0).isLt; have h1 : (i 1).val < 96 := (i 1).isLt; have h2 : (i 2).val < 128 := (i 2).isLt; omega))

/-! ## Output window 13 -/

/-- The block of the array that holds index `i`, numbered in the order the points write the blocks back (one per point),
    `i`'s place in it, and the point that writes it back. -/
abbrev run13Of (i : S10240x128.Idx) : ℕ := 1 * ((i 0).val / 1024 - 0) + 1 * ((i 1).val / 128 - 0)
set_option backward.proofsInPublic true in
abbrev loc13Of (i : S10240x128.Idx) : S1024x128.Idx := fun a => match a with
  | ⟨0, _⟩ => ⟨(i 0).val % 1024, Nat.mod_lt _ (by decide)⟩
  | ⟨1, _⟩ => ⟨(i 1).val % 128, Nat.mod_lt _ (by decide)⟩
abbrev pt13Of (i : S10240x128.Idx) : ℕ := run13Of i

/-- WHAT THE ARRAY ENDS HOLDING at index `i` inside the box the flushing blocks fill: output 13's component of the carried
    state's fold at the point that writes `i`'s block back, at `i`'s place in the block. `G13` states the array's contents
    only inside the box. -/
def G13 (c : Dev nD) : Buf (Elt F) ((c : Thread nD τ).loc main_v16_1) := fun i =>
  if h : pt13Of i < cfg0.N then
    (Pipeline.accAt (fun n h => stAt0 m c n h junk0) (stAt0 m c) 0 (pt13Of i) (by omega)).2.1 (loc13Of i)
  else V m c (Pipeline.arrRef spec0 13) i

/-- The printed index map, decided over the grid: output window 13's block indices stay in the box, and the block number
    read off them is the point's (`t`). -/
theorem idx_facts13 : ∀ t : Fin cfg0.N, 0 ≤ win0_13.index t (0 : Fin 2) ∧ win0_13.index t (0 : Fin 2) ≤ 9
    ∧ 0 ≤ win0_13.index t (1 : Fin 2) ∧ win0_13.index t (1 : Fin 2) ≤ 0
    ∧ 1 * (win0_13.index t (0 : Fin 2) - 0) + 1 * (win0_13.index t (1 : Fin 2) - 0) = t.val :=
  (by decide +kernel : ∀ t : Fin grid0.N, _)

/-- Every block of the box is SOME flushing point's: `onto13Pt`, the point that writes back the block at place `q` of the box. -/
abbrev onto13Pt (q0 : Fin 10) (q1 : Fin 1) : Fin grid0.N :=
  ⟨1 * q0.val + 1 * q1.val, lt_of_lt_of_eq (by omega) N_0.symm⟩
theorem idx_onto13 : ∀ (q0 : Fin 10) (q1 : Fin 1), ∃ t : Fin cfg0.N, (cfg0.win 13).flush t = true ∧ win0_13.index t = ![q0.val + 0, q1.val + 0] :=
  fun q0 q1 => ⟨onto13Pt q0 q1, (by decide +kernel : ∀ (q0 : Fin 10) (q1 : Fin 1), win0_13.flush (onto13Pt q0 q1) = true ∧ win0_13.index (onto13Pt q0 q1) = ![q0.val + 0, q1.val + 0]) q0 q1⟩

/-- WHAT A FLUSHING POINT `t` WRITES BACK is block `t` of `G13`: output 13's component of the fold up to `t`. -/
theorem flushed13_eq (c : Dev nD) (t : Fin cfg0.N) (hf : (cfg0.win 13).flush t = true) :
    (dats m 0 c).flushed 13 t = ((cfg0.win 13).blk t).view.read (Elt F) (G13 m c) := by
  show (cfg0.win 13).cut (grid0.coords t) ((dats m 0 c).after 13 t) = _
  rw [after0_13, outsAt0_sweep]
  obtain ⟨e0, e1, e2⟩ := idx_facts13 t
  funext y
  have hy0 : (y 0).val < 1024 := (y 0).isLt
  have hy1 : (y 1).val < 128 := (y 1).isLt
  have hb0 : (((cfg0.win 13).blk t).view.emb y 0).val = win0_13.index t (0 : Fin 2) * 1024 + 1 * (y 0).val := rfl
  have hb1 : (((cfg0.win 13).blk t).view.emb y 1).val = win0_13.index t (1 : Fin 2) * 128 + 1 * (y 1).val := rfl
  have hr : run13Of (((cfg0.win 13).blk t).view.emb y) = t.val := by
    show 1 * ((((cfg0.win 13).blk t).view.emb y 0).val / 1024 - 0) + 1 * ((((cfg0.win 13).blk t).view.emb y 1).val / 128 - 0) = _
    rw [hb0, hb1]
    rw [show (win0_13.index t (0 : Fin 2) * 1024 + 1 * (y 0).val) / 1024 = win0_13.index t (0 : Fin 2) from by omega]; rw [show (win0_13.index t (1 : Fin 2) * 128 + 1 * (y 1).val) / 128 = win0_13.index t (1 : Fin 2) from by omega]
    omega
  have hl : loc13Of (((cfg0.win 13).blk t).view.emb y) = (cfg0.win 13).xinj (grid0.coords t) y := by
    funext a; apply Fin.ext
    match a with
    | ⟨0, _⟩ => show (((cfg0.win 13).blk t).view.emb y 0).val % 1024 = (y 0).val; rw [hb0]; omega
    | ⟨1, _⟩ => show (((cfg0.win 13).blk t).view.emb y 1).val % 128 = (y 1).val; rw [hb1]; omega
  have hp : pt13Of (((cfg0.win 13).blk t).view.emb y) = t.val := by
    exact hr
  show (Pipeline.accAt (fun n h => stAt0 m c n h junk0) (stAt0 m c) 0 t.val _).2.1 ((cfg0.win 13).xinj (grid0.coords t) y) = G13 m c (((cfg0.win 13).blk t).view.emb y)
  unfold G13
  rw [dif_pos (by rw [hp]; exact t.isLt), hl, fold0_congr m c _ _ _ _ hp.symm]

/-- An index of the array is in point `t`'s block iff each coordinate is in the block's range on its axis. -/
theorem mem_blk13 (t : Fin cfg0.N) (i : S10240x128.Idx) :
    i ∈ ((cfg0.win 13).blk t).view.set ↔ ∀ a : Fin 2, win0_13.index t a * S1024x128.size a ≤ (i a).val ∧ (i a).val < win0_13.index t a * S1024x128.size a + S1024x128.size a := by
  show i ∈ ((View.whole main_v16_1).slice (win0_13.rect t)).set ↔ _
  rw [View.set_slice_whole, Rect.mem_set_unit]
  exact Iff.rfl

/-- THE COVERED INDICES: in some flushing point's block iff inside the box those blocks fill. -/
theorem covered_iff13 (i : S10240x128.Idx) :
    (∃ t : Fin cfg0.N, (cfg0.win 13).flush t = true ∧ i ∈ ((cfg0.win 13).blk t).view.set) ↔ 0 ≤ (i 0).val ∧ (i 0).val < 10240 ∧ 0 ≤ (i 1).val ∧ (i 1).val < 128 := by
  constructor
  · rintro ⟨t, -, hi⟩
    rw [mem_blk13] at hi
    have b0 : win0_13.index t (0 : Fin 2) * 1024 ≤ (i 0).val ∧ (i 0).val < win0_13.index t (0 : Fin 2) * 1024 + 1024 := hi 0
    have b1 : win0_13.index t (1 : Fin 2) * 128 ≤ (i 1).val ∧ (i 1).val < win0_13.index t (1 : Fin 2) * 128 + 128 := hi 1
    obtain ⟨e0, e1, e2⟩ := idx_facts13 t
    omega
  · intro h
    have hi0 : (i 0).val < 10240 := (i 0).isLt
    have hi1 : (i 1).val < 128 := (i 1).isLt
    obtain ⟨t, hft, ht⟩ := idx_onto13 ⟨(i 0).val / 1024 - 0, by omega⟩ ⟨(i 1).val / 128 - 0, by omega⟩
    have q0 : win0_13.index t (0 : Fin 2) = (i 0).val / 1024 - 0 + 0 := congrFun ht 0
    have q1 : win0_13.index t (1 : Fin 2) = (i 1).val / 128 - 0 + 0 := congrFun ht 1
    refine ⟨t, hft, ?_⟩
    rw [mem_blk13]
    intro a
    match a with
    | ⟨0, _⟩ => show win0_13.index t (0 : Fin 2) * 1024 ≤ (i 0).val ∧ (i 0).val < win0_13.index t (0 : Fin 2) * 1024 + 1024; omega
    | ⟨1, _⟩ => show win0_13.index t (1 : Fin 2) * 128 ≤ (i 1).val ∧ (i 1).val < win0_13.index t (1 : Fin 2) * 128 + 128; omega

/-- THE ARRAY after the run: `G13` (the flushing blocks tile it). -/
theorem final13 (c : Dev nD) : (dats m 0 c).arrAt 13 cfg0.N = G13 m c :=
  (dats m 0 c).arrAt_eq_of_cover 13 _ (fun t hf => flushed13_eq m c t hf) (fun i => (covered_iff13 i).2 (by
    have h0 : (i 0).val < 10240 := (i 0).isLt; have h1 : (i 1).val < 128 := (i 1).isLt; omega))

/-! ## Output window 14 -/

/-- The block of the array that holds index `i`, numbered in the order the points write the blocks back (one every 10 points),
    `i`'s place in it, and the point that writes it back (the last of its 10). -/
abbrev run14Of (i : S1x128.Idx) : ℕ := 1 * ((i 0).val / 1 - 0) + 1 * ((i 1).val / 128 - 0)
set_option backward.proofsInPublic true in
abbrev loc14Of (i : S1x128.Idx) : S1x128.Idx := fun a => match a with
  | ⟨0, _⟩ => ⟨(i 0).val % 1, Nat.mod_lt _ (by decide)⟩
  | ⟨1, _⟩ => ⟨(i 1).val % 128, Nat.mod_lt _ (by decide)⟩
abbrev pt14Of (i : S1x128.Idx) : ℕ := 10 * run14Of i + 9

/-- WHAT THE ARRAY ENDS HOLDING at index `i` inside the box the flushing blocks fill: output 14's component of the carried
    state's fold at the point that writes `i`'s block back, at `i`'s place in the block. `G14` states the array's contents
    only inside the box. -/
def G14 (c : Dev nD) : Buf (Elt F) ((c : Thread nD τ).loc main_v16_2) := fun i =>
  if h : pt14Of i < cfg0.N then
    (Pipeline.accAt (fun n h => stAt0 m c n h junk0) (stAt0 m c) 0 (pt14Of i) (by omega)).2.2.1 (loc14Of i)
  else V m c (Pipeline.arrRef spec0 14) i

/-- The printed index map, decided over the grid: output window 14's block indices stay in the box, and the block number
    read off them is the point's (`t / 10`). -/
theorem idx_facts14 : ∀ t : Fin cfg0.N, 0 ≤ win0_14.index t (0 : Fin 2) ∧ win0_14.index t (0 : Fin 2) ≤ 0
    ∧ 0 ≤ win0_14.index t (1 : Fin 2) ∧ win0_14.index t (1 : Fin 2) ≤ 0
    ∧ 1 * (win0_14.index t (0 : Fin 2) - 0) + 1 * (win0_14.index t (1 : Fin 2) - 0) = t.val / 10 :=
  (by decide +kernel : ∀ t : Fin grid0.N, _)

/-- Every block of the box is SOME flushing point's: `onto14Pt`, the point that writes back the block at place `q` of the box (the last point of its run). -/
abbrev onto14Pt (q0 : Fin 1) (q1 : Fin 1) : Fin grid0.N :=
  ⟨10 * (1 * q0.val + 1 * q1.val) + 9, lt_of_lt_of_eq (by omega) N_0.symm⟩
theorem idx_onto14 : ∀ (q0 : Fin 1) (q1 : Fin 1), ∃ t : Fin cfg0.N, (cfg0.win 14).flush t = true ∧ win0_14.index t = ![q0.val + 0, q1.val + 0] :=
  fun q0 q1 => ⟨onto14Pt q0 q1, (by decide +kernel : ∀ (q0 : Fin 1) (q1 : Fin 1), win0_14.flush (onto14Pt q0 q1) = true ∧ win0_14.index (onto14Pt q0 q1) = ![q0.val + 0, q1.val + 0]) q0 q1⟩

/-- WHAT A FLUSHING POINT `t` WRITES BACK is block `t` of `G14`: output 14's component of the fold up to `t`. -/
theorem flushed14_eq (c : Dev nD) (t : Fin cfg0.N) (hf : (cfg0.win 14).flush t = true) :
    (dats m 0 c).flushed 14 t = ((cfg0.win 14).blk t).view.read (Elt F) (G14 m c) := by
  show (cfg0.win 14).cut (grid0.coords t) ((dats m 0 c).after 14 t) = _
  rw [after0_14, outsAt0_sweep]
  have hm : t.val % 10 = 9 := (flush0_14 t).mp hf
  obtain ⟨e0, e1, e2⟩ := idx_facts14 t
  funext y
  have hy0 : (y 0).val < 1 := (y 0).isLt
  have hy1 : (y 1).val < 128 := (y 1).isLt
  have hb0 : (((cfg0.win 14).blk t).view.emb y 0).val = win0_14.index t (0 : Fin 2) * 1 + 1 * (y 0).val := rfl
  have hb1 : (((cfg0.win 14).blk t).view.emb y 1).val = win0_14.index t (1 : Fin 2) * 128 + 1 * (y 1).val := rfl
  have hr : run14Of (((cfg0.win 14).blk t).view.emb y) = t.val / 10 := by
    show 1 * ((((cfg0.win 14).blk t).view.emb y 0).val / 1 - 0) + 1 * ((((cfg0.win 14).blk t).view.emb y 1).val / 128 - 0) = _
    rw [hb0, hb1]
    rw [show (win0_14.index t (0 : Fin 2) * 1 + 1 * (y 0).val) / 1 = win0_14.index t (0 : Fin 2) from by omega]; rw [show (win0_14.index t (1 : Fin 2) * 128 + 1 * (y 1).val) / 128 = win0_14.index t (1 : Fin 2) from by omega]
    omega
  have hl : loc14Of (((cfg0.win 14).blk t).view.emb y) = (cfg0.win 14).xinj (grid0.coords t) y := by
    funext a; apply Fin.ext
    match a with
    | ⟨0, _⟩ => show (((cfg0.win 14).blk t).view.emb y 0).val % 1 = (y 0).val; rw [hb0]; omega
    | ⟨1, _⟩ => show (((cfg0.win 14).blk t).view.emb y 1).val % 128 = (y 1).val; rw [hb1]; omega
  have hp : pt14Of (((cfg0.win 14).blk t).view.emb y) = t.val := by
    show 10 * run14Of (((cfg0.win 14).blk t).view.emb y) + 9 = _
    rw [hr]; have := Nat.div_add_mod t.val 10; omega
  show (Pipeline.accAt (fun n h => stAt0 m c n h junk0) (stAt0 m c) 0 t.val _).2.2.1 ((cfg0.win 14).xinj (grid0.coords t) y) = G14 m c (((cfg0.win 14).blk t).view.emb y)
  unfold G14
  rw [dif_pos (by rw [hp]; exact t.isLt), hl, fold0_congr m c _ _ _ _ hp.symm]

/-- An index of the array is in point `t`'s block iff each coordinate is in the block's range on its axis. -/
theorem mem_blk14 (t : Fin cfg0.N) (i : S1x128.Idx) :
    i ∈ ((cfg0.win 14).blk t).view.set ↔ ∀ a : Fin 2, win0_14.index t a * S1x128.size a ≤ (i a).val ∧ (i a).val < win0_14.index t a * S1x128.size a + S1x128.size a := by
  show i ∈ ((View.whole main_v16_2).slice (win0_14.rect t)).set ↔ _
  rw [View.set_slice_whole, Rect.mem_set_unit]
  exact Iff.rfl

/-- THE COVERED INDICES: in some flushing point's block iff inside the box those blocks fill. -/
theorem covered_iff14 (i : S1x128.Idx) :
    (∃ t : Fin cfg0.N, (cfg0.win 14).flush t = true ∧ i ∈ ((cfg0.win 14).blk t).view.set) ↔ 0 ≤ (i 0).val ∧ (i 0).val < 1 ∧ 0 ≤ (i 1).val ∧ (i 1).val < 128 := by
  constructor
  · rintro ⟨t, -, hi⟩
    rw [mem_blk14] at hi
    have b0 : win0_14.index t (0 : Fin 2) * 1 ≤ (i 0).val ∧ (i 0).val < win0_14.index t (0 : Fin 2) * 1 + 1 := hi 0
    have b1 : win0_14.index t (1 : Fin 2) * 128 ≤ (i 1).val ∧ (i 1).val < win0_14.index t (1 : Fin 2) * 128 + 128 := hi 1
    obtain ⟨e0, e1, e2⟩ := idx_facts14 t
    omega
  · intro h
    have hi0 : (i 0).val < 1 := (i 0).isLt
    have hi1 : (i 1).val < 128 := (i 1).isLt
    obtain ⟨t, hft, ht⟩ := idx_onto14 ⟨(i 0).val / 1 - 0, by omega⟩ ⟨(i 1).val / 128 - 0, by omega⟩
    have q0 : win0_14.index t (0 : Fin 2) = (i 0).val / 1 - 0 + 0 := congrFun ht 0
    have q1 : win0_14.index t (1 : Fin 2) = (i 1).val / 128 - 0 + 0 := congrFun ht 1
    refine ⟨t, hft, ?_⟩
    rw [mem_blk14]
    intro a
    match a with
    | ⟨0, _⟩ => show win0_14.index t (0 : Fin 2) * 1 ≤ (i 0).val ∧ (i 0).val < win0_14.index t (0 : Fin 2) * 1 + 1; omega
    | ⟨1, _⟩ => show win0_14.index t (1 : Fin 2) * 128 ≤ (i 1).val ∧ (i 1).val < win0_14.index t (1 : Fin 2) * 128 + 128; omega

/-- THE ARRAY after the run: `G14` (the flushing blocks tile it). -/
theorem final14 (c : Dev nD) : (dats m 0 c).arrAt 14 cfg0.N = G14 m c :=
  (dats m 0 c).arrAt_eq_of_cover 14 _ (fun t hf => flushed14_eq m c t hf) (fun i => (covered_iff14 i).2 (by
    have h0 : (i 0).val < 1 := (i 0).isLt; have h1 : (i 1).val < 128 := (i 1).isLt; omega))

/-- Output 14 is written back ONCE, at the last point, and its block is its array: the array after the run is output 14's
    component of the fold over the whole grid — where a hand proof over this window starts. -/
theorem G14_last (c : Dev nD) :
    G14 m c = (Pipeline.accAt (fun n h => stAt0 m c n h junk0) (stAt0 m c) 0 9 (lt_of_lt_of_eq (by decide) N_0.symm)).2.2.1 := by
  funext i
  have hi0 : (i 0).val < 1 := (i 0).isLt
  have hi1 : (i 1).val < 128 := (i 1).isLt
  have hp : pt14Of i = 9 := by
    show 10 * (1 * ((i 0).val / 1 - 0) + 1 * ((i 1).val / 128 - 0)) + 9 = _
    omega
  have hl : loc14Of i = i := by
    funext a; apply Fin.ext
    match a with
    | ⟨0, _⟩ => show (i 0).val % 1 = (i 0).val; omega
    | ⟨1, _⟩ => show (i 1).val % 128 = (i 1).val; omega
  unfold G14
  rw [dif_pos (by rw [hp]; exact lt_of_lt_of_eq (by decide) N_0.symm), hl, fold0_congr m c _ _ _ _ hp]

/-! ## Output window 15 -/

/-- The block of the array that holds index `i`, numbered in the order the points write the blocks back (one every 10 points),
    `i`'s place in it, and the point that writes it back (the last of its 10). -/
abbrev run15Of (i : S1x128.Idx) : ℕ := 1 * ((i 0).val / 1 - 0) + 1 * ((i 1).val / 128 - 0)
set_option backward.proofsInPublic true in
abbrev loc15Of (i : S1x128.Idx) : S1x128.Idx := fun a => match a with
  | ⟨0, _⟩ => ⟨(i 0).val % 1, Nat.mod_lt _ (by decide)⟩
  | ⟨1, _⟩ => ⟨(i 1).val % 128, Nat.mod_lt _ (by decide)⟩
abbrev pt15Of (i : S1x128.Idx) : ℕ := 10 * run15Of i + 9

/-- WHAT THE ARRAY ENDS HOLDING at index `i` inside the box the flushing blocks fill: output 15's component of the carried
    state's fold at the point that writes `i`'s block back, at `i`'s place in the block. `G15` states the array's contents
    only inside the box. -/
def G15 (c : Dev nD) : Buf (Elt F) ((c : Thread nD τ).loc main_v16_3) := fun i =>
  if h : pt15Of i < cfg0.N then
    (Pipeline.accAt (fun n h => stAt0 m c n h junk0) (stAt0 m c) 0 (pt15Of i) (by omega)).2.2.2.1 (loc15Of i)
  else V m c (Pipeline.arrRef spec0 15) i

/-- The printed index map, decided over the grid: output window 15's block indices stay in the box, and the block number
    read off them is the point's (`t / 10`). -/
theorem idx_facts15 : ∀ t : Fin cfg0.N, 0 ≤ win0_15.index t (0 : Fin 2) ∧ win0_15.index t (0 : Fin 2) ≤ 0
    ∧ 0 ≤ win0_15.index t (1 : Fin 2) ∧ win0_15.index t (1 : Fin 2) ≤ 0
    ∧ 1 * (win0_15.index t (0 : Fin 2) - 0) + 1 * (win0_15.index t (1 : Fin 2) - 0) = t.val / 10 :=
  (by decide +kernel : ∀ t : Fin grid0.N, _)

/-- Every block of the box is SOME flushing point's: `onto15Pt`, the point that writes back the block at place `q` of the box (the last point of its run). -/
abbrev onto15Pt (q0 : Fin 1) (q1 : Fin 1) : Fin grid0.N :=
  ⟨10 * (1 * q0.val + 1 * q1.val) + 9, lt_of_lt_of_eq (by omega) N_0.symm⟩
theorem idx_onto15 : ∀ (q0 : Fin 1) (q1 : Fin 1), ∃ t : Fin cfg0.N, (cfg0.win 15).flush t = true ∧ win0_15.index t = ![q0.val + 0, q1.val + 0] :=
  fun q0 q1 => ⟨onto15Pt q0 q1, (by decide +kernel : ∀ (q0 : Fin 1) (q1 : Fin 1), win0_15.flush (onto15Pt q0 q1) = true ∧ win0_15.index (onto15Pt q0 q1) = ![q0.val + 0, q1.val + 0]) q0 q1⟩

/-- WHAT A FLUSHING POINT `t` WRITES BACK is block `t` of `G15`: output 15's component of the fold up to `t`. -/
theorem flushed15_eq (c : Dev nD) (t : Fin cfg0.N) (hf : (cfg0.win 15).flush t = true) :
    (dats m 0 c).flushed 15 t = ((cfg0.win 15).blk t).view.read (Elt F) (G15 m c) := by
  show (cfg0.win 15).cut (grid0.coords t) ((dats m 0 c).after 15 t) = _
  rw [after0_15, outsAt0_sweep]
  have hm : t.val % 10 = 9 := (flush0_15 t).mp hf
  obtain ⟨e0, e1, e2⟩ := idx_facts15 t
  funext y
  have hy0 : (y 0).val < 1 := (y 0).isLt
  have hy1 : (y 1).val < 128 := (y 1).isLt
  have hb0 : (((cfg0.win 15).blk t).view.emb y 0).val = win0_15.index t (0 : Fin 2) * 1 + 1 * (y 0).val := rfl
  have hb1 : (((cfg0.win 15).blk t).view.emb y 1).val = win0_15.index t (1 : Fin 2) * 128 + 1 * (y 1).val := rfl
  have hr : run15Of (((cfg0.win 15).blk t).view.emb y) = t.val / 10 := by
    show 1 * ((((cfg0.win 15).blk t).view.emb y 0).val / 1 - 0) + 1 * ((((cfg0.win 15).blk t).view.emb y 1).val / 128 - 0) = _
    rw [hb0, hb1]
    rw [show (win0_15.index t (0 : Fin 2) * 1 + 1 * (y 0).val) / 1 = win0_15.index t (0 : Fin 2) from by omega]; rw [show (win0_15.index t (1 : Fin 2) * 128 + 1 * (y 1).val) / 128 = win0_15.index t (1 : Fin 2) from by omega]
    omega
  have hl : loc15Of (((cfg0.win 15).blk t).view.emb y) = (cfg0.win 15).xinj (grid0.coords t) y := by
    funext a; apply Fin.ext
    match a with
    | ⟨0, _⟩ => show (((cfg0.win 15).blk t).view.emb y 0).val % 1 = (y 0).val; rw [hb0]; omega
    | ⟨1, _⟩ => show (((cfg0.win 15).blk t).view.emb y 1).val % 128 = (y 1).val; rw [hb1]; omega
  have hp : pt15Of (((cfg0.win 15).blk t).view.emb y) = t.val := by
    show 10 * run15Of (((cfg0.win 15).blk t).view.emb y) + 9 = _
    rw [hr]; have := Nat.div_add_mod t.val 10; omega
  show (Pipeline.accAt (fun n h => stAt0 m c n h junk0) (stAt0 m c) 0 t.val _).2.2.2.1 ((cfg0.win 15).xinj (grid0.coords t) y) = G15 m c (((cfg0.win 15).blk t).view.emb y)
  unfold G15
  rw [dif_pos (by rw [hp]; exact t.isLt), hl, fold0_congr m c _ _ _ _ hp.symm]

/-- An index of the array is in point `t`'s block iff each coordinate is in the block's range on its axis. -/
theorem mem_blk15 (t : Fin cfg0.N) (i : S1x128.Idx) :
    i ∈ ((cfg0.win 15).blk t).view.set ↔ ∀ a : Fin 2, win0_15.index t a * S1x128.size a ≤ (i a).val ∧ (i a).val < win0_15.index t a * S1x128.size a + S1x128.size a := by
  show i ∈ ((View.whole main_v16_3).slice (win0_15.rect t)).set ↔ _
  rw [View.set_slice_whole, Rect.mem_set_unit]
  exact Iff.rfl

/-- THE COVERED INDICES: in some flushing point's block iff inside the box those blocks fill. -/
theorem covered_iff15 (i : S1x128.Idx) :
    (∃ t : Fin cfg0.N, (cfg0.win 15).flush t = true ∧ i ∈ ((cfg0.win 15).blk t).view.set) ↔ 0 ≤ (i 0).val ∧ (i 0).val < 1 ∧ 0 ≤ (i 1).val ∧ (i 1).val < 128 := by
  constructor
  · rintro ⟨t, -, hi⟩
    rw [mem_blk15] at hi
    have b0 : win0_15.index t (0 : Fin 2) * 1 ≤ (i 0).val ∧ (i 0).val < win0_15.index t (0 : Fin 2) * 1 + 1 := hi 0
    have b1 : win0_15.index t (1 : Fin 2) * 128 ≤ (i 1).val ∧ (i 1).val < win0_15.index t (1 : Fin 2) * 128 + 128 := hi 1
    obtain ⟨e0, e1, e2⟩ := idx_facts15 t
    omega
  · intro h
    have hi0 : (i 0).val < 1 := (i 0).isLt
    have hi1 : (i 1).val < 128 := (i 1).isLt
    obtain ⟨t, hft, ht⟩ := idx_onto15 ⟨(i 0).val / 1 - 0, by omega⟩ ⟨(i 1).val / 128 - 0, by omega⟩
    have q0 : win0_15.index t (0 : Fin 2) = (i 0).val / 1 - 0 + 0 := congrFun ht 0
    have q1 : win0_15.index t (1 : Fin 2) = (i 1).val / 128 - 0 + 0 := congrFun ht 1
    refine ⟨t, hft, ?_⟩
    rw [mem_blk15]
    intro a
    match a with
    | ⟨0, _⟩ => show win0_15.index t (0 : Fin 2) * 1 ≤ (i 0).val ∧ (i 0).val < win0_15.index t (0 : Fin 2) * 1 + 1; omega
    | ⟨1, _⟩ => show win0_15.index t (1 : Fin 2) * 128 ≤ (i 1).val ∧ (i 1).val < win0_15.index t (1 : Fin 2) * 128 + 128; omega

/-- THE ARRAY after the run: `G15` (the flushing blocks tile it). -/
theorem final15 (c : Dev nD) : (dats m 0 c).arrAt 15 cfg0.N = G15 m c :=
  (dats m 0 c).arrAt_eq_of_cover 15 _ (fun t hf => flushed15_eq m c t hf) (fun i => (covered_iff15 i).2 (by
    have h0 : (i 0).val < 1 := (i 0).isLt; have h1 : (i 1).val < 128 := (i 1).isLt; omega))

/-- Output 15 is written back ONCE, at the last point, and its block is its array: the array after the run is output 15's
    component of the fold over the whole grid — where a hand proof over this window starts. -/
theorem G15_last (c : Dev nD) :
    G15 m c = (Pipeline.accAt (fun n h => stAt0 m c n h junk0) (stAt0 m c) 0 9 (lt_of_lt_of_eq (by decide) N_0.symm)).2.2.2.1 := by
  funext i
  have hi0 : (i 0).val < 1 := (i 0).isLt
  have hi1 : (i 1).val < 128 := (i 1).isLt
  have hp : pt15Of i = 9 := by
    show 10 * (1 * ((i 0).val / 1 - 0) + 1 * ((i 1).val / 128 - 0)) + 9 = _
    omega
  have hl : loc15Of i = i := by
    funext a; apply Fin.ext
    match a with
    | ⟨0, _⟩ => show (i 0).val % 1 = (i 0).val; omega
    | ⟨1, _⟩ => show (i 1).val % 128 = (i 1).val; omega
  unfold G15
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v16_0) = G12 m c
      ∧ r.2.mem ((c : Thread nD τ).loc main_v16_1) = G13 m c
      ∧ r.2.mem ((c : Thread nD τ).loc main_v16_2) = G14 m c
      ∧ r.2.mem ((c : Thread nD τ).loc main_v16_3) = G15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(post12 m r h c).trans (final12 m c),
      (post13 m r h c).trans (final13 m c),
      (post14 m r h c).trans (final14 m c),
      (post15 m r h c).trans (final15 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.KernelIdeal.Value

end
-- ==== Proof.Sweep.lean ====
module

public import proofs.«01_k».proof.Proof.StepVal
public import proofs.«01_k».proof.Proof.EyeVal
public import proofs.«01_k».proof.Proof.IdealValue

/-! # The sweep over the grid

What the run has left after each grid step: the step's rows of results 1 and 2, and the two accumulators, which hold the sum
over the steps so far; and after the last step the two reduced accumulators. -/

@[expose] public section
set_option maxRecDepth 8192
noncomputable section
namespace Cert.KernelIdeal.Gen.Group
open Idealize.ShloMosaic Idealize.ShloMosaic.TcCoe
open Cert.KernelIdeal Cert.KernelIdeal.Gen Cert.KernelIdeal.Value
open scoped BigOperators

variable (m : (ℓ : Loc nD τ sig) → Buf (Elt Ideal) ℓ) (c : Dev nD)

/-- The rows that step `t` works on. -/
def arrOf (t : Fin cfg0.N) : Arr :=
  stepArr (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The contribution of step `n` to the first accumulator; -/
def partQ (n : Nat) (e l : Fin 128) : EReal := if h : n < cfg0.N then stepQ (arrOf m c ⟨n, h⟩) e l else 0

/-- and to the second. -/
def partK (n : Nat) (e l : Fin 128) : EReal := if h : n < cfg0.N then stepK (arrOf m c ⟨n, h⟩) e l else 0

theorem partQ_val (t : Fin cfg0.N) (e l : Fin 128) : partQ m c t.val e l = stepQ (arrOf m c t) e l := dif_pos t.isLt
theorem partK_val (t : Fin cfg0.N) (e l : Fin 128) : partK m c t.val e l = stepK (arrOf m c t) e l := dif_pos t.isLt

/-- What a step leaves, over what the step before left. -/
structure After (t : Fin cfg0.N) (P Q : Fin 128 → Fin 128 → EReal) (s : Held Ideal) : Prop where
  dq : s.1 = GQ (arrOf m c t)
  dk : s.2.1 = GK (arrOf m c t)
  aq : ∀ e l, s.2.2.2.2.1 (ix2 e l) = P e l
  ak : ∀ e l, s.2.2.2.2.2 (ix2 e l) = Q e l
  gq : t.val = 9 → ∀ e, s.2.2.1 (ix2 0 e) = ∑ l : Fin 128, Ideal.div (P e l) ((arrOf m c t).γq e)
  gk : t.val = 9 → ∀ e, s.2.2.2.1 (ix2 0 e) = ∑ l : Fin 128, Ideal.div (Q e l) ((arrOf m c t).γk e)

theorem after_A (t : Fin cfg0.N) (acc : Held Ideal) (h0 : t.val % 10 = 0) (h1 : ¬t.val % 10 = 9) : After m c t (fun e l => stepQ (arrOf m c t) e l) (fun e l => stepK (arrOf m c t) e l) (stAt0 m c t.val t.isLt acc) := by
  have hs := stAt0_A m c t acc h0 h1
  unfold stepA at hs
  have hg := gains_lanes m c t
  have he := eye_unit m c t
  generalize stAt0 m c t.val t.isLt acc = s at hs ⊢
  subst hs
  exact
    { dq := out_A_12 c (grid0.coords t) _ _ _ _ _ _ _ _ _ _ _ _ _ _ _ _ _ _ _ _ _ _ _ _ _ _ _ _ _ _ _ _ _ _ _ _ _ _ _ _ _ _ _ _ _ _ _ _ _ _ _ _ _ _  hg he _ _
      dk := out_A_13 c (grid0.coords t) _ _ _ _ _ _ _ _ _ _ _ _ _ _ _ _ _ _ _ _ _ _ _ _ _ _ _ _ _ _ _ _ _ _ _ _ _ _ _ _ _ _ _ _ _ _ _ _ _ _ _ _ _ _  hg he _ _
      aq := fun e l => sout_A_3 c (grid0.coords t) _ _ _ _ _ _ _ _ _ _ _ _ _ _ _ _ _ _ _ _ _ _ _ _ _ _ _ _ _ _ _ _ _ _ _ _ _ _ _ _ _ _ _ _ _ _ _ _ _ _ _ _ _ _  hg he _ _ e l
      ak := fun e l => sout_A_4 c (grid0.coords t) _ _ _ _ _ _ _ _ _ _ _ _ _ _ _ _ _ _ _ _ _ _ _ _ _ _ _ _ _ _ _ _ _ _ _ _ _ _ _ _ _ _ _ _ _ _ _ _ _ _ _ _ _ _  hg he _ _ e l
      gq := fun h9 => absurd (by rw [h9]) h1
      gk := fun h9 => absurd (by rw [h9]) h1 }

theorem after_B (t : Fin cfg0.N) (acc : Held Ideal) (h0 : ¬t.val % 10 = 0) (h1 : ¬t.val % 10 = 9) : After m c t (fun e l => acc.2.2.2.2.1 (ix2 e l) + stepQ (arrOf m c t) e l) (fun e l => acc.2.2.2.2.2 (ix2 e l) + stepK (arrOf m c t) e l) (stAt0 m c t.val t.isLt acc) := by
  have hs := stAt0_B m c t acc h0 h1
  unfold stepB at hs
  have hg := gains_lanes m c t
  have he := eye_unit m c t
  generalize stAt0 m c t.val t.isLt acc = s at hs ⊢
  subst hs
  exact
    { dq := out_B_12 c (grid0.coords t) _ _ _ _ _ _ _ _ _ _ _ _ _ _ _ _ _ _ _ _ _ _ _ _ _ _ _ _ _ _ _ _ _ _ _ _ _ _ _ _ _ _ _ _ _ _ _ _ _ _ _ _ _ _  hg he _ _ _ _
      dk := out_B_13 c (grid0.coords t) _ _ _ _ _ _ _ _ _ _ _ _ _ _ _ _ _ _ _ _ _ _ _ _ _ _ _ _ _ _ _ _ _ _ _ _ _ _ _ _ _ _ _ _ _ _ _ _ _ _ _ _ _ _  hg he _ _ _ _
      aq := fun e l => sout_B_3 c (grid0.coords t) _ _ _ _ _ _ _ _ _ _ _ _ _ _ _ _ _ _ _ _ _ _ _ _ _ _ _ _ _ _ _ _ _ _ _ _ _ _ _ _ _ _ _ _ _ _ _ _ _ _ _ _ _ _  hg he _ _ _ _ e l
      ak := fun e l => sout_B_4 c (grid0.coords t) _ _ _ _ _ _ _ _ _ _ _ _ _ _ _ _ _ _ _ _ _ _ _ _ _ _ _ _ _ _ _ _ _ _ _ _ _ _ _ _ _ _ _ _ _ _ _ _ _ _ _ _ _ _  hg he _ _ _ _ e l
      gq := fun h9 => absurd (by rw [h9]) h1
      gk := fun h9 => absurd (by rw [h9]) h1 }

set_option maxHeartbeats 1000000 in
theorem after_C (t : Fin cfg0.N) (acc : Held Ideal) (h0 : ¬t.val % 10 = 0) (h1 : t.val % 10 = 9) : After m c t (fun e l => acc.2.2.2.2.1 (ix2 e l) + stepQ (arrOf m c t) e l) (fun e l => acc.2.2.2.2.2 (ix2 e l) + stepK (arrOf m c t) e l) (stAt0 m c t.val t.isLt acc) := by
  have hs := stAt0_C m c t acc h0 h1
  unfold stepC at hs
  have hg := gains_lanes m c t
  have he := eye_unit m c t
  generalize stAt0 m c t.val t.isLt acc = s at hs ⊢
  subst hs
  exact
    { dq := out_C_12 c (grid0.coords t) _ _ _ _ _ _ _ _ _ _ _ _ _ _ _ _ _ _ _ _ _ _ _ _ _ _ _ _ _ _ _ _ _ _ _ _ _ _ _ _ _ _ _ _ _ _ _ _ _ _ _ _ _ _  hg he _ _ _ _
      dk := out_C_13 c (grid0.coords t) _ _ _ _ _ _ _ _ _ _ _ _ _ _ _ _ _ _ _ _ _ _ _ _ _ _ _ _ _ _ _ _ _ _ _ _ _ _ _ _ _ _ _ _ _ _ _ _ _ _ _ _ _ _  hg he _ _ _ _
      aq := fun e l => sout_C_3 c (grid0.coords t) _ _ _ _ _ _ _ _ _ _ _ _ _ _ _ _ _ _ _ _ _ _ _ _ _ _ _ _ _ _ _ _ _ _ _ _ _ _ _ _ _ _ _ _ _ _ _ _ _ _ _ _ _ _  hg he _ _ _ _ e l
      ak := fun e l => sout_C_4 c (grid0.coords t) _ _ _ _ _ _ _ _ _ _ _ _ _ _ _ _ _ _ _ _ _ _ _ _ _ _ _ _ _ _ _ _ _ _ _ _ _ _ _ _ _ _ _ _ _ _ _ _ _ _ _ _ _ _  hg he _ _ _ _ e l
      gq := fun _ e => out_C_14 c (grid0.coords t) _ _ _ _ _ _ _ _ _ _ _ _ _ _ _ _ _ _ _ _ _ _ _ _ _ _ _ _ _ _ _ _ _ _ _ _ _ _ _ _ _ _ _ _ _ _ _ _ _ _ _ _ _ _  hg he (fun h => h0 ((hcond0_0 t).mp h)) ((hcond0_1 t).mpr h1) _ _ e
      gk := fun _ e => out_C_15 c (grid0.coords t) _ _ _ _ _ _ _ _ _ _ _ _ _ _ _ _ _ _ _ _ _ _ _ _ _ _ _ _ _ _ _ _ _ _ _ _ _ _ _ _ _ _ _ _ _ _ _ _ _ _ _ _ _ _  hg he (fun h => h0 ((hcond0_0 t).mp h)) ((hcond0_1 t).mpr h1) _ _ e }

theorem After.congr {t t' : Fin cfg0.N} {P Q P' Q' : Fin 128 → Fin 128 → EReal} {s} (h : After m c t P Q s) (ht : t = t') (hP : P = P') (hQ : Q = Q') :
    After m c t' P' Q' s := by subst ht hP hQ; exact h

/-- The run after step `n`. -/
theorem sweep : ∀ (n : Nat) (h : 0 + n < cfg0.N), After m c ⟨n, by omega⟩ (fun e l => ∑ j ∈ Finset.range (n + 1), partQ m c j e l) (fun e l => ∑ j ∈ Finset.range (n + 1), partK m c j e l)
    (Pipeline.accAt (fun n h => stAt0 m c n h junk0) (stAt0 m c) 0 n h)
  | 0, h => by
    rw [Pipeline.accAt_zero]
    refine (after_A m c ⟨0, h⟩ junk0 (Nat.zero_mod 10) (fun h9 => absurd ((Nat.zero_mod 10).symm.trans h9) (by decide))).congr m c rfl ?_ ?_
    · funext e l
      rw [Finset.sum_range_one]
      exact (partQ_val m c ⟨0, h⟩ e l).symm
    · funext e l
      rw [Finset.sum_range_one]
      exact (partK_val m c ⟨0, h⟩ e l).symm
  | n + 1, h => by
    rw [Pipeline.accAt_succ]
    have ih := sweep n (Nat.lt_of_succ_lt h)
    generalize Pipeline.accAt (fun n h => stAt0 m c n h junk0) (stAt0 m c) 0 n (Nat.lt_of_succ_lt h) = acc at ih ⊢
    have hN : 0 + (n + 1) < 10 := lt_of_lt_of_eq h N_0
    have h0 : ¬(0 + (n + 1)) % 10 = 0 := by omega
    have ht : (⟨0 + (n + 1), h⟩ : Fin cfg0.N) = ⟨n + 1, by omega⟩ := Fin.ext (Nat.zero_add _)
    have hQ : (fun e l => acc.2.2.2.2.1 (ix2 e l) + stepQ (arrOf m c ⟨0 + (n + 1), h⟩) e l) = fun e l => ∑ j ∈ Finset.range (n + 1 + 1), partQ m c j e l := by
      funext e l
      rw [Finset.sum_range_succ, ih.aq, ht, ← partQ_val]
    have hK : (fun e l => acc.2.2.2.2.2 (ix2 e l) + stepK (arrOf m c ⟨0 + (n + 1), h⟩) e l) = fun e l => ∑ j ∈ Finset.range (n + 1 + 1), partK m c j e l := by
      funext e l
      rw [Finset.sum_range_succ, ih.ak, ht, ← partK_val]
    by_cases h1 : (0 + (n + 1)) % 10 = 9
    · exact (after_C m c ⟨0 + (n + 1), h⟩ acc h0 h1).congr m c ht hQ hK
    · exact (after_B m c ⟨0 + (n + 1), h⟩ acc h0 h1).congr m c ht hQ hK

end Cert.KernelIdeal.Gen.Group
end
-- ==== Proof.RefVal.lean ====
module

public import proofs.«01_k».proof.Proof.RowMath
public import proofs.«01_k».proof.Proof.TripVal
public import proofs.«01_k».proof.Proof.Gen.ReferenceIdeal.Frame

/-! # The reference, index by index

Each value of the reference's body, read at an index, as the row arithmetic of `RowMath`: a row's result is `rDx`, and the
gradient of a gain is the sum of `rDg` over tokens and heads. -/

@[expose] public section
set_option maxRecDepth 8192
noncomputable section
namespace Cert.ReferenceIdeal.Rows
open Idealize.ShloMosaic Idealize.ShloMosaic.TcCoe Idealize.ShloMosaic.Tactic
open Cert.ReferenceIdeal Cert.ReferenceIdeal.Gen
open Cert.Rope
open scoped BigOperators

theorem lit_128 : Ideal.ofBits .f32 0x43000000#32 = ((128 : ℝ) : EReal) := by
  unfold Ideal.ofBits Ideal.ieee
  have h1 : ((0x43000000#32).extractLsb' (8 + 23) 1 == 1#1) = false := by decide
  have h2 : ((0x43000000#32).extractLsb' 23 8).toNat = 134 := by decide
  have h3 : ((0x43000000#32).extractLsb' 0 23).toNat = 0 := by decide
  simp only [h1, h2, h3]
  norm_num

/-- A sum over the three leading axes of four, when the first has one entry. -/
theorem reduceAdd_lead {n k : Nat} (h : (⟨4, ![1, n, k, 128]⟩ : Shape).Reduces [0, 1, 2] S128)
    (v : (⟨4, ![1, n, k, 128]⟩ : Shape).Idx → EReal) (e : Fin 128) :
    Ideal.reduceAdd h v (ix1 e) = ∑ t : Fin n, ∑ j : Fin k, v (ix4 0 t j e) := by
  refine (Finset.sum_filter_eq_sum_of_fiber _ (fun q : Fin n × Fin k => (ix4 0 q.1 q.2 e : (⟨4, ![1, n, k, 128]⟩ : Shape).Idx))
    (fun _ _ he => Prod.ext (congrFun he 1) (congrFun he 2)) (fun i => ?_) v).trans ?_
  · constructor
    · intro he
      refine ⟨(i 1, i 2), ?_⟩
      funext a; apply Fin.ext
      match a with
      | ⟨0, _⟩ => exact (Nat.lt_one_iff.mp (i 0).isLt).symm
      | ⟨1, _⟩ => rfl
      | ⟨2, _⟩ => rfl
      | ⟨3, _⟩ => exact (congrArg Fin.val (congrFun he 0)).symm
    · rintro ⟨q, rfl⟩
      funext b
      apply Fin.ext
      match b with
      | ⟨0, _⟩ => rfl
  · simp only [Fintype.sum_prod_type]

/-- The angle of a token at one frequency. -/
def angle (P : Vec Ideal S1x1280 .i32) (W : Vec Ideal S64 .f32) (t : Fin 1280) (p : Fin 64) : EReal :=
  (((P (ix2 0 t) : BitVec 32).toInt : ℝ) : EReal) * W (ix1 p)

section
variable (P : Vec Ideal S1x1280 .i32) (W : Vec Ideal S64 .f32)

theorem angle_apply (t : Fin 1280) (p : Fin 64) : k0_pay1 P W (ix3 0 t p) = angle P W t p := by
  unfold k0_pay1 angle
  pointwise
  rfl

theorem cos_apply (t : Fin 1280) (p : Fin 64) : k0_pay2 P W (ix4 0 t 0 p) = Ideal.cos (angle P W t p) := by
  unfold k0_pay2
  pointwise
  exact congrArg Ideal.cos (angle_apply P W t p)

theorem sin_apply (t : Fin 1280) (p : Fin 64) : k0_pay3 P W (ix4 0 t 0 p) = Ideal.sin (angle P W t p) := by
  unfold k0_pay3
  pointwise
  exact congrArg Ideal.sin (angle_apply P W t p)

section q
variable (D : Vec Ideal S1x1280x96x128 .fp8e5m2) (A : Vec Ideal S1x1280x96 .f32) (X : Vec Ideal S1x1280x96x128 .fp8e4m3) (B : Vec Ideal S1x1280x96 .f32) (g : Vec Ideal S128 .f32)
variable (t : Fin 1280) (h : Fin 96) (e : Fin 128)

theorem xq_apply : k0_pay4 X B (ix4 0 t h e) = X (ix4 0 t h e) * B (ix3 0 t h) := by
  unfold k0_pay4
  pointwise

theorem dnq_apply : k0_pay5 P W D A (ix4 0 t h e)
    = rot (fun j => D (ix4 0 t h j) * A (ix3 0 t h)) (fun p => Ideal.cos (angle P W t p)) (fun p => Ideal.sin (angle P W t p)) e := by
  unfold k0_pay5 rot
  pointwise
  split
  · rename_i hh
    simp only [cos_apply, sin_apply, Nat.add_comm 64]
  · rename_i hh
    have he : (⟨64 + (e.val - 64), by omega⟩ : Fin 128) = e := Fin.ext (by simp only; omega)
    simp only [cos_apply, sin_apply, he]

theorem ssq_apply : k0_pay6 X B (ix4 0 t h 0) = ∑ j : Fin 128, X (ix4 0 t h j) * B (ix3 0 t h) * (X (ix4 0 t h j) * B (ix3 0 t h)) := by
  unfold k0_pay6
  pointwise
  simp only [xq_apply]

theorem rq_apply : k0_pay7 (k0_pay6 X B) (ix4 0 t h 0) = rR (fun j => X (ix4 0 t h j)) (B (ix3 0 t h)) := by
  unfold k0_pay7 rR
  pointwise
  simp only [ssq_apply, lit_128]
  rfl

theorem xhatq_apply : k0_pay8 (k0_pay4 X B) (k0_pay6 X B) (ix4 0 t h e) = X (ix4 0 t h e) * B (ix3 0 t h) * rR (fun j => X (ix4 0 t h j)) (B (ix3 0 t h)) := by
  unfold k0_pay8
  pointwise
  rw [xq_apply, rq_apply]

theorem dxq_apply : k0_pay10 g (k0_pay4 X B) (k0_pay5 P W D A) (k0_pay6 X B) (ix4 0 t h e)
    = rDx (fun j => D (ix4 0 t h j)) (fun j => X (ix4 0 t h j)) (A (ix3 0 t h)) (B (ix3 0 t h))
        (fun p => Ideal.cos (angle P W t p)) (fun p => Ideal.sin (angle P W t p)) (fun j => g (ix1 j)) e := by
  unfold k0_pay10 rDx
  pointwise
  simp only [rq_apply, xhatq_apply, dnq_apply, lit_128]

theorem dgq_apply : k0_pay9 (k0_pay4 X B) (k0_pay5 P W D A) (k0_pay6 X B) (ix1 e)
     = ∑ t : Fin 1280, ∑ h : Fin 96, rDg (fun j => D (ix4 0 t h j)) (fun j => X (ix4 0 t h j)) (A (ix3 0 t h)) (B (ix3 0 t h))
        (fun p => Ideal.cos (angle P W t p)) (fun p => Ideal.sin (angle P W t p)) e := by
  unfold k0_pay9 rDg
  pointwise
  refine (reduceAdd_lead _ _ e).trans ?_
  refine Finset.sum_congr rfl (fun t _ => Finset.sum_congr rfl (fun h _ => ?_))
  pointwise
  simp only [xhatq_apply, dnq_apply]
end q

section k
variable (D : Vec Ideal S1x1280x8x128 .fp8e5m2) (A : Vec Ideal S1x1280x8 .f32) (X : Vec Ideal S1x1280x8x128 .fp8e4m3) (B : Vec Ideal S1x1280x8 .f32) (g : Vec Ideal S128 .f32)
variable (t : Fin 1280) (h : Fin 8) (e : Fin 128)

theorem xk_apply : k0_pay12 X B (ix4 0 t h e) = X (ix4 0 t h e) * B (ix3 0 t h) := by
  unfold k0_pay12
  pointwise

theorem dk_apply : k0_pay11 D A (ix4 0 t h e) = D (ix4 0 t h e) * A (ix3 0 t h) := by
  unfold k0_pay11
  pointwise

theorem dnk_apply : k0_pay16 (k0_pay2 P W) (k0_pay3 P W) (k0_pay13 D A) (k0_pay14 D A) (k0_pay15 (k0_pay2 P W) D A) (ix4 0 t h e)
    = rot (fun j => D (ix4 0 t h j) * A (ix3 0 t h)) (fun p => Ideal.cos (angle P W t p)) (fun p => Ideal.sin (angle P W t p)) e := by
  unfold k0_pay16 k0_pay13 k0_pay14 k0_pay15 k0_pay13 rot
  pointwise
  split
  · rename_i hh
    simp only [cos_apply, sin_apply, dk_apply, Nat.add_comm 64]
  · rename_i hh
    have he : (⟨64 + (e.val - 64), by omega⟩ : Fin 128) = e := Fin.ext (by simp only; omega)
    simp only [cos_apply, sin_apply, dk_apply, he]

theorem rk_apply : k0_pay17 (k0_pay12 X B) (ix4 0 t h 0) = rR (fun j => X (ix4 0 t h j)) (B (ix3 0 t h)) := by
  unfold k0_pay17 rR
  pointwise
  simp only [xk_apply, lit_128]
  rfl

theorem xhatk_apply : k0_pay18 (k0_pay12 X B) (ix4 0 t h e) = X (ix4 0 t h e) * B (ix3 0 t h) * rR (fun j => X (ix4 0 t h j)) (B (ix3 0 t h)) := by
  unfold k0_pay18
  pointwise
  rw [xk_apply, rk_apply]

theorem dxk_apply : k0_pay20 (k0_pay2 P W) (k0_pay3 P W) g (k0_pay12 X B) (k0_pay13 D A) (k0_pay14 D A) (k0_pay15 (k0_pay2 P W) D A)
    (ix2 (⟨8 * t.val + h.val, by omega⟩ : Fin 10240) e)
    = rDx (fun j => D (ix4 0 t h j)) (fun j => X (ix4 0 t h j)) (A (ix3 0 t h)) (B (ix3 0 t h))
        (fun p => Ideal.cos (angle P W t p)) (fun p => Ideal.sin (angle P W t p)) (fun j => g (ix1 j)) e := by
  unfold k0_pay20 rDx
  have e8 : (⟨(8 * t.val + h.val) / 8, by omega⟩ : Fin 1280) = t := Fin.ext (by simp only; omega)
  have m8 : (⟨(8 * t.val + h.val) % 8, by omega⟩ : Fin 8) = h := Fin.ext (by simp only; omega)
  pointwise
  simp only [e8, m8, rk_apply, xhatk_apply, dnk_apply, lit_128]

theorem dgk_apply : k0_pay22 (k0_pay2 P W) (k0_pay3 P W) (k0_pay12 X B) (k0_pay13 D A) (k0_pay14 D A) (k0_pay15 (k0_pay2 P W) D A) (ix2 0 e)
     = ∑ t : Fin 1280, ∑ h : Fin 8, rDg (fun j => D (ix4 0 t h j)) (fun j => X (ix4 0 t h j)) (A (ix3 0 t h)) (B (ix3 0 t h))
        (fun p => Ideal.cos (angle P W t p)) (fun p => Ideal.sin (angle P W t p)) e := by
  unfold k0_pay22 rDg
  pointwise
  refine (reduceAdd_lead _ _ e).trans ?_
  refine Finset.sum_congr rfl (fun t _ => Finset.sum_congr rfl (fun h _ => ?_))
  pointwise
  simp only [xhatk_apply, dnk_apply]
end k

end

section out
/-- Reading a whole buffer reads it. -/
theorem ld_full {s : Shape} {e : EltTy} (x : s.Idx → Elt Ideal e) (off : Fin s.rank → Nat) (ho : off = fun _ => 0)
    (inb : ∀ a, off a + s.size a ≤ s.size a) : View.ld x (Rect.unit off s.size inb) = x := by
  subst ho
  funext y
  refine congrArg x ?_
  funext j
  exact Fin.ext (by show 0 + 1 * (y j).val = (y j).val; omega)

/-- One write of a whole buffer leaves its payload. -/
theorem canon_full {s : Shape} {e : EltTy} (off : Fin s.rank → Nat) (ho : off = fun _ => 0)
    (inb : ∀ a, off a + s.size a ≤ s.size a) (w : s.Idx → Elt Ideal e) (y : s.Idx) :
    View.canon (Val := Elt Ideal) [⟨Rect.unit off s.size inb, w⟩] y = w y := by
  subst ho
  refine (congrArg (View.canon (Val := Elt Ideal) _) ?_).trans (View.canon_cons_emb (Val := Elt Ideal) (Rect.unit (fun _ => 0) s.size inb) w [] y)
  funext j
  exact Fin.ext (by show (y j).val = 0 + 1 * (y j).val; omega)

theorem z1 : (![0] : Fin 1 → Nat) = fun _ => 0 := by funext a; fin_cases a; rfl
theorem z2 : (![0, 0] : Fin 2 → Nat) = fun _ => 0 := by funext a; fin_cases a <;> rfl
theorem z3 : (![0, 0, 0] : Fin 3 → Nat) = fun _ => 0 := by funext a; fin_cases a <;> rfl
theorem z4 : (![0, 0, 0, 0] : Fin 4 → Nat) = fun _ => 0 := by funext a; fin_cases a <;> rfl

variable (x0 : Vec Ideal S1x1280x96x128 .fp8e5m2) (x1 : Vec Ideal S1x1280x96 .f32) (x2 : Vec Ideal S1x1280x8x128 .fp8e5m2) (x3 : Vec Ideal S1x1280x8 .f32) (x4 : Vec Ideal S1x1280x96x128 .fp8e4m3) (x5 : Vec Ideal S1x1280x96 .f32) (x6 : Vec Ideal S1x1280x8x128 .fp8e4m3) (x7 : Vec Ideal S1x1280x8 .f32) (x8 : Vec Ideal S128 .f32) (x9 : Vec Ideal S128 .f32) (x10 : Vec Ideal S1x1280 .i32) (x11 : Vec Ideal S64 .f32)
variable (t : Fin 1280) (e : Fin 128)

theorem out12 (h : Fin 96) : out0_12 x0 x1 x2 x3 x4 x5 x6 x7 x8 x9 x10 x11 (ix3 t h e)
    = rDx (fun j => x0 (ix4 0 t h j)) (fun j => x4 (ix4 0 t h j)) (x1 (ix3 0 t h)) (x5 (ix3 0 t h))
        (fun p => Ideal.cos (angle x10 x11 t p)) (fun p => Ideal.sin (angle x10 x11 t p)) (fun j => x8 (ix1 j)) e := by
  unfold out0_12 k0_pay27 k0_pay26 k0_pay25
  rw [ld_full x0 _ z4, ld_full x1 _ z3, ld_full x4 _ z4, ld_full x5 _ z3, ld_full x8 _ z1, ld_full x10 _ z2, ld_full x11 _ z1]
  refine (canon_full _ z3 _ _ _).trans ?_
  unfold k0_pay19
  pointwise
  exact dxq_apply x10 x11 x0 x1 x4 x5 x8 t h e

theorem out13 (h : Fin 8) : out0_13 x0 x1 x2 x3 x4 x5 x6 x7 x8 x9 x10 x11 (ix2 (⟨8 * t.val + h.val, by omega⟩ : Fin 10240) e)
    = rDx (fun j => x2 (ix4 0 t h j)) (fun j => x6 (ix4 0 t h j)) (x3 (ix3 0 t h)) (x7 (ix3 0 t h))
        (fun p => Ideal.cos (angle x10 x11 t p)) (fun p => Ideal.sin (angle x10 x11 t p)) (fun j => x9 (ix1 j)) e := by
  unfold out0_13 k0_pay31 k0_pay30 k0_pay29 k0_pay28 k0_pay24 k0_pay23
  rw [ld_full x2 _ z4, ld_full x3 _ z3, ld_full x6 _ z4, ld_full x7 _ z3, ld_full x9 _ z1, ld_full x10 _ z2, ld_full x11 _ z1]
  refine (canon_full _ z2 _ _ _).trans ?_
  exact dxk_apply x10 x11 x2 x3 x6 x7 x9 t h e

theorem out14 : out0_14 x0 x1 x2 x3 x4 x5 x6 x7 x8 x9 x10 x11 (ix2 0 e)
    = ∑ t : Fin 1280, ∑ h : Fin 96, rDg (fun j => x0 (ix4 0 t h j)) (fun j => x4 (ix4 0 t h j)) (x1 (ix3 0 t h)) (x5 (ix3 0 t h))
        (fun p => Ideal.cos (angle x10 x11 t p)) (fun p => Ideal.sin (angle x10 x11 t p)) e := by
  unfold out0_14 k0_pay27 k0_pay26 k0_pay25
  rw [ld_full x0 _ z4, ld_full x1 _ z3, ld_full x4 _ z4, ld_full x5 _ z3, ld_full x10 _ z2, ld_full x11 _ z1]
  refine (canon_full _ z2 _ _ _).trans ?_
  unfold k0_pay21
  pointwise
  exact dgq_apply x10 x11 x0 x1 x4 x5 e

theorem out15 : out0_15 x0 x1 x2 x3 x4 x5 x6 x7 x8 x9 x10 x11 (ix2 0 e)
    = ∑ t : Fin 1280, ∑ h : Fin 8, rDg (fun j => x2 (ix4 0 t h j)) (fun j => x6 (ix4 0 t h j)) (x3 (ix3 0 t h)) (x7 (ix3 0 t h))
        (fun p => Ideal.cos (angle x10 x11 t p)) (fun p => Ideal.sin (angle x10 x11 t p)) e := by
  unfold out0_15 k0_pay31 k0_pay30 k0_pay29 k0_pay28 k0_pay24 k0_pay23
  rw [ld_full x2 _ z4, ld_full x3 _ z3, ld_full x6 _ z4, ld_full x7 _ z3, ld_full x10 _ z2, ld_full x11 _ z1]
  refine (canon_full _ z2 _ _ _).trans ?_
  exact dgk_apply x10 x11 x2 x3 x6 x7 e
end out
end Cert.ReferenceIdeal.Rows
end
-- ==== Proof.Admit.lean ====
module

public import proofs.«01_k».proof.Pre_scales_and_gains
public import Idealize.ShloMosaic.Lib.IdealHost
public import Idealize.ShloMosaic.PureOps.Ideal.Laws

/-! # The inputs the claim is about

What the precondition says of the scales and the gains, entry by entry. -/

@[expose] public section
noncomputable section
namespace Cert.Pre_scales_and_gains
open Idealize.ShloMosaic

/-- The shape relations the precondition's operations take. -/
theorem facts : Facts where
  bcast_S_S1x1280x96 := by decide
  bcast_S_S1x1280x8 := by decide
  bcast_S_S128 := by decide

theorem bits_inf : Ideal.ofBits .f32 0x7F800000#32 = (⊤ : EReal) := by
  unfold Ideal.ofBits Ideal.ieee
  have h1 : ((0x7F800000#32).extractLsb' (8 + 23) 1 == 1#1) = false := by decide
  have h2 : ((0x7F800000#32).extractLsb' 23 8).toNat = 2 ^ 8 - 1 := by decide
  have h3 : ((0x7F800000#32).extractLsb' 0 23).toNat = 0 := by decide
  simp only [h1, h2, h3]
  norm_num

theorem ofBool_one {p : Prop} [Decidable p] (h : BitVec.ofBool (decide p) = 1#1) : p := by
  by_contra hn
  rw [decide_eq_false hn] at h
  exact absurd h (by decide)

/-- Both conditions hold when their conjunction reads one. -/
theorem and_one : ∀ a b : BitVec 1, a &&& b = 1#1 → a = 1#1 ∧ b = 1#1 := by decide

theorem ge_zero {x : EReal} (h : Ideal.cmp .oge x (Ideal.ofBits .f32 0x00000000#32) = 1#1) : 0 ≤ x := by
  rw [Ideal.ofBits_zero_f32] at h; exact ofBool_one h
theorem gt_zero {x : EReal} (h : Ideal.cmp .ogt x (Ideal.ofBits .f32 0x00000000#32) = 1#1) : 0 < x := by
  rw [Ideal.ofBits_zero_f32] at h; exact ofBool_one h
theorem lt_inf {x : EReal} (h : Ideal.cmp .olt x (Ideal.ofBits .f32 0x7F800000#32) = 1#1) : x < ⊤ := by
  rw [bits_inf] at h; exact ofBool_one h

/-- The scales of the gradients are finite and not negative, the scales of the queries and keys are not negative, and the
    gains are finite and positive. -/
structure Admitted (x1 : FVec Ideal S1x1280x96 .f32) (x3 : FVec Ideal S1x1280x8 .f32) (x5 : FVec Ideal S1x1280x96 .f32) (x7 : FVec Ideal S1x1280x8 .f32)
    (x8 x9 : FVec Ideal S128 .f32) : Prop where
  aq : ∀ i, (0 : EReal) ≤ x1 i
  aq' : ∀ i, (x1 i : EReal) < ⊤
  ak : ∀ i, (0 : EReal) ≤ x3 i
  ak' : ∀ i, (x3 i : EReal) < ⊤
  bq : ∀ i, (0 : EReal) ≤ x5 i
  bk : ∀ i, (0 : EReal) ≤ x7 i
  gq : ∀ i, (0 : EReal) < x8 i
  gq' : ∀ i, (x8 i : EReal) < ⊤
  gk : ∀ i, (0 : EReal) < x9 i
  gk' : ∀ i, (x9 i : EReal) < ⊤

theorem admitted [Facts] (x0 : FVec Ideal S1x1280x96x128 .fp8e5m2) (x1 : FVec Ideal S1x1280x96 .f32) (x2 : FVec Ideal S1x1280x8x128 .fp8e5m2) (x3 : FVec Ideal S1x1280x8 .f32)
    (x4 : FVec Ideal S1x1280x96x128 .fp8e4m3) (x5 : FVec Ideal S1x1280x96 .f32) (x6 : FVec Ideal S1x1280x8x128 .fp8e4m3) (x7 : FVec Ideal S1x1280x8 .f32)
    (x8 x9 : FVec Ideal S128 .f32) (x10 : IVec S1x1280 32)
    (h : (fn (F := Ideal) x0 x1 x2 x3 x4 x5 x6 x7 x8 x9 x10).1 = (fun _ => 1#1)
      ∧ (fn (F := Ideal) x0 x1 x2 x3 x4 x5 x6 x7 x8 x9 x10).2.1 = (fun _ => 1#1)
      ∧ (fn (F := Ideal) x0 x1 x2 x3 x4 x5 x6 x7 x8 x9 x10).2.2.1 = (fun _ => 1#1)
      ∧ (fn (F := Ideal) x0 x1 x2 x3 x4 x5 x6 x7 x8 x9 x10).2.2.2.1 = (fun _ => 1#1)
      ∧ (fn (F := Ideal) x0 x1 x2 x3 x4 x5 x6 x7 x8 x9 x10).2.2.2.2.1 = (fun _ => 1#1)
      ∧ (fn (F := Ideal) x0 x1 x2 x3 x4 x5 x6 x7 x8 x9 x10).2.2.2.2.2 = (fun _ => 1#1)) :
    Admitted x1 x3 x5 x7 x8 x9 := by
  obtain ⟨h1, h2, h3, h4, h5, h6⟩ := h
  exact
    { aq := fun i => ge_zero (and_one _ _ (congrFun h1 i)).1
      aq' := fun i => lt_inf (and_one _ _ (congrFun h1 i)).2
      ak := fun i => ge_zero (and_one _ _ (congrFun h2 i)).1
      ak' := fun i => lt_inf (and_one _ _ (congrFun h2 i)).2
      bq := fun i => ge_zero (congrFun h3 i)
      bk := fun i => ge_zero (congrFun h4 i)
      gq := fun i => gt_zero (and_one _ _ (congrFun h5 i)).1
      gq' := fun i => lt_inf (and_one _ _ (congrFun h5 i)).2
      gk := fun i => gt_zero (and_one _ _ (congrFun h6 i)).1
      gk' := fun i => lt_inf (and_one _ _ (congrFun h6 i)).2 }

end Cert.Pre_scales_and_gains
end
-- ==== Proof.Agree.lean ====
module

public import proofs.«01_k».proof.Proof.Sweep
public import proofs.«01_k».proof.Proof.Inputs
public import proofs.«01_k».proof.Proof.RefVal
public import proofs.«01_k».proof.Proof.Admit

/-! # A row, by the two programs

Under the precondition a step's row is the reference's row of its token and head, and a step's term of a gain's gradient is
the gain times the reference's. -/

@[expose] public section
set_option maxRecDepth 8192
noncomputable section
namespace Cert.KernelIdeal.Gen.Group
open Idealize.ShloMosaic Idealize.ShloMosaic.TcCoe Idealize.ShloMosaic.Tactic
open Cert.KernelIdeal Cert.KernelIdeal.Gen
open Cert.Rope
open scoped BigOperators

/-- The reference's table of inverse frequencies. -/
def freq : Vec Ideal S64 .f32 := fun i => FloatOps.ofBits (F := Ideal) .f32 (Cert.ReferenceIdeal.lit0 (S64.rowMajor i))

/-- The two programs' tables are one. -/
theorem lit0_eq : ∀ p : Fin 64, Cert.KernelIdeal.lit0 p = Cert.ReferenceIdeal.lit0 p := by decide +kernel

theorem freq_apply (p : Fin 64) : freq (ix1 p) = FloatOps.ofBits (F := Ideal) .f32 (Cert.KernelIdeal.lit0 p) := by
  unfold freq
  rw [lit0_eq p]
  have h : (S64.rowMajor (ix1 p) : Fin 64) = p := Fin.ext (Shape.rowMajor_val_one _)
  exact congrArg (fun q : Fin 64 => FloatOps.ofBits (F := Ideal) .f32 (Cert.ReferenceIdeal.lit0 q)) h

variable (m : (ℓ : Loc nD τ sig) → Buf (Elt Ideal) ℓ) (c : Dev nD)

/-- The precondition, of the program's arguments. -/
abbrev Good : Prop := Cert.Pre_scales_and_gains.Admitted (m ((c : Thread nD τ).loc main_arg1)) (m ((c : Thread nD τ).loc main_arg3)) (m ((c : Thread nD τ).loc main_arg5))
    (m ((c : Thread nD τ).loc main_arg7)) (m ((c : Thread nD τ).loc main_arg8)) (m ((c : Thread nD τ).loc main_arg9))

/-- A token's angles, as the reference has them. -/
def ang (T : Fin 1280) (p : Fin 64) : EReal := Cert.ReferenceIdeal.Rows.angle (m ((c : Thread nD τ).loc main_arg10)) freq T p

/-- The reference's terms of the gains' gradients. -/
def refQ (e : Fin 128) (T : Fin 1280) (h : Fin 96) : EReal :=
  rDg (fun j => m ((c : Thread nD τ).loc main_arg0) (ix4 0 T h j)) (fun j => m ((c : Thread nD τ).loc main_arg4) (ix4 0 T h j)) (m ((c : Thread nD τ).loc main_arg1) (ix3 0 T h)) (m ((c : Thread nD τ).loc main_arg5) (ix3 0 T h))
    (fun p => Ideal.cos (ang m c T p)) (fun p => Ideal.sin (ang m c T p)) e
def refK (e : Fin 128) (T : Fin 1280) (h : Fin 8) : EReal :=
  rDg (fun j => m ((c : Thread nD τ).loc main_arg2) (ix4 0 T h j)) (fun j => m ((c : Thread nD τ).loc main_arg6) (ix4 0 T h j)) (m ((c : Thread nD τ).loc main_arg3) (ix3 0 T h)) (m ((c : Thread nD τ).loc main_arg7) (ix3 0 T h))
    (fun p => Ideal.cos (ang m c T p)) (fun p => Ideal.sin (ang m c T p)) e

variable (t : Fin cfg0.N) (u : Fin 128) (e : Fin 128)

theorem angle_step (p : Fin 64) : angle (iblk m c 9 t) (iblk m c 10 t) u p = ang m c (stepTok t u) p := by
  unfold angle ang Cert.ReferenceIdeal.Rows.angle
  rw [iblk_9, iblk_10, freq_apply]

theorem arr_C : (arrOf m c t).C u = fun p => Ideal.cos (ang m c (stepTok t u) p) := funext fun p => congrArg Ideal.cos (angle_step m c t u p)
theorem arr_S : (arrOf m c t).S u = fun p => Ideal.sin (ang m c (stepTok t u) p) := funext fun p => congrArg Ideal.sin (angle_step m c t u p)
theorem arr_γq : (arrOf m c t).γq = fun j => m ((c : Thread nD τ).loc main_arg8) (ix1 j) := funext fun j => iblk_8q m c t j 0
theorem arr_γk : (arrOf m c t).γk = fun j => m ((c : Thread nD τ).loc main_arg9) (ix1 j) := funext fun j => iblk_8k m c t j 0
theorem arr_Dq (h : Fin 96) : (arrOf m c t).Dq u h = fun j => m ((c : Thread nD τ).loc main_arg0) (ix4 0 (stepTok t u) h j) := funext fun j => iblk_0 m c t u h j
theorem arr_Xq (h : Fin 96) : (arrOf m c t).Xq u h = fun j => m ((c : Thread nD τ).loc main_arg4) (ix4 0 (stepTok t u) h j) := funext fun j => iblk_4 m c t u h j
theorem arr_Aq (h : Fin 96) : (arrOf m c t).Aq u h = m ((c : Thread nD τ).loc main_arg1) (ix3 0 (stepTok t u) h) := iblk_1 m c t u h
theorem arr_Bq (h : Fin 96) : (arrOf m c t).Bq u h = m ((c : Thread nD τ).loc main_arg5) (ix3 0 (stepTok t u) h) := iblk_5 m c t u h
theorem arr_Dk (h : Fin 8) : (arrOf m c t).Dk u h = fun j => m ((c : Thread nD τ).loc main_arg2) (ix4 0 (stepTok t u) h j) := funext fun j => iblk_2 m c t u h j
theorem arr_Xk (h : Fin 8) : (arrOf m c t).Xk u h = fun j => m ((c : Thread nD τ).loc main_arg6) (ix4 0 (stepTok t u) h j) := funext fun j => iblk_6 m c t u h j
theorem arr_Ak (h : Fin 8) : (arrOf m c t).Ak u h = m ((c : Thread nD τ).loc main_arg3) (ix3 0 (stepTok t u) h) := iblk_3 m c t u h
theorem arr_Bk (h : Fin 8) : (arrOf m c t).Bk u h = m ((c : Thread nD τ).loc main_arg7) (ix3 0 (stepTok t u) h) := iblk_7 m c t u h

variable {m c} (H : Good m c)
include H

/-- A row of the queries' gradient; -/
theorem row_q (h : Fin 96) : (arrOf m c t).dxQ u h e
    = rDx (fun j => m ((c : Thread nD τ).loc main_arg0) (ix4 0 (stepTok t u) h j)) (fun j => m ((c : Thread nD τ).loc main_arg4) (ix4 0 (stepTok t u) h j)) (m ((c : Thread nD τ).loc main_arg1) (ix3 0 (stepTok t u) h)) (m ((c : Thread nD τ).loc main_arg5) (ix3 0 (stepTok t u) h))
        (fun p => Ideal.cos (ang m c (stepTok t u) p)) (fun p => Ideal.sin (ang m c (stepTok t u) p)) (fun j => m ((c : Thread nD τ).loc main_arg8) (ix1 j)) e := by
  unfold Arr.dxQ
  rw [arr_C, arr_S, arr_γq, arr_Dq, arr_Xq, arr_Aq, arr_Bq]
  exact kDx_eq_rDx _ _ _ _ _ _ _ (H.aq _) (H.aq' _) (H.bq _) (fun k => H.gq _) (fun k => H.gq' _) e

/-- and of the keys'. -/
theorem row_k (h : Fin 8) : (arrOf m c t).dxK u h e
    = rDx (fun j => m ((c : Thread nD τ).loc main_arg2) (ix4 0 (stepTok t u) h j)) (fun j => m ((c : Thread nD τ).loc main_arg6) (ix4 0 (stepTok t u) h j)) (m ((c : Thread nD τ).loc main_arg3) (ix3 0 (stepTok t u) h)) (m ((c : Thread nD τ).loc main_arg7) (ix3 0 (stepTok t u) h))
        (fun p => Ideal.cos (ang m c (stepTok t u) p)) (fun p => Ideal.sin (ang m c (stepTok t u) p)) (fun j => m ((c : Thread nD τ).loc main_arg9) (ix1 j)) e := by
  unfold Arr.dxK
  rw [arr_C, arr_S, arr_γk, arr_Dk, arr_Xk, arr_Ak, arr_Bk]
  exact kDx_eq_rDx _ _ _ _ _ _ _ (H.ak _) (H.ak' _) (H.bk _) (fun k => H.gk _) (fun k => H.gk' _) e

/-- A row's term of the first gain's gradient; -/
theorem term_q (h : Fin 96) (g : ℝ) (hg : 0 ≤ g) (hgv : m ((c : Thread nD τ).loc main_arg8) (ix1 e) = (g : EReal)) :
    (arrOf m c t).dgQ u h e = (g : EReal) * refQ m c e (stepTok t u) h := by
  unfold Arr.dgQ
  rw [arr_C, arr_S, arr_γq, arr_Dq, arr_Xq, arr_Aq, arr_Bq]
  exact kDg_eq _ _ _ _ _ _ _ (H.aq _) (H.aq' _) e g hg hgv

/-- and of the second's. -/
theorem term_k (h : Fin 8) (g : ℝ) (hg : 0 ≤ g) (hgv : m ((c : Thread nD τ).loc main_arg9) (ix1 e) = (g : EReal)) :
    (arrOf m c t).dgK u h e = (g : EReal) * refK m c e (stepTok t u) h := by
  unfold Arr.dgK
  rw [arr_C, arr_S, arr_γk, arr_Dk, arr_Xk, arr_Ak, arr_Bk]
  exact kDg_eq _ _ _ _ _ _ _ (H.ak _) (H.ak' _) e g hg hgv

end Cert.KernelIdeal.Gen.Group
end
-- ==== Proof.Regroup.lean ====
module

public import proofs.«01_k».proof.Proof.TripVal

/-! # The order of the two gains' sums

A lane of an accumulator meets, over the steps, the trips and the groups, each of its tokens and heads once; the lanes
together meet every token and head. -/

@[expose] public section
set_option maxRecDepth 8192
noncomputable section
namespace Cert.KernelIdeal.Gen.Group
open Idealize.ShloMosaic
open Cert.KernelIdeal Cert.KernelIdeal.Gen
open scoped BigOperators

theorem trips_eq : k0_t1_loop.trips = 8 := by decide +kernel

/-- Token `u` of step `j`. -/
def globTok (j : Fin 10) (u : Fin 128) : Fin 1280 := ⟨128 * j.val + u.val, by omega⟩

/-- Every token and head of the queries is at one place: a lane, a step, a trip and a group. -/
def placesQ : Fin 128 × (Fin 10 × Fin k0_t1_loop.trips × Fin 3 × Fin 4) ≃ Fin 1280 × Fin 96 where
  toFun z := (globTok z.2.1 (tokOf z.2.2.1 z.2.2.2.2 z.1), headOf z.2.2.2.1 z.1)
  invFun y := (⟨32 * (y.1.val % 4) + y.2.val % 32, by omega⟩, ⟨y.1.val / 128, by omega⟩, ⟨y.1.val % 128 / 16, by have := trips_eq; omega⟩, ⟨y.2.val / 32, by omega⟩, ⟨y.1.val % 16 / 4, by omega⟩)
  left_inv := by
    rintro ⟨l, j, k, h, tq⟩
    have hk := trip_lt k
    refine Prod.ext (Fin.ext ?_) (Prod.ext (Fin.ext ?_) (Prod.ext (Fin.ext ?_) (Prod.ext (Fin.ext ?_) (Fin.ext ?_))))
    all_goals simp only [globTok, tokOf, headOf]
    all_goals omega
  right_inv := by
    rintro ⟨T, h⟩
    refine Prod.ext (Fin.ext ?_) (Fin.ext ?_)
    all_goals simp only [globTok, tokOf, headOf]
    all_goals omega

theorem regroupQ (R : Fin 1280 → Fin 96 → EReal) :
    ∑ l : Fin 128, ∑ x : (Fin 10 × Fin k0_t1_loop.trips × Fin 3 × Fin 4), R (globTok x.1 (tokOf x.2.1 x.2.2.2 l)) (headOf x.2.2.1 l) = ∑ T : Fin 1280, ∑ h : Fin 96, R T h := by
  rw [← Fintype.sum_prod_type' (fun (l : Fin 128) (x : (Fin 10 × Fin k0_t1_loop.trips × Fin 3 × Fin 4)) => R (globTok x.1 (tokOf x.2.1 x.2.2.2 l)) (headOf x.2.2.1 l)), ← Fintype.sum_prod_type' R]
  exact Fintype.sum_equiv placesQ _ _ fun z => rfl

/-- Every token and head of the keys is at one place: a lane, a step and a trip. -/
def placesK : Fin 128 × (Fin 10 × Fin k0_t1_loop.trips) ≃ Fin 1280 × Fin 8 where
  toFun z := (globTok z.2.1 (tokKOf z.2.2 z.1), headKOf z.1)
  invFun y := (⟨8 * (y.1.val % 16) + y.2.val, by omega⟩, ⟨y.1.val / 128, by omega⟩, ⟨y.1.val % 128 / 16, by have := trips_eq; omega⟩)
  left_inv := by
    rintro ⟨l, j, k⟩
    have hk := trip_lt k
    refine Prod.ext (Fin.ext ?_) (Prod.ext (Fin.ext ?_) (Fin.ext ?_))
    all_goals simp only [globTok, tokKOf, headKOf]
    all_goals omega
  right_inv := by
    rintro ⟨T, h⟩
    refine Prod.ext (Fin.ext ?_) (Fin.ext ?_)
    all_goals simp only [globTok, tokKOf, headKOf]
    all_goals omega

theorem regroupK (R : Fin 1280 → Fin 8 → EReal) :
    ∑ l : Fin 128, ∑ x : (Fin 10 × Fin k0_t1_loop.trips), R (globTok x.1 (tokKOf x.2 l)) (headKOf l) = ∑ T : Fin 1280, ∑ h : Fin 8, R T h := by
  rw [← Fintype.sum_prod_type' (fun (l : Fin 128) (x : (Fin 10 × Fin k0_t1_loop.trips)) => R (globTok x.1 (tokKOf x.2 l)) (headKOf l)), ← Fintype.sum_prod_type' R]
  exact Fintype.sum_equiv placesK _ _ fun z => rfl

end Cert.KernelIdeal.Gen.Group
end
-- ==== Proof.Results.lean ====
module

public import proofs.«01_k».proof.Proof.Agree
public import proofs.«01_k».proof.Proof.Regroup

/-! # The four results agree

Under the precondition the program's four final arrays are the reference's. -/

@[expose] public section
set_option maxRecDepth 8192
noncomputable section
namespace Cert.KernelIdeal.Gen.Group
open Idealize.ShloMosaic Idealize.ShloMosaic.TcCoe Idealize.ShloMosaic.Tactic
open Cert.KernelIdeal Cert.KernelIdeal.Gen Cert.KernelIdeal.Value
open Cert.Rope
open scoped BigOperators

variable (m : (ℓ : Loc nD τ sig) → Buf (Elt Ideal) ℓ) (c : Dev nD)

/-- The reference's four results, of the program's arguments. -/
def ref0 : Vec Ideal S1280x96x128 .bf16 := Cert.ReferenceIdeal.Gen.out0_12 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) freq
def ref1 : Vec Ideal S10240x128 .bf16 := Cert.ReferenceIdeal.Gen.out0_13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) freq
def ref2 : Vec Ideal S1x128 .f32 := Cert.ReferenceIdeal.Gen.out0_14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) freq
def ref3 : Vec Ideal S1x128 .f32 := Cert.ReferenceIdeal.Gen.out0_15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) freq

variable {m c} (H : Good m c)
include H

theorem agree0 : G12 m c = ref0 m c := by
  funext i
  have h0 : (i 0).val < 1280 := (i 0).isLt
  have h1 : (i 1).val < 96 := (i 1).isLt
  have h2 : (i 2).val < 128 := (i 2).isLt
  have hp : pt12Of i = (i 0).val / 128 := by
    show 1 * ((i 0).val / 128 - 0) + 1 * ((i 1).val / 96 - 0) + 1 * ((i 2).val / 128 - 0) = _
    omega
  have hlt : 0 + (i 0).val / 128 < cfg0.N := lt_of_lt_of_eq (by omega) N_0.symm
  have hi : i = ix3 (stepTok ⟨(i 0).val / 128, lt_of_lt_of_eq (by omega) N_0.symm⟩ ⟨(i 0).val % 128, by omega⟩) (⟨(i 1).val, h1⟩ : Fin 96) (⟨(i 2).val, h2⟩ : Fin 128) :=
    ix3_eq i _ _ _ (by show (i 0).val = 128 * ((i 0).val / 128) + (i 0).val % 128; omega) rfl rfl
  have hl : loc12Of i = ix3 (⟨(i 0).val % 128, by omega⟩ : Fin 128) (⟨(i 1).val, h1⟩ : Fin 96) (⟨(i 2).val, h2⟩ : Fin 128) :=
    ix3_eq _ _ _ _ rfl (by show (i 1).val % 96 = (i 1).val; omega) (by show (i 2).val % 128 = (i 2).val; omega)
  unfold G12
  rw [dif_pos (by rw [hp]; exact lt_of_lt_of_eq (by omega) N_0.symm), hl, fold0_congr m c _ _ _ hlt hp, (sweep m c _ hlt).dq]
  refine Eq.trans (row_q _ _ _ H _) ?_
  refine Eq.trans (Eq.symm (Cert.ReferenceIdeal.Rows.out12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) freq _ _ _)) ?_
  exact congrArg (ref0 m c) hi.symm

theorem agree1 : G13 m c = ref1 m c := by
  funext i
  have h0 : (i 0).val < 10240 := (i 0).isLt
  have h1 : (i 1).val < 128 := (i 1).isLt
  have hp : pt13Of i = (i 0).val / 1024 := by
    show 1 * ((i 0).val / 1024 - 0) + 1 * ((i 1).val / 128 - 0) = _
    omega
  have hlt : 0 + (i 0).val / 1024 < cfg0.N := lt_of_lt_of_eq (by omega) N_0.symm
  have hi : i = ix2 (⟨8 * (stepTok ⟨(i 0).val / 1024, lt_of_lt_of_eq (by omega) N_0.symm⟩ ⟨(i 0).val % 1024 / 8, by omega⟩).val + (⟨(i 0).val % 1024 % 8, by omega⟩ : Fin 8).val, by
      show 8 * (128 * ((i 0).val / 1024) + (i 0).val % 1024 / 8) + (i 0).val % 1024 % 8 < 10240; omega⟩ : Fin 10240) (⟨(i 1).val, h1⟩ : Fin 128) :=
    ix2_eq i _ _ (by show (i 0).val = 8 * (128 * ((i 0).val / 1024) + (i 0).val % 1024 / 8) + (i 0).val % 1024 % 8; omega) rfl
  have hl : loc13Of i = ix2 (⟨(i 0).val % 1024, by omega⟩ : Fin 1024) (⟨(i 1).val, h1⟩ : Fin 128) :=
    ix2_eq _ _ _ rfl (by show (i 1).val % 128 = (i 1).val; omega)
  unfold G13
  rw [dif_pos (by rw [hp]; exact lt_of_lt_of_eq (by omega) N_0.symm), hl, fold0_congr m c _ _ _ hlt hp, (sweep m c _ hlt).dk]
  refine Eq.trans (row_k _ _ _ H _) ?_
  refine Eq.trans (Eq.symm (Cert.ReferenceIdeal.Rows.out13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) freq _ _ _)) ?_
  exact congrArg (ref1 m c) hi.symm

omit H in
theorem nine : 0 + 9 < cfg0.N := lt_of_lt_of_eq (by decide) N_0.symm

/-- A lane of the first accumulator, after the last step; -/
theorem lane_q (e l : Fin 128) (g : ℝ) (hg : 0 ≤ g) (hgv : m ((c : Thread nD τ).loc main_arg8) (ix1 e) = (g : EReal)) :
    ∑ j ∈ Finset.range (9 + 1), partQ m c j e l
      = ∑ x : Fin 10 × Fin k0_t1_loop.trips × Fin 3 × Fin 4, (g : EReal) * refQ m c e (globTok x.1 (tokOf x.2.1 x.2.2.2 l)) (headOf x.2.2.1 l) := by
  rw [Finset.sum_range]
  simp only [Fintype.sum_prod_type]
  refine Finset.sum_congr rfl fun j _ => ?_
  refine (partQ_val m c ⟨j.val, lt_of_lt_of_eq j.isLt N_0.symm⟩ e l).trans ?_
  unfold stepQ
  refine Finset.sum_congr rfl fun k _ => Finset.sum_congr rfl fun h _ => Finset.sum_congr rfl fun tq _ => ?_
  exact term_q _ _ _ H _ g hg hgv

/-- and of the second. -/
theorem lane_k (e l : Fin 128) (g : ℝ) (hg : 0 ≤ g) (hgv : m ((c : Thread nD τ).loc main_arg9) (ix1 e) = (g : EReal)) :
    ∑ j ∈ Finset.range (9 + 1), partK m c j e l
      = ∑ x : Fin 10 × Fin k0_t1_loop.trips, (g : EReal) * refK m c e (globTok x.1 (tokKOf x.2 l)) (headKOf l) := by
  rw [Finset.sum_range]
  simp only [Fintype.sum_prod_type]
  refine Finset.sum_congr rfl fun j _ => ?_
  refine (partK_val m c ⟨j.val, lt_of_lt_of_eq j.isLt N_0.symm⟩ e l).trans ?_
  unfold stepK
  refine Finset.sum_congr rfl fun k _ => ?_
  exact term_k _ _ _ H _ g hg hgv

omit H in
/-- A finite positive extended real is a positive real. -/
theorem real_of {x : EReal} (h : 0 < x) (h' : x < ⊤) : ∃ g : ℝ, 0 < g ∧ x = g := by
  refine ⟨x.toReal, EReal.toReal_pos h h'.ne, (EReal.coe_toReal h'.ne (ne_of_gt (lt_trans EReal.bot_lt_zero h))).symm⟩

theorem agree2 : G14 m c = ref2 m c := by
  rw [G14_last]
  funext i
  have h0 : (i 0).val < 1 := (i 0).isLt
  have h1 : (i 1).val < 128 := (i 1).isLt
  rw [ix2_eq i (0 : Fin 1) (⟨(i 1).val, h1⟩ : Fin 128) (by show (i 0).val = 0; omega) rfl]
  generalize (⟨(i 1).val, h1⟩ : Fin 128) = e
  refine ((sweep m c 9 nine).gq rfl e).trans ?_
  obtain ⟨g, hg, hgv⟩ := real_of (H.gq (ix1 e)) (H.gq' (ix1 e))
  rw [arr_γq]
  refine Eq.trans (Finset.sum_congr rfl fun l _ => ?_) ((regroupQ (refQ m c e)).trans (Cert.ReferenceIdeal.Rows.out14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) freq e).symm)
  refine Eq.trans (congrArg₂ Ideal.div (lane_q H e l g hg.le hgv) hgv) ?_
  exact div_gain_sum g hg _ _

theorem agree3 : G15 m c = ref3 m c := by
  rw [G15_last]
  funext i
  have h0 : (i 0).val < 1 := (i 0).isLt
  have h1 : (i 1).val < 128 := (i 1).isLt
  rw [ix2_eq i (0 : Fin 1) (⟨(i 1).val, h1⟩ : Fin 128) (by show (i 0).val = 0; omega) rfl]
  generalize (⟨(i 1).val, h1⟩ : Fin 128) = e
  refine ((sweep m c 9 nine).gk rfl e).trans ?_
  obtain ⟨g, hg, hgv⟩ := real_of (H.gk (ix1 e)) (H.gk' (ix1 e))
  rw [arr_γk]
  refine Eq.trans (Finset.sum_congr rfl fun l _ => ?_) ((regroupK (refK m c e)).trans (Cert.ReferenceIdeal.Rows.out15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) freq e).symm)
  refine Eq.trans (congrArg₂ Ideal.div (lane_k H e l g hg.le hgv) hgv) ?_
  exact div_gain_sum g hg _ _

end Cert.KernelIdeal.Gen.Group
end
-- ==== Proof.RefArr.lean ====
module

public import proofs.«01_k».proof.Proof.RefVal
public import proofs.«01_k».proof.Proof.Gen.ReferenceIdeal.Value
public import Idealize.ShloMosaic.Lib.StableHlo.ReadAt

/-! # The reference's result arrays

The reference runs at one grid point whose blocks are whole arrays, so its final arrays are what the body leaves, and its
operands are the arguments and the table of inverse frequencies. -/

@[expose] public section
set_option maxRecDepth 8192
noncomputable section
namespace Cert.ReferenceIdeal.Rows
open Idealize.ShloMosaic Idealize.ShloMosaic.TcCoe Idealize.ShloMosaic.Tactic
open Cert.ReferenceIdeal Cert.ReferenceIdeal.Gen
open Cert.Rope
open scoped BigOperators

variable (m : (ℓ : Loc nD τ sig) → Buf (Elt Ideal) ℓ) (c : Dev nD)

/-- The only grid point. -/
def pt : Fin cfg0.N := ⟨0, by decide⟩

theorem iblk0 : iblk m c 0 pt = m ((c : Thread nD τ).loc main_arg0) := by
  have hV : V m c main_arg0 = m ((c : Thread nD τ).loc main_arg0) := by
    unfold V
    after_reads_simp
  funext y
  show V m c main_arg0 _ = m ((c : Thread nD τ).loc main_arg0) y
  rw [hV]
  refine congrArg (m ((c : Thread nD τ).loc main_arg0)) ?_
  funext a
  exact Fin.ext (by show 0 * _ + 1 * (y a).val = (y a).val; omega)

theorem iblk1 : iblk m c 1 pt = m ((c : Thread nD τ).loc main_arg1) := by
  have hV : V m c main_arg1 = m ((c : Thread nD τ).loc main_arg1) := by
    unfold V
    after_reads_simp
  funext y
  show V m c main_arg1 _ = m ((c : Thread nD τ).loc main_arg1) y
  rw [hV]
  refine congrArg (m ((c : Thread nD τ).loc main_arg1)) ?_
  funext a
  exact Fin.ext (by show 0 * _ + 1 * (y a).val = (y a).val; omega)

theorem iblk2 : iblk m c 2 pt = m ((c : Thread nD τ).loc main_arg2) := by
  have hV : V m c main_arg2 = m ((c : Thread nD τ).loc main_arg2) := by
    unfold V
    after_reads_simp
  funext y
  show V m c main_arg2 _ = m ((c : Thread nD τ).loc main_arg2) y
  rw [hV]
  refine congrArg (m ((c : Thread nD τ).loc main_arg2)) ?_
  funext a
  exact Fin.ext (by show 0 * _ + 1 * (y a).val = (y a).val; omega)

theorem iblk3 : iblk m c 3 pt = m ((c : Thread nD τ).loc main_arg3) := by
  have hV : V m c main_arg3 = m ((c : Thread nD τ).loc main_arg3) := by
    unfold V
    after_reads_simp
  funext y
  show V m c main_arg3 _ = m ((c : Thread nD τ).loc main_arg3) y
  rw [hV]
  refine congrArg (m ((c : Thread nD τ).loc main_arg3)) ?_
  funext a
  exact Fin.ext (by show 0 * _ + 1 * (y a).val = (y a).val; omega)

theorem iblk4 : iblk m c 4 pt = m ((c : Thread nD τ).loc main_arg4) := by
  have hV : V m c main_arg4 = m ((c : Thread nD τ).loc main_arg4) := by
    unfold V
    after_reads_simp
  funext y
  show V m c main_arg4 _ = m ((c : Thread nD τ).loc main_arg4) y
  rw [hV]
  refine congrArg (m ((c : Thread nD τ).loc main_arg4)) ?_
  funext a
  exact Fin.ext (by show 0 * _ + 1 * (y a).val = (y a).val; omega)

theorem iblk5 : iblk m c 5 pt = m ((c : Thread nD τ).loc main_arg5) := by
  have hV : V m c main_arg5 = m ((c : Thread nD τ).loc main_arg5) := by
    unfold V
    after_reads_simp
  funext y
  show V m c main_arg5 _ = m ((c : Thread nD τ).loc main_arg5) y
  rw [hV]
  refine congrArg (m ((c : Thread nD τ).loc main_arg5)) ?_
  funext a
  exact Fin.ext (by show 0 * _ + 1 * (y a).val = (y a).val; omega)

theorem iblk6 : iblk m c 6 pt = m ((c : Thread nD τ).loc main_arg6) := by
  have hV : V m c main_arg6 = m ((c : Thread nD τ).loc main_arg6) := by
    unfold V
    after_reads_simp
  funext y
  show V m c main_arg6 _ = m ((c : Thread nD τ).loc main_arg6) y
  rw [hV]
  refine congrArg (m ((c : Thread nD τ).loc main_arg6)) ?_
  funext a
  exact Fin.ext (by show 0 * _ + 1 * (y a).val = (y a).val; omega)

theorem iblk7 : iblk m c 7 pt = m ((c : Thread nD τ).loc main_arg7) := by
  have hV : V m c main_arg7 = m ((c : Thread nD τ).loc main_arg7) := by
    unfold V
    after_reads_simp
  funext y
  show V m c main_arg7 _ = m ((c : Thread nD τ).loc main_arg7) y
  rw [hV]
  refine congrArg (m ((c : Thread nD τ).loc main_arg7)) ?_
  funext a
  exact Fin.ext (by show 0 * _ + 1 * (y a).val = (y a).val; omega)

theorem iblk8 : iblk m c 8 pt = m ((c : Thread nD τ).loc main_arg8) := by
  have hV : V m c main_arg8 = m ((c : Thread nD τ).loc main_arg8) := by
    unfold V
    after_reads_simp
  funext y
  show V m c main_arg8 _ = m ((c : Thread nD τ).loc main_arg8) y
  rw [hV]
  refine congrArg (m ((c : Thread nD τ).loc main_arg8)) ?_
  funext a
  exact Fin.ext (by show 0 * _ + 1 * (y a).val = (y a).val; omega)

theorem iblk9 : iblk m c 9 pt = m ((c : Thread nD τ).loc main_arg9) := by
  have hV : V m c main_arg9 = m ((c : Thread nD τ).loc main_arg9) := by
    unfold V
    after_reads_simp
  funext y
  show V m c main_arg9 _ = m ((c : Thread nD τ).loc main_arg9) y
  rw [hV]
  refine congrArg (m ((c : Thread nD τ).loc main_arg9)) ?_
  funext a
  exact Fin.ext (by show 0 * _ + 1 * (y a).val = (y a).val; omega)

theorem iblk10 : iblk m c 10 pt = m ((c : Thread nD τ).loc main_arg10) := by
  have hV : V m c main_arg10 = m ((c : Thread nD τ).loc main_arg10) := by
    unfold V
    after_reads_simp
  funext y
  show V m c main_arg10 _ = m ((c : Thread nD τ).loc main_arg10) y
  rw [hV]
  refine congrArg (m ((c : Thread nD τ).loc main_arg10)) ?_
  funext a
  exact Fin.ext (by show 0 * _ + 1 * (y a).val = (y a).val; omega)

theorem iblk11 : iblk m c 11 pt = fun i => FloatOps.ofBits (F := Ideal) .f32 (lit0 (S64.rowMajor i)) := by
  have hV : V m c main_cst = fun i => FloatOps.ofBits (F := Ideal) .f32 (lit0 (S64.rowMajor i)) := by
    unfold V
    after_reads_simp
    rfl
  funext y
  show V m c main_cst _ = _
  rw [hV]
  refine congrArg (fun i => FloatOps.ofBits (F := Ideal) .f32 (lit0 (S64.rowMajor i))) ?_
  funext a
  exact Fin.ext (by show 0 * _ + 1 * (y a).val = (y a).val; omega)

theorem arr12 : (dats m 0 c).arrAt 12 cfg0.N = Cert.ReferenceIdeal.Gen.out0_12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (fun i => FloatOps.ofBits (F := Ideal) .f32 (lit0 (S64.rowMajor i))) := by
  have h := (Value.blocks12 m c pt (by decide)).trans (Value.flushed12 m c pt)
  rw [iblk0, iblk1, iblk2, iblk3, iblk4, iblk5, iblk6, iblk7, iblk8, iblk9, iblk10, iblk11] at h
  revert h
  generalize (dats m 0 c).arrAt 12 cfg0.N = A
  intro h
  funext y
  have hy := congrFun h y
  refine Eq.trans ?_ (hy.trans ?_)
  · show A y = A (((cfg0.win 12).blk pt).view.emb y)
    refine congrArg A ?_
    funext a
    exact Fin.ext (by show (y a).val = 0 * _ + 1 * (y a).val; omega)
  · rfl

theorem arr13 : (dats m 0 c).arrAt 13 cfg0.N = Cert.ReferenceIdeal.Gen.out0_13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (fun i => FloatOps.ofBits (F := Ideal) .f32 (lit0 (S64.rowMajor i))) := by
  have h := (Value.blocks13 m c pt (by decide)).trans (Value.flushed13 m c pt)
  rw [iblk0, iblk1, iblk2, iblk3, iblk4, iblk5, iblk6, iblk7, iblk8, iblk9, iblk10, iblk11] at h
  revert h
  generalize (dats m 0 c).arrAt 13 cfg0.N = A
  intro h
  funext y
  have hy := congrFun h y
  refine Eq.trans ?_ (hy.trans ?_)
  · show A y = A (((cfg0.win 13).blk pt).view.emb y)
    refine congrArg A ?_
    funext a
    exact Fin.ext (by show (y a).val = 0 * S10240x128.size a + 1 * (y a).val; omega)
  · rfl

theorem arr14 : (dats m 0 c).arrAt 14 cfg0.N = Cert.ReferenceIdeal.Gen.out0_14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (fun i => FloatOps.ofBits (F := Ideal) .f32 (lit0 (S64.rowMajor i))) := by
  have h := (Value.blocks14 m c pt (by decide)).trans (Value.flushed14 m c pt)
  rw [iblk0, iblk1, iblk2, iblk3, iblk4, iblk5, iblk6, iblk7, iblk8, iblk9, iblk10, iblk11] at h
  revert h
  generalize (dats m 0 c).arrAt 14 cfg0.N = A
  intro h
  funext y
  have hy := congrFun h y
  refine Eq.trans ?_ (hy.trans ?_)
  · show A y = A (((cfg0.win 14).blk pt).view.emb y)
    refine congrArg A ?_
    funext a
    exact Fin.ext (by show (y a).val = 0 * _ + 1 * (y a).val; omega)
  · rfl

theorem arr15 : (dats m 0 c).arrAt 15 cfg0.N = Cert.ReferenceIdeal.Gen.out0_15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (fun i => FloatOps.ofBits (F := Ideal) .f32 (lit0 (S64.rowMajor i))) := by
  have h := (Value.blocks15 m c pt (by decide)).trans (Value.flushed15 m c pt)
  rw [iblk0, iblk1, iblk2, iblk3, iblk4, iblk5, iblk6, iblk7, iblk8, iblk9, iblk10, iblk11] at h
  revert h
  generalize (dats m 0 c).arrAt 15 cfg0.N = A
  intro h
  funext y
  have hy := congrFun h y
  refine Eq.trans ?_ (hy.trans ?_)
  · show A y = A (((cfg0.win 15).blk pt).view.emb y)
    refine congrArg A ?_
    funext a
    exact Fin.ext (by show (y a).val = 0 * _ + 1 * (y a).val; omega)
  · rfl

end Cert.ReferenceIdeal.Rows
end
-- ==== Proof.lean ====
module

public import proofs.«01_k».proof.Defs
public import proofs.«01_k».proof.Proof.KernelFrame
public import proofs.«01_k».proof.Proof.IdealFrame
public import proofs.«01_k».proof.Proof.Results
public import proofs.«01_k».proof.Proof.RefArr
public import Idealize.ShloMosaic.Adequacy
public import Idealize.ShloMosaic.Init

/-! # The certificate -/

@[expose] public section

set_option maxRecDepth 8192

noncomputable section

namespace Cert.Proof

open Idealize.ShloMosaic Idealize.SL.Sem Idealize.ShloMosaic.TcCoe

section
attribute [local instance] Cert.Pre_scales_and_gains.facts

/-- A function of the arguments, at equal arguments. -/
theorem args_congr {α0 α1 α2 α3 α4 α5 α6 α7 α8 α9 α10 α β : Type} (f : α0 → α1 → α2 → α3 → α4 → α5 → α6 → α7 → α8 → α9 → α10 → α → β) {x0 y0 : α0} (h0 : x0 = y0) {x1 y1 : α1} (h1 : x1 = y1) {x2 y2 : α2} (h2 : x2 = y2) {x3 y3 : α3} (h3 : x3 = y3) {x4 y4 : α4} (h4 : x4 = y4) {x5 y5 : α5} (h5 : x5 = y5) {x6 y6 : α6} (h6 : x6 = y6) {x7 y7 : α7} (h7 : x7 = y7) {x8 y8 : α8} (h8 : x8 = y8) {x9 y9 : α9} (h9 : x9 = y9) {x10 y10 : α10} (h10 : x10 = y10) (z : α) :
    f x0 x1 x2 x3 x4 x5 x6 x7 x8 x9 x10 z = f y0 y1 y2 y3 y4 y5 y6 y7 y8 y9 y10 z := by
  subst h0 h1 h2 h3 h4 h5 h6 h7 h8 h9 h10
  rfl

/-- The program's results are the reference's, on every input the precondition admits. -/
theorem algebraic : Cert.algebraic_KernelIdeal_ReferenceIdeal_pre_scales_and_gains (hKernelIdeal := Cert.KernelIdeal.Gen.facts)
    (hReferenceIdeal := Cert.ReferenceIdeal.Gen.facts) (hPre_scales_and_gains := Cert.Pre_scales_and_gains.facts) := by
  intro m g m' g' hpre hargs
  have H : ∀ c : Dev Cert.KernelIdeal.nD, Cert.KernelIdeal.Gen.Group.Good m c := fun c =>
    Cert.Pre_scales_and_gains.admitted _ _ _ _ _ _ _ _ _ _ _ (hpre c)
  refine ⟨fun c => Cert.KernelIdeal.Value.G12 m c, fun c => Cert.KernelIdeal.Value.G13 m c, fun c => Cert.KernelIdeal.Value.G14 m c,
    fun c => Cert.KernelIdeal.Value.G15 m c, Cert.KernelIdeal.Value.run m g, ?_⟩
  refine θ_run_mono (Cert.ReferenceIdeal.Value.run_blocks m' g') fun r hr c => ?_
  obtain ⟨r0, r1, r2, r3, rest⟩ := hr c
  obtain ⟨a0, a1, a2, a3, a4, a5, a6, a7, a8, a9, a10⟩ := hargs c
  refine ⟨r0.trans ?_, r1.trans ?_, r2.trans ?_, r3.trans ?_, rest⟩
  · exact (Cert.ReferenceIdeal.Rows.arr12 m' c).trans ((args_congr (Cert.ReferenceIdeal.Gen.out0_12 (F := Ideal)) a0 a1 a2 a3 a4 a5 a6 a7 a8 a9 a10 _).trans (Cert.KernelIdeal.Gen.Group.agree0 (H c)).symm)
  · exact (Cert.ReferenceIdeal.Rows.arr13 m' c).trans ((args_congr (Cert.ReferenceIdeal.Gen.out0_13 (F := Ideal)) a0 a1 a2 a3 a4 a5 a6 a7 a8 a9 a10 _).trans (Cert.KernelIdeal.Gen.Group.agree1 (H c)).symm)
  · exact (Cert.ReferenceIdeal.Rows.arr14 m' c).trans ((args_congr (Cert.ReferenceIdeal.Gen.out0_14 (F := Ideal)) a0 a1 a2 a3 a4 a5 a6 a7 a8 a9 a10 _).trans (Cert.KernelIdeal.Gen.Group.agree2 (H c)).symm)
  · exact (Cert.ReferenceIdeal.Rows.arr15 m' c).trans ((args_congr (Cert.ReferenceIdeal.Gen.out0_15 (F := Ideal)) a0 a1 a2 a3 a4 a5 a6 a7 a8 a9 a10 _).trans (Cert.KernelIdeal.Gen.Group.agree3 (H c)).symm)
end

theorem claim : Cert.Claim :=
  ⟨Cert.Kernel.Gen.facts, Cert.KernelIdeal.Gen.facts, Cert.ReferenceIdeal.Gen.facts, Cert.Pre_scales_and_gains.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
